-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v9_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)) (v6 : (c : Dev Cert.Kernel2Ideal.nD) → Buf (Elt Ideal) ((c.tc : Thread Cert.Kernel2Ideal.nD Cert.Kernel2Ideal.τ).loc Cert.Kernel2Ideal.main_v12_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_v12_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_v102) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_v100) = v5 c
          ∧ r.2.mem ((c.tc : Thread Cert.Reference2Ideal.nD Cert.Reference2Ideal.τ).loc Cert.Reference2Ideal.main_v54) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
-- ==== Pre_finite.lean ====
abbrev S2x16384x1024 : Shape := ⟨3, ![2, 16384, 1024]⟩
abbrev S2x16384x8 : Shape := ⟨3, ![2, 16384, 8]⟩
abbrev S2x8x128x128 : Shape := ⟨4, ![2, 8, 128, 128]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x16384x8 : S_.BroadcastsInDim S2x16384x8 (![] : Fin 0 → Fin S2x16384x8.rank)
  reducesTo_S2x16384x8_S_d0_1_2 : S2x16384x8.ReducesTo [0, 1, 2] S_
  bcast_S_S2x8x128x128 : S_.BroadcastsInDim S2x8x128x128 (![] : Fin 0 → Fin S2x8x128x128.rank)
  reducesTo_S2x8x128x128_S_d0_1_2_3 : S2x8x128x128.ReducesTo [0, 1, 2, 3] S_

variable [Facts]

def fn_part2 {F : FTy → Type} [FloatOps F] (main_arg5 : FVec F S2x8x128x128 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S2x8x128x128 .f32 := broadcastInDim S2x8x128x128 ![] bcast_S_S2x8x128x128 main_cst_13
  let main_v35 : IVec S2x8x128x128 1 := cmpf .olt main_arg5 main_v34
  let main_cst_14 : FVec F S_ .f32 := constant S_ .f32 0xFF800000#32
  let main_v36 : FVec F S2x8x128x128 .f32 := broadcastInDim S2x8x128x128 ![] bcast_S_S2x8x128x128 main_cst_14
  let main_v37 : IVec S2x8x128x128 1 := cmpf .ogt main_arg5 main_v36
  let main_v38 : IVec S2x8x128x128 1 := andi main_v35 main_v37
  let main_c_15 : IVec S_ 1 := constantI S_ 1 1#1
  let main_v39 : IVec S_ 1 := (fun x v => Host.reduce IntOp.andi x v reducesTo_S2x8x128x128_S_d0_1_2_3 h_S_) main_v38 main_c_15
  let main_v40 : IVec S_ 1 := andi main_v33 main_v39
  main_v40

def fn_part1 {F : FTy → Type} [FloatOps F] (main_arg2 : FVec F S2x16384x1024 .f32) (main_arg3 : FVec F S2x16384x8 .f32) (main_arg4 : FVec F S2x16384x8 .f32) (main_arg5 : FVec F S2x8x128x128 .f32) (main_v12 : IVec S_ 1) (main_v14 : IVec S2x16384x1024 1) (main_v15 : FVec F S2x16384x1024 .f32) : IVec S_ 1 :=
  let main_v16 : IVec S2x16384x1024 1 := cmpf .ogt main_arg2 main_v15
  let main_v17 : IVec S2x16384x1024 1 := andi main_v14 main_v16
  let main_c_6 : IVec S_ 1 := constantI S_ 1 1#1
  let main_v18 : IVec S_ 1 := (fun x v => Host.reduce IntOp.andi x v reducesTo_S2x16384x1024_S_d0_1_2 h_S_) main_v17 main_c_6
  let main_v19 : IVec S_ 1 := andi main_v12 main_v18
  let main_cst_7 : FVec F S_ .f32 := constant S_ .f32 0x7F800000#32
  let main_v20 : FVec F S2x16384x8 .f32 := broadcastInDim S2x16384x8 ![] bcast_S_S2x16384x8 main_cst_7
  let main_v21 : IVec S2x16384x8 1 := cmpf .olt main_arg3 main_v20
  let main_cst_8 : FVec F S_ .f32 := constant S_ .f32 0xFF800000#32
  let main_v22 : FVec F S2x16384x8 .f32 := broadcastInDim S2x16384x8 ![] bcast_S_S2x16384x8 main_cst_8
  let main_v23 : IVec S2x16384x8 1 := cmpf .ogt main_arg3 main_v22
  let main_v24 : IVec S2x16384x8 1 := andi main_v21 main_v23
  let main_c_9 : IVec S_ 1 := constantI S_ 1 1#1
  let main_v25 : IVec S_ 1 := (fun x v => Host.reduce IntOp.andi x v reducesTo_S2x16384x8_S_d0_1_2 h_S_) main_v24 main_c_9
  let main_v26 : IVec S_ 1 := andi main_v19 main_v25
  let main_cst_10 : FVec F S_ .f32 := constant S_ .f32 0x7F800000#32
  let main_v27 : FVec F S2x16384x8 .f32 := broadcastInDim S2x16384x8 ![] bcast_S_S2x16384x8 main_cst_10
  let main_v28 : IVec S2x16384x8 1 := cmpf .olt main_arg4 main_v27
  let main_cst_11 : FVec F S_ .f32 := constant S_ .f32 0xFF800000#32
  let main_v29 : FVec F S2x16384x8 .f32 := broadcastInDim S2x16384x8 ![] bcast_S_S2x16384x8 main_cst_11
  let main_v30 : IVec S2x16384x8 1 := cmpf .ogt main_arg4 main_v29
  let main_v31 : IVec S2x16384x8 1 := andi main_v28 main_v30
  let main_c_12 : IVec S_ 1 := constantI S_ 1 1#1
  let main_v32 : IVec S_ 1 := (fun x v => Host.reduce IntOp.andi x v reducesTo_S2x16384x8_S_d0_1_2 h_S_) main_v31 main_c_12
  fn_part2 (F := F) main_arg5 main_v26 main_v32

def fn {F : FTy → Type} [FloatOps F] (main_arg0 : FVec F S2x16384x1024 .f32) (main_arg1 : FVec F S2x16384x1024 .f32) (main_arg2 : FVec F S2x16384x1024 .f32) (main_arg3 : FVec F S2x16384x8 .f32) (main_arg4 : FVec F S2x16384x8 .f32) (main_arg5 : FVec F S2x8x128x128 .f32) : IVec S_ 1 :=
  let main_cst : FVec F S_ .f32 := constant S_ .f32 0x7F800000#32
  let main_v0 : FVec F S2x16384x1024 .f32 := broadcastInDim S2x16384x1024 ![] bcast_S_S2x16384x1024 main_cst
  let main_v1 : IVec S2x16384x1024 1 := cmpf .olt main_arg0 main_v0
  let main_cst_0 : FVec F S_ .f32 := constant S_ .f32 0xFF800000#32
  let main_v2 : FVec F S2x16384x1024 .f32 := broadcastInDim S2x16384x1024 ![] bcast_S_S2x16384x1024 main_cst_0
  let main_v3 : IVec S2x16384x1024 1 := cmpf .ogt main_arg0 main_v2
  let main_v4 : IVec S2x16384x1024 1 := andi main_v1 main_v3
  let main_c : IVec S_ 1 := constantI S_ 1 1#1
  let main_v5 : IVec S_ 1 := (fun x v => Host.reduce IntOp.andi x v reducesTo_S2x16384x1024_S_d0_1_2 h_S_) main_v4 main_c
  let main_cst_1 : FVec F S_ .f32 := constant S_ .f32 0x7F800000#32
  let main_v6 : FVec F S2x16384x1024 .f32 := broadcastInDim S2x16384x1024 ![] bcast_S_S2x16384x1024 main_cst_1
  let main_v7 : IVec S2x16384x1024 1 := cmpf .olt main_arg1 main_v6
  let main_cst_2 : FVec F S_ .f32 := constant S_ .f32 0xFF800000#32
  let main_v8 : FVec F S2x16384x1024 .f32 := broadcastInDim S2x16384x1024 ![] bcast_S_S2x16384x1024 main_cst_2
  let main_v9 : IVec S2x16384x1024 1 := cmpf .ogt main_arg1 main_v8
  let main_v10 : IVec S2x16384x1024 1 := andi main_v7 main_v9
  let main_c_3 : IVec S_ 1 := constantI S_ 1 1#1
  let main_v11 : IVec S_ 1 := (fun x v => Host.reduce IntOp.andi x v reducesTo_S2x16384x1024_S_d0_1_2 h_S_) main_v10 main_c_3
  let main_v12 : IVec S_ 1 := andi main_v5 main_v11
  let main_cst_4 : FVec F S_ .f32 := constant S_ .f32 0x7F800000#32
  let main_v13 : FVec F S2x16384x1024 .f32 := broadcastInDim S2x16384x1024 ![] bcast_S_S2x16384x1024 main_cst_4
  let main_v14 : IVec S2x16384x1024 1 := cmpf .olt main_arg2 main_v13
  let main_cst_5 : FVec F S_ .f32 := constant S_ .f32 0xFF800000#32
  let main_v15 : FVec F S2x16384x1024 .f32 := broadcastInDim S2x16384x1024 ![] bcast_S_S2x16384x1024 main_cst_5
  fn_part1 (F := F) main_arg2 main_arg3 main_arg4 main_arg5 main_v12 main_v14 main_v15
-- ==== Pre_finite2.lean ====
abbrev S2x16384x1024 : Shape := ⟨3, ![2, 16384, 1024]⟩
abbrev S2x6x1024 : Shape := ⟨3, ![2, 6, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S2x3x3072 : Shape := ⟨3, ![2, 3, 3072]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x6x1024 : S_.BroadcastsInDim S2x6x1024 (![] : Fin 0 → Fin S2x6x1024.rank)
  reducesTo_S2x6x1024_S_d0_1_2 : S2x6x1024.ReducesTo [0, 1, 2] S_
  bcast_S_S1024 : S_.BroadcastsInDim S1024 (![] : Fin 0 → Fin S1024.rank)
  reducesTo_S1024_S_d0 : S1024.ReducesTo [0] S_
  bcast_S_S1024x4112 : S_.BroadcastsInDim S1024x4112 (![] : Fin 0 → Fin S1024x4112.rank)
  reducesTo_S1024x4112_S_d0_1 : S1024x4112.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg6 : FVec F S8 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8 .f32 := broadcastInDim S8 ![] bcast_S_S8 main_cst_13
  let main_v35 : IVec S8 1 := cmpf .olt main_arg6 main_v34
  let main_cst_14 : FVec F S_ .f32 := constant S_ .f32 0xFF800000#32
  let main_v36 : FVec F S8 .f32 := broadcastInDim S8 ![] bcast_S_S8 main_cst_14
  let main_v37 : IVec S8 1 := cmpf .ogt main_arg6 main_v36
  let main_v38 : IVec S8 1 := andi main_v35 main_v37
  let main_c_15 : IVec S_ 1 := constantI S_ 1 1#1
  let main_v39 : IVec S_ 1 := (fun x v => Host.reduce IntOp.andi x v reducesTo_S8_S_d0 h_S_) main_v38 main_c_15
  let main_v40 : IVec S_ 1 := andi main_v33 main_v39
  main_v40

def fn_part1 {F : FTy → Type} [FloatOps F] (main_arg2 : FVec F S1024 .f32) (main_arg3 : FVec F S1024x4112 .f32) (main_arg5 : FVec F S8 .f32) (main_arg6 : FVec F S8 .f32) (main_v12 : IVec S_ 1) (main_v14 : IVec S1024 1) (main_v15 : FVec F S1024 .f32) : IVec S_ 1 :=
  let main_v16 : IVec S1024 1 := cmpf .ogt main_arg2 main_v15
  let main_v17 : IVec S1024 1 := andi main_v14 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v12 main_v18
  let main_cst_7 : FVec F S_ .f32 := constant S_ .f32 0x7F800000#32
  let main_v20 : FVec F S1024x4112 .f32 := broadcastInDim S1024x4112 ![] bcast_S_S1024x4112 main_cst_7
  let main_v21 : IVec S1024x4112 1 := cmpf .olt main_arg3 main_v20
  let main_cst_8 : FVec F S_ .f32 := constant S_ .f32 0xFF800000#32
  let main_v22 : FVec F S1024x4112 .f32 := broadcastInDim S1024x4112 ![] bcast_S_S1024x4112 main_cst_8
  let main_v23 : IVec S1024x4112 1 := cmpf .ogt main_arg3 main_v22
  let main_v24 : IVec S1024x4112 1 := andi main_v21 main_v23
  let main_c_9 : IVec S_ 1 := constantI S_ 1 1#1
  let main_v25 : IVec S_ 1 := (fun x v => Host.reduce IntOp.andi x v reducesTo_S1024x4112_S_d0_1 h_S_) main_v24 main_c_9
  let main_v26 : IVec S_ 1 := andi main_v19 main_v25
  let main_cst_10 : FVec F S_ .f32 := constant S_ .f32 0x7F800000#32
  let main_v27 : FVec F S8 .f32 := broadcastInDim S8 ![] bcast_S_S8 main_cst_10
  let main_v28 : IVec S8 1 := cmpf .olt main_arg5 main_v27
  let main_cst_11 : FVec F S_ .f32 := constant S_ .f32 0xFF800000#32
  let main_v29 : FVec F S8 .f32 := broadcastInDim S8 ![] bcast_S_S8 main_cst_11
  let main_v30 : IVec S8 1 := cmpf .ogt main_arg5 main_v29
  let main_v31 : IVec S8 1 := andi main_v28 main_v30
  let main_c_12 : IVec S_ 1 := constantI S_ 1 1#1
  let main_v32 : IVec S_ 1 := (fun x v => Host.reduce IntOp.andi x v reducesTo_S8_S_d0 h_S_) main_v31 main_c_12
  fn_part2 (F := F) main_arg6 main_v26 main_v32

def fn {F : FTy → Type} [FloatOps F] (main_arg0 : FVec F S2x16384x1024 .f32) (main_arg1 : FVec F S2x6x1024 .f32) (main_arg2 : FVec F S1024 .f32) (main_arg3 : FVec F S1024x4112 .f32) (main_arg4 : FVec F S4x3072 .f32) (main_arg5 : FVec F S8 .f32) (main_arg6 : FVec F S8 .f32) (main_arg7 : FVec F S2x3x3072 .f32) : IVec S_ 1 :=
  let main_cst : FVec F S_ .f32 := constant S_ .f32 0x7F800000#32
  let main_v0 : FVec F S2x16384x1024 .f32 := broadcastInDim S2x16384x1024 ![] bcast_S_S2x16384x1024 main_cst
  let main_v1 : IVec S2x16384x1024 1 := cmpf .olt main_arg0 main_v0
  let main_cst_0 : FVec F S_ .f32 := constant S_ .f32 0xFF800000#32
  let main_v2 : FVec F S2x16384x1024 .f32 := broadcastInDim S2x16384x1024 ![] bcast_S_S2x16384x1024 main_cst_0
  let main_v3 : IVec S2x16384x1024 1 := cmpf .ogt main_arg0 main_v2
  let main_v4 : IVec S2x16384x1024 1 := andi main_v1 main_v3
  let main_c : IVec S_ 1 := constantI S_ 1 1#1
  let main_v5 : IVec S_ 1 := (fun x v => Host.reduce IntOp.andi x v reducesTo_S2x16384x1024_S_d0_1_2 h_S_) main_v4 main_c
  let main_cst_1 : FVec F S_ .f32 := constant S_ .f32 0x7F800000#32
  let main_v6 : FVec F S2x6x1024 .f32 := broadcastInDim S2x6x1024 ![] bcast_S_S2x6x1024 main_cst_1
  let main_v7 : IVec S2x6x1024 1 := cmpf .olt main_arg1 main_v6
  let main_cst_2 : FVec F S_ .f32 := constant S_ .f32 0xFF800000#32
  let main_v8 : FVec F S2x6x1024 .f32 := broadcastInDim S2x6x1024 ![] bcast_S_S2x6x1024 main_cst_2
  let main_v9 : IVec S2x6x1024 1 := cmpf .ogt main_arg1 main_v8
  let main_v10 : IVec S2x6x1024 1 := andi main_v7 main_v9
  let main_c_3 : IVec S_ 1 := constantI S_ 1 1#1
  let main_v11 : IVec S_ 1 := (fun x v => Host.reduce IntOp.andi x v reducesTo_S2x6x1024_S_d0_1_2 h_S_) main_v10 main_c_3
  let main_v12 : IVec S_ 1 := andi main_v5 main_v11
  let main_cst_4 : FVec F S_ .f32 := constant S_ .f32 0x7F800000#32
  let main_v13 : FVec F S1024 .f32 := broadcastInDim S1024 ![] bcast_S_S1024 main_cst_4
  let main_v14 : IVec S1024 1 := cmpf .olt main_arg2 main_v13
  let main_cst_5 : FVec F S_ .f32 := constant S_ .f32 0xFF800000#32
  let main_v15 : FVec F S1024 .f32 := broadcastInDim S1024 ![] bcast_S_S1024 main_cst_5
  fn_part1 (F := F) main_arg2 main_arg3 main_arg5 main_arg6 main_v12 main_v14 main_v15
-- ==== Pre_routed.lean ====
abbrev S69632x1024 : Shape := ⟨2, ![69632, 1024]⟩
abbrev S544 : Shape := ⟨1, ![544]⟩
abbrev S32x1024x512 : Shape := ⟨3, ![32, 1024, 512]⟩
abbrev S32x512x1024 : Shape := ⟨3, ![32, 512, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : FVec F S69632x1024 .f32) (main_arg1 : IVec S544 32) (main_arg2 : FVec F S32x1024x512 .f32) (main_arg3 : FVec F S32x1024x512 .f32) (main_arg4 : FVec F S32x512x1024 .f32) : IVec S_ 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Kernel.lean ====
abbrev S2x16384x1024 : Shape := ⟨3, ![2, 16384, 1024]⟩
abbrev S2x16384x8 : Shape := ⟨3, ![2, 16384, 8]⟩
abbrev S2x8x128x128 : Shape := ⟨4, ![2, 8, 128, 128]⟩
abbrev S2x256x64x64x8 : Shape := ⟨5, ![2, 256, 64, 64, 8]⟩
abbrev S2x256x1x64x8 : Shape := ⟨5, ![2, 256, 1, 64, 8]⟩
abbrev S_ : Shape := ⟨0, ![]⟩
abbrev S2x256x64x8 : Shape := ⟨4, ![2, 256, 64, 8]⟩
abbrev S2x16384x16 : Shape := ⟨3, ![2, 16384, 16]⟩
abbrev S2x16384x128 : Shape := ⟨3, ![2, 16384, 128]⟩
abbrev S2x256x64x16 : Shape := ⟨4, ![2, 256, 64, 16]⟩
abbrev S2x256x16x64 : Shape := ⟨4, ![2, 256, 16, 64]⟩
abbrev S1x256x1024 : Shape := ⟨3, ![1, 256, 1024]⟩
abbrev S1x256x128 : Shape := ⟨3, ![1, 256, 128]⟩
abbrev S1x4x16x64 : Shape := ⟨4, ![1, 4, 16, 64]⟩
abbrev S1x8x128x128 : Shape := ⟨4, ![1, 8, 128, 128]⟩
abbrev S8x128x128 : Shape := ⟨3, ![8, 128, 128]⟩
abbrev S64x128 : Shape := ⟨2, ![64, 128]⟩
abbrev S1x64x128 : Shape := ⟨3, ![1, 64, 128]⟩
abbrev S1x1x16x64 : Shape := ⟨4, ![1, 1, 16, 64]⟩
abbrev S16x64 : Shape := ⟨2, ![16, 64]⟩
abbrev S64x1 : Shape := ⟨2, ![64, 1]⟩
abbrev S128x128 : Shape := ⟨2, ![128, 128]⟩
abbrev S128x64 : Shape := ⟨2, ![128, 64]⟩
abbrev S1x64 : Shape := ⟨2, ![1, 64]⟩
abbrev S1x128 : Shape := ⟨2, ![1, 128]⟩
abbrev S128x256 : Shape := ⟨2, ![128, 256]⟩
abbrev S64x256 : Shape := ⟨2, ![64, 256]⟩
abbrev S64x512 : Shape := ⟨2, ![64, 512]⟩
abbrev S128x512 : Shape := ⟨2, ![128, 512]⟩
abbrev S1x128x128 : Shape := ⟨3, ![1, 128, 128]⟩
abbrev S1x1 : Shape := ⟨2, ![1, 1]⟩

abbrev nBuf : Space → Nat
  | .hbm => 25
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x8, .f32⟩
  | .hbm, ⟨4, _⟩ => ⟨S2x16384x8, .f32⟩
  | .hbm, ⟨5, _⟩ => ⟨S2x8x128x128, .f32⟩
  | .hbm, ⟨6, _⟩ => ⟨S2x256x64x64x8, .i32⟩
  | .hbm, ⟨7, _⟩ => ⟨S2x256x64x64x8, .i32⟩
  | .hbm, ⟨8, _⟩ => ⟨S2x256x1x64x8, .f32⟩
  | .hbm, ⟨9, _⟩ => ⟨S2x256x64x64x8, .f32⟩
  | .hbm, ⟨10, _⟩ => ⟨S2x256x64x64x8, .i1⟩
  | .hbm, ⟨11, _⟩ => ⟨S_, .f32⟩
  | .hbm, ⟨12, _⟩ => ⟨S2x256x64x64x8, .f32⟩
  | .hbm, ⟨13, _⟩ => ⟨S2x256x64x64x8, .f32⟩
  | .hbm, ⟨14, _⟩ => ⟨S_, .f32⟩
  | .hbm, ⟨15, _⟩ => ⟨S2x256x64x8, .f32⟩
  | .hbm, ⟨16, _⟩ => ⟨S2x16384x8, .f32⟩
  | .hbm, ⟨17, _⟩ => ⟨S2x16384x16, .f32⟩
  | .hbm, ⟨18, _⟩ => ⟨S_, .i32⟩
  | .hbm, ⟨19, _⟩ => ⟨S_, .f32⟩
  | .hbm, ⟨20, _⟩ => ⟨S2x16384x128, .f32⟩
  | .hbm, ⟨21, _⟩ => ⟨S2x256x64x16, .f32⟩
  | .hbm, ⟨22, _⟩ => ⟨S2x256x16x64, .f32⟩
  | .hbm, ⟨23, _⟩ => ⟨S2x16384x1024, .f32⟩
  | .hbm, ⟨24, _⟩ => ⟨S2x8x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x4x16x64, .f32⟩
  | .local _ .vmem, ⟨9, _⟩ => ⟨S1x4x16x64, .f32⟩
  | .local _ .vmem, ⟨10, _⟩ => ⟨S1x8x128x128, .f32⟩
  | .local _ .vmem, ⟨11, _⟩ => ⟨S1x8x128x128, .f32⟩
  | .local _ .vmem, ⟨12, _⟩ => ⟨S1x256x1024, .f32⟩
  | .local _ .vmem, ⟨13, _⟩ => ⟨S1x256x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 64], ![false, false]⟩

def k0_mult1 : BitVec 32 :=
  let c0_i32_102 : BitVec 32 := 0#32
  let c4_i32 : BitVec 32 := 4#32
  let v348 : BitVec 32 := Scalar.muli c0_i32_102 c4_i32
  let c0_i32_103 : BitVec 32 := 0#32
  let v349 : BitVec 32 := Scalar.addi v348 c0_i32_103
  let c64_i32_104 : BitVec 32 := 64#32
  let v350 : BitVec 32 := Scalar.muli v349 c64_i32_104
  v350
def k0_mult2 : BitVec 32 :=
  let c0_i32_102 : BitVec 32 := 0#32
  let c4_i32_105 : BitVec 32 := 4#32
  let v352 : BitVec 32 := Scalar.muli c0_i32_102 c4_i32_105
  let c1_i32_106 : BitVec 32 := 1#32
  let v353 : BitVec 32 := Scalar.addi v352 c1_i32_106
  let c64_i32_107 : BitVec 32 := 64#32
  let v354 : BitVec 32 := Scalar.muli v353 c64_i32_107
  v354
def k0_mult3 : BitVec 32 :=
  let c0_i32_102 : BitVec 32 := 0#32
  let c4_i32_108 : BitVec 32 := 4#32
  let v356 : BitVec 32 := Scalar.muli c0_i32_102 c4_i32_108
  let c2_i32_109 : BitVec 32 := 2#32
  let v357 : BitVec 32 := Scalar.addi v356 c2_i32_109
  let c64_i32_110 : BitVec 32 := 64#32
  let v358 : BitVec 32 := Scalar.muli v357 c64_i32_110
  v358
def k0_mult4 : BitVec 32 :=
  let c0_i32_102 : BitVec 32 := 0#32
  let c4_i32_111 : BitVec 32 := 4#32
  let v360 : BitVec 32 := Scalar.muli c0_i32_102 c4_i32_111
  let c3_i32 : BitVec 32 := 3#32
  let v361 : BitVec 32 := Scalar.addi v360 c3_i32
  let c64_i32_112 : BitVec 32 := 64#32
  let v362 : BitVec 32 := Scalar.muli v361 c64_i32_112
  v362
def k0_off1 (c0_i32_103 : BitVec 32) : Fin 3 → Nat :=
  let c0 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v364 : Index := Scalar.indexCast v351
  let c0_113 : Index := 0#32
  ![0, v364.toNat, 0]
def k0_off2 (c0_i32_121 : BitVec 32) : Fin 4 → Nat :=
  let c0_122 : Index := 0#32
  let c0_i32_102 : BitVec 32 := 0#32
  let c4_i32_120 : BitVec 32 := 4#32
  let v376 : BitVec 32 := Scalar.muli c0_i32_102 c4_i32_120
  let v377 : BitVec 32 := Scalar.addi v376 c0_i32_121
  let v378 : Index := Scalar.indexCast v377
  let c0_123 : Index := 0#32
  let c0_124 : Index := 0#32
  ![0, v378.toNat, 0, 0]
def k0_off3 (c0_i32_103 : BitVec 32) : Fin 3 → Nat :=
  let c0_140 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v396 : Index := Scalar.indexCast v351
  let c0_141 : Index := 0#32
  ![0, v396.toNat, 0]
def k0_off4 (c0_i32_103 : BitVec 32) : Fin 3 → Nat :=
  let c0_142 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v399 : Index := Scalar.indexCast v351
  let c128 : Index := 128#32
  ![0, v399.toNat, 128]
def k0_off5 (c0_i32_103 : BitVec 32) : Fin 3 → Nat :=
  let c0_143 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v402 : Index := Scalar.indexCast v351
  let c256 : Index := 256#32
  ![0, v402.toNat, 256]
def k0_off6 (c0_i32_103 : BitVec 32) : Fin 3 → Nat :=
  let c0_144 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v405 : Index := Scalar.indexCast v351
  let c384 : Index := 384#32
  ![0, v405.toNat, 384]
def k0_off7 (c0_i32_103 : BitVec 32) : Fin 3 → Nat :=
  let c0_145 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v408 : Index := Scalar.indexCast v351
  let c512 : Index := 512#32
  ![0, v408.toNat, 512]
def k0_off8 (c0_i32_103 : BitVec 32) : Fin 3 → Nat :=
  let c0_146 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v411 : Index := Scalar.indexCast v351
  let c640 : Index := 640#32
  ![0, v411.toNat, 640]
def k0_off9 (c0_i32_103 : BitVec 32) : Fin 3 → Nat :=
  let c0_147 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v414 : Index := Scalar.indexCast v351
  let c768 : Index := 768#32
  ![0, v414.toNat, 768]
def k0_off10 (c0_i32_103 : BitVec 32) : Fin 3 → Nat :=
  let c0_148 : Index := 0#32
  let c0_i32_102 : BitVec 32 := 0#32
  let c4_i32 : BitVec 32 := 4#32
  let v348 : BitVec 32 := Scalar.muli c0_i32_102 c4_i32
  let v349 : BitVec 32 := Scalar.addi v348 c0_i32_103
  let c64_i32_104 : BitVec 32 := 64#32
  let v350 : BitVec 32 := Scalar.muli v349 c64_i32_104
  let v351 : BitVec 32 := v350
  let v417 : Index := Scalar.indexCast v351
  let c896 : Index := 896#32
  ![0, v417.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x16384x1024 : Shape := ⟨3, ![2, 16384, 1024]⟩
abbrev S2x16384x8 : Shape := ⟨3, ![2, 16384, 8]⟩
abbrev S2x8x128x128 : Shape := ⟨4, ![2, 8, 128, 128]⟩
abbrev S2x16384x8x128 : Shape := ⟨4, ![2, 16384, 8, 128]⟩
abbrev S16384x2x8x128 : Shape := ⟨4, ![16384, 2, 8, 128]⟩
abbrev S16384x2x8 : Shape := ⟨3, ![16384, 2, 8]⟩
abbrev S_ : Shape := ⟨0, ![]⟩
abbrev S1x2x8x128 : Shape := ⟨4, ![1, 2, 8, 128]⟩
abbrev S2x8x128 : Shape := ⟨3, ![2, 8, 128]⟩
abbrev S1x2x8 : Shape := ⟨3, ![1, 2, 8]⟩
abbrev S2x8 : Shape := ⟨2, ![2, 8]⟩
abbrev S2x8x1x1 : Shape := ⟨4, ![2, 8, 1, 1]⟩
abbrev S2x8x1 : Shape := ⟨3, ![2, 8, 1]⟩
abbrev S2x8x128x1 : Shape := ⟨4, ![2, 8, 128, 1]⟩
abbrev S2x8x1x128 : Shape := ⟨4, ![2, 8, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x8, .f32⟩
  | .hbm, ⟨4, _⟩ => ⟨S2x16384x8, .f32⟩
  | .hbm, ⟨5, _⟩ => ⟨S2x8x128x128, .f32⟩
  | .hbm, ⟨6, _⟩ => ⟨S2x16384x8x128, .f32⟩
  | .hbm, ⟨7, _⟩ => ⟨S16384x2x8x128, .f32⟩
  | .hbm, ⟨8, _⟩ => ⟨S2x16384x8x128, .f32⟩
  | .hbm, ⟨9, _⟩ => ⟨S16384x2x8x128, .f32⟩
  | .hbm, ⟨10, _⟩ => ⟨S2x16384x8x128, .f32⟩
  | .hbm, ⟨11, _⟩ => ⟨S16384x2x8x128, .f32⟩
  | .hbm, ⟨12, _⟩ => ⟨S16384x2x8, .f32⟩
  | .hbm, ⟨13, _⟩ => ⟨S16384x2x8, .f32⟩
  | .hbm, ⟨14, _⟩ => ⟨S_, .f32⟩
  | .hbm, ⟨15, _⟩ => ⟨S16384x2x8x128, .f32⟩
  | .hbm, ⟨16, _⟩ => ⟨S_, .i32⟩
  | .hbm, ⟨17, _⟩ => ⟨S16384x2x8x128, .f32⟩
  | .hbm, ⟨18, _⟩ => ⟨S16384x2x8x128, .f32⟩
  | .hbm, ⟨19, _⟩ => ⟨S16384x2x8x128, .f32⟩
  | .hbm, ⟨20, _⟩ => ⟨S16384x2x8, .f32⟩
  | .hbm, ⟨21, _⟩ => ⟨S16384x2x8, .f32⟩
  | .hbm, ⟨22, _⟩ => ⟨S_, .i32⟩
  | .hbm, ⟨23, _⟩ => ⟨S2x8x128x128, .f32⟩
  | .hbm, ⟨24, _⟩ => ⟨S16384x2x8x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x2x8x128, .f32⟩
  | .hbm, ⟨31, _⟩ => ⟨S2x8x128, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x2x8x128, .f32⟩
  | .hbm, ⟨36, _⟩ => ⟨S2x8x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2x8x128, .f32⟩
  | .hbm, ⟨41, _⟩ => ⟨S2x8x128, .f32⟩
  | .hbm, ⟨42, _⟩ => ⟨S_, .i32⟩
  | .hbm, ⟨43, _⟩ => ⟨S_, .i32⟩
  | .hbm, ⟨44, _⟩ => ⟨S1x2x8, .f32⟩
  | .hbm, ⟨45, _⟩ => ⟨S2x8, .f32⟩
  | .hbm, ⟨46, _⟩ => ⟨S_, .i32⟩
  | .hbm, ⟨47, _⟩ => ⟨S_, .i32⟩
  | .hbm, ⟨48, _⟩ => ⟨S1x2x8, .f32⟩
  | .hbm, ⟨49, _⟩ => ⟨S2x8, .f32⟩
  | .hbm, ⟨50, _⟩ => ⟨S2x8, .f32⟩
  | .hbm, ⟨51, _⟩ => ⟨S2x8x1x1, .f32⟩
  | .hbm, ⟨52, _⟩ => ⟨S2x8x128x128, .f32⟩
  | .hbm, ⟨53, _⟩ => ⟨S2x8x128x128, .f32⟩
  | .hbm, ⟨54, _⟩ => ⟨S2x8x128, .f32⟩
  | .hbm, ⟨55, _⟩ => ⟨S2x8x128, .f32⟩
  | .hbm, ⟨56, _⟩ => ⟨S2x8x1, .f32⟩
  | .hbm, ⟨57, _⟩ => ⟨S2x8x128, .f32⟩
  | .hbm, ⟨58, _⟩ => ⟨S2x8x128, .f32⟩
  | .hbm, ⟨59, _⟩ => ⟨S2x8x128x1, .f32⟩
  | .hbm, ⟨60, _⟩ => ⟨S2x8x1x128, .f32⟩
  | .hbm, ⟨61, _⟩ => ⟨S2x8x128x128, .f32⟩
  | .hbm, ⟨62, _⟩ => ⟨S2x8x128x128, .f32⟩
  | .hbm, ⟨63, _⟩ => ⟨S2x8x128x128, .f32⟩
  | .hbm, ⟨64, _⟩ => ⟨S2x8x128x128, .f32⟩
  | .hbm, ⟨65, _⟩ => ⟨S2x8x128, .f32⟩
  | .hbm, ⟨66, _⟩ => ⟨S1x2x8x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S16384x2x8x128, .f32⟩
  | .hbm, ⟨71, _⟩ => ⟨S_, .i32⟩
  | .hbm, ⟨72, _⟩ => ⟨S_, .i32⟩
  | .hbm, ⟨73, _⟩ => ⟨S2x16384x8x128, .f32⟩
  | .hbm, ⟨74, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_while0c_c_7 : Ref sig .tc := ⟨.hbm, 25, rfl⟩
abbrev main_while0c_v12 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v12 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_v0 : Ref sig .tc := ⟨.hbm, 35, rfl⟩
abbrev main_while0b_v13 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_v0 : Ref sig .tc := ⟨.hbm, 40, rfl⟩
abbrev main_while0b_v14 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_v0 : Ref sig .tc := ⟨.hbm, 44, rfl⟩
abbrev main_while0b_v15 : Ref sig .tc := ⟨.hbm, 45, rfl⟩
abbrev main_while0b_call4_c : Ref sig .tc := ⟨.hbm, 46, rfl⟩
abbrev main_while0b_call4_c_0 : Ref sig .tc := ⟨.hbm, 47, rfl⟩
abbrev main_while0b_call4_v0 : Ref sig .tc := ⟨.hbm, 48, rfl⟩
abbrev main_while0b_v16 : Ref sig .tc := ⟨.hbm, 49, rfl⟩
abbrev main_while0b_v17 : Ref sig .tc := ⟨.hbm, 50, rfl⟩
abbrev main_while0b_v18 : Ref sig .tc := ⟨.hbm, 51, rfl⟩
abbrev main_while0b_v19 : Ref sig .tc := ⟨.hbm, 52, rfl⟩
abbrev main_while0b_v20 : Ref sig .tc := ⟨.hbm, 53, rfl⟩
abbrev main_while0b_v21 : Ref sig .tc := ⟨.hbm, 54, rfl⟩
abbrev main_while0b_v22 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_call5_v0 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_v33 : Ref sig .tc := ⟨.hbm, 70, rfl⟩
abbrev main_while0b_c_7 : Ref sig .tc := ⟨.hbm, 71, rfl⟩
abbrev main_while0b_v34 : Ref sig .tc := ⟨.hbm, 72, rfl⟩
abbrev main_v10 : Ref sig .tc := ⟨.hbm, 73, rfl⟩
abbrev main_v11 : Ref sig .tc := ⟨.hbm, 74, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S2x6x1024 : Shape := ⟨3, ![2, 6, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S2x3x3072 : Shape := ⟨3, ![2, 3, 3072]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x3072 : Shape := ⟨2, ![1024, 3072]⟩
abbrev S1024x1024 : Shape := ⟨2, ![1024, 1024]⟩
abbrev S1x8 : Shape := ⟨2, ![1, 8]⟩
abbrev S1x128 : Shape := ⟨2, ![1, 128]⟩
abbrev S2x16384x128 : Shape := ⟨3, ![2, 16384, 128]⟩
abbrev S2x256x16x64 : Shape := ⟨4, ![2, 256, 16, 64]⟩
abbrev S1x256x1024 : Shape := ⟨3, ![1, 256, 1024]⟩
abbrev S1x6x1024 : Shape := ⟨3, ![1, 6, 1024]⟩
abbrev S1x3x3072 : Shape := ⟨3, ![1, 3, 3072]⟩
abbrev S1x256x128 : Shape := ⟨3, ![1, 256, 128]⟩
abbrev S1x4x16x64 : Shape := ⟨4, ![1, 4, 16, 64]⟩
abbrev S264x3072 : Shape := ⟨2, ![264, 3072]⟩
abbrev S8x3072 : Shape := ⟨2, ![8, 3072]⟩
abbrev S3x3072 : Shape := ⟨2, ![3, 3072]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x3072 : Shape := ⟨2, ![256, 3072]⟩
abbrev S1x3072 : Shape := ⟨2, ![1, 3072]⟩
abbrev S256x128 : Shape := ⟨2, ![256, 128]⟩
abbrev S256x256 : Shape := ⟨2, ![256, 256]⟩
abbrev S16x128 : Shape := ⟨2, ![16, 128]⟩
abbrev S64x128 : Shape := ⟨2, ![64, 128]⟩
abbrev S16x64 : Shape := ⟨2, ![16, 64]⟩
abbrev S1x1x16x64 : Shape := ⟨4, ![1, 1, 16, 64]⟩

abbrev nBuf : Space → Nat
  | .hbm => 33
  | .vmem => 28
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024x4112, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S2x3x3072, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1x1024, .f32⟩
  | .hbm, ⟨13, _⟩ => ⟨S1024x3072, .f32⟩
  | .hbm, ⟨14, _⟩ => ⟨S1024x3072, .bf16⟩
  | .hbm, ⟨15, _⟩ => ⟨S1024x1024, .f32⟩
  | .hbm, ⟨16, _⟩ => ⟨S1024x1024, .bf16⟩
  | .hbm, ⟨17, _⟩ => ⟨S1024x128, .bf16⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x8, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x128, .f32⟩
  | .hbm, ⟨31, _⟩ => ⟨S2x256x16x64, .f32⟩
  | .hbm, ⟨32, _⟩ => ⟨S2x3x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1024x1024, .bf16⟩
  | .local _ .vmem, ⟨7, _⟩ => ⟨S1024x128, .bf16⟩
  | .local _ .vmem, ⟨8, _⟩ => ⟨S4x3072, .f32⟩
  | .local _ .vmem, ⟨9, _⟩ => ⟨S1x3x3072, .f32⟩
  | .local _ .vmem, ⟨10, _⟩ => ⟨S1x3x3072, .f32⟩
  | .local _ .vmem, ⟨11, _⟩ => ⟨S1x128, .f32⟩
  | .local _ .vmem, ⟨12, _⟩ => ⟨S1x128, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x128, .f32⟩
  | .local _ .vmem, ⟨22, _⟩ => ⟨S1x256x128, .f32⟩
  | .local _ .vmem, ⟨23, _⟩ => ⟨S1x4x16x64, .f32⟩
  | .local _ .vmem, ⟨24, _⟩ => ⟨S1x4x16x64, .f32⟩
  | .local _ .vmem, ⟨25, _⟩ => ⟨S1x3x3072, .f32⟩
  | .local _ .vmem, ⟨26, _⟩ => ⟨S1x3x3072, .f32⟩
  | .local _ .vmem, ⟨27, _⟩ => ⟨S264x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_v12_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x3x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x16x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x3x3072 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference2Ideal.lean ====
abbrev S2x16384x1024 : Shape := ⟨3, ![2, 16384, 1024]⟩
abbrev S2x6x1024 : Shape := ⟨3, ![2, 6, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S2x3x3072 : Shape := ⟨3, ![2, 3, 3072]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4112 : Shape := ⟨3, ![2, 16384, 4112]⟩
abbrev S2x16384x3072 : Shape := ⟨3, ![2, 16384, 3072]⟩
abbrev S2x16384x8 : Shape := ⟨3, ![2, 16384, 8]⟩
abbrev S2x16387x3072 : Shape := ⟨3, ![2, 16387, 3072]⟩
abbrev S1x3072 : Shape := ⟨2, ![1, 3072]⟩
abbrev S3072 : Shape := ⟨1, ![3072]⟩
abbrev S1x1x3072 : Shape := ⟨3, ![1, 1, 3072]⟩
abbrev S2x16384x8x128 : Shape := ⟨4, ![2, 16384, 8, 128]⟩
abbrev S2x16384x8x1 : Shape := ⟨4, ![2, 16384, 8, 1]⟩
abbrev S1x1x8 : Shape := ⟨3, ![1, 1, 8]⟩
abbrev S2x256x64x8 : Shape := ⟨4, ![2, 256, 64, 8]⟩
abbrev S2x16384x16 : Shape := ⟨3, ![2, 16384, 16]⟩
abbrev S2x16384x128 : Shape := ⟨3, ![2, 16384, 128]⟩
abbrev S2x256x64x16 : Shape := ⟨4, ![2, 256, 64, 16]⟩
abbrev S2x256x16x64 : Shape := ⟨4, ![2, 256, 16, 64]⟩

abbrev nBuf : Space → Nat
  | .hbm => 147
  | .vmem => 0
  | .smem => 0
  | _ => 0

abbrev hbmTy0_0 (i : Nat) : BufTy := match i % 128 with
  | 0 => ⟨S2x16384x1024, .f32⟩
  | 1 => ⟨S2x6x1024, .f32⟩
  | 2 => ⟨S1024, .f32⟩
  | 3 => ⟨S1024x4112, .f32⟩
  | 4 => ⟨S4x3072, .f32⟩
  | 5 => ⟨S8, .f32⟩
  | 6 => ⟨S8, .f32⟩
  | 7 => ⟨S2x3x3072, .f32⟩
  | 8 => ⟨S2x1x1024, .f32⟩
  | 9 => ⟨S2x1x1024, .f32⟩
  | 10 => ⟨S2x16384x1024, .f32⟩
  | 11 => ⟨S_, .f32⟩
  | 12 => ⟨S2x16384, .f32⟩
  | 13 => ⟨S2x16384x1, .f32⟩
  | 14 => ⟨S_, .f32⟩
  | 15 => ⟨S2x16384x1, .f32⟩
  | 16 => ⟨S2x16384x1, .f32⟩
  | 17 => ⟨S_, .f32⟩
  | 18 => ⟨S2x16384x1, .f32⟩
  | 19 => ⟨S2x16384x1, .f32⟩
  | 20 => ⟨S2x16384x1, .f32⟩
  | 21 => ⟨S2x16384x1024, .f32⟩
  | 22 => ⟨S2x16384x1024, .f32⟩
  | 23 => ⟨S1x1x1024, .f32⟩
  | 24 => ⟨S2x16384x1024, .f32⟩
  | 25 => ⟨S2x16384x1024, .f32⟩
  | 26 => ⟨S_, .f32⟩
  | 27 => ⟨S2x1x1024, .f32⟩
  | 28 => ⟨S2x1x1024, .f32⟩
  | 29 => ⟨S2x16384x1024, .f32⟩
  | 30 => ⟨S2x16384x1024, .f32⟩
  | 31 => ⟨S2x16384x1024, .f32⟩
  | 32 => ⟨S2x16384x1024, .f32⟩
  | 33 => ⟨S2x16384x4112, .f32⟩
  | 34 => ⟨S2x16384x3072, .f32⟩
  | 35 => ⟨S2x16384x1024, .f32⟩
  | 36 => ⟨S2x16384x8, .f32⟩
  | 37 => ⟨S2x16384x8, .f32⟩
  | 38 => ⟨S2x16387x3072, .f32⟩
  | 39 => ⟨S2x16384x3072, .f32⟩
  | 40 => ⟨S1x3072, .f32⟩
  | 41 => ⟨S3072, .f32⟩
  | 42 => ⟨S1x1x3072, .f32⟩
  | 43 => ⟨S2x16384x3072, .f32⟩
  | 44 => ⟨S2x16384x3072, .f32⟩
  | 45 => ⟨S2x16384x3072, .f32⟩
  | 46 => ⟨S1x3072, .f32⟩
  | 47 => ⟨S3072, .f32⟩
  | 48 => ⟨S1x1x3072, .f32⟩
  | 49 => ⟨S2x16384x3072, .f32⟩
  | 50 => ⟨S2x16384x3072, .f32⟩
  | 51 => ⟨S2x16384x3072, .f32⟩
  | 52 => ⟨S2x16384x3072, .f32⟩
  | 53 => ⟨S1x3072, .f32⟩
  | 54 => ⟨S3072, .f32⟩
  | 55 => ⟨S1x1x3072, .f32⟩
  | 56 => ⟨S2x16384x3072, .f32⟩
  | 57 => ⟨S2x16384x3072, .f32⟩
  | 58 => ⟨S2x16384x3072, .f32⟩
  | 59 => ⟨S2x16384x3072, .f32⟩
  | 60 => ⟨S1x3072, .f32⟩
  | 61 => ⟨S3072, .f32⟩
  | 62 => ⟨S1x1x3072, .f32⟩
  | 63 => ⟨S2x16384x3072, .f32⟩
  | 64 => ⟨S2x16384x3072, .f32⟩
  | 65 => ⟨S2x16384x3072, .f32⟩
  | 66 => ⟨S2x3x3072, .f32⟩
  | 67 => ⟨S2x16384x3072, .f32⟩
  | 68 => ⟨S2x16384x3072, .f32⟩
  | 69 => ⟨S_, .f32⟩
  | 70 => ⟨S2x16384x3072, .f32⟩
  | 71 => ⟨S2x16384x3072, .f32⟩
  | 72 => ⟨S_, .f32⟩
  | 73 => ⟨S2x16384x3072, .f32⟩
  | 74 => ⟨S2x16384x3072, .f32⟩
  | 75 => ⟨S2x16384x3072, .f32⟩
  | 76 => ⟨S2x16384x1024, .f32⟩
  | 77 => ⟨S2x16384x1024, .f32⟩
  | 78 => ⟨S2x16384x1024, .f32⟩
  | 79 => ⟨S2x16384x8x128, .f32⟩
  | 80 => ⟨S2x16384x8x128, .f32⟩
  | 81 => ⟨S_, .f32⟩
  | 82 => ⟨S2x16384x8, .f32⟩
  | 83 => ⟨S2x16384x8x1, .f32⟩
  | 84 => ⟨S_, .f32⟩
  | 85 => ⟨S2x16384x8x1, .f32⟩
  | 86 => ⟨S2x16384x8x1, .f32⟩
  | 87 => ⟨S2x16384x8x1, .f32⟩
  | 88 => ⟨S2x16384x8x128, .f32⟩
  | 89 => ⟨S2x16384x8x128, .f32⟩
  | 90 => ⟨S_, .f32⟩
  | 91 => ⟨S2x16384x8x128, .f32⟩
  | 92 => ⟨S2x16384x8x128, .f32⟩
  | 93 => ⟨S2x16384x8x128, .f32⟩
  | 94 => ⟨S2x16384x8x128, .f32⟩
  | 95 => ⟨S_, .f32⟩
  | 96 => ⟨S2x16384x8, .f32⟩
  | 97 => ⟨S2x16384x8x1, .f32⟩
  | 98 => ⟨S_, .f32⟩
  | 99 => ⟨S2x16384x8x1, .f32⟩
  | 100 => ⟨S2x16384x8x1, .f32⟩
  | 101 => ⟨S2x16384x8x1, .f32⟩
  | 102 => ⟨S2x16384x8x128, .f32⟩
  | 103 => ⟨S2x16384x8x128, .f32⟩
  | 104 => ⟨S2x16384x8, .f32⟩
  | 105 => ⟨S2x16384x8, .f32⟩
  | 106 => ⟨S_, .f32⟩
  | 107 => ⟨S2x16384x8, .f32⟩
  | 108 => ⟨S2x16384x8, .f32⟩
  | 109 => ⟨S_, .f32⟩
  | 110 => ⟨S2x16384x8, .f32⟩
  | 111 => ⟨S2x16384x8, .f32⟩
  | 112 => ⟨S8, .f32⟩
  | 113 => ⟨S8, .f32⟩
  | 114 => ⟨S1x1x8, .f32⟩
  | 115 => ⟨S2x16384x8, .f32⟩
  | 116 => ⟨S2x16384x8, .f32⟩
  | 117 => ⟨S_, .f32⟩
  | 118 => ⟨S2x16384x8, .f32⟩
  | 119 => ⟨S2x16384x8, .f32⟩
  | 120 => ⟨S2x16384x8, .f32⟩
  | 121 => ⟨S2x16384x8, .f32⟩
  | 122 => ⟨S2x16384x8, .i1⟩
  | 123 => ⟨S2x16384x8, .f32⟩
  | 124 => ⟨S2x16384x8, .f32⟩
  | 125 => ⟨S2x16384x8, .f32⟩
  | 126 => ⟨S2x16384x8, .f32⟩
  | 127 => ⟨S2x16384x8, .f32⟩
  | _ => ⟨S2x16384x1024, .f32⟩

abbrev hbmTy0_1 (i : Nat) : BufTy := match i % 128 with
  | 0 => ⟨S2x16384x8, .f32⟩
  | 1 => ⟨S2x16384x8, .f32⟩
  | 2 => ⟨S2x16384x8, .f32⟩
  | 3 => ⟨S1x1x8, .f32⟩
  | 4 => ⟨S2x16384x8, .f32⟩
  | 5 => ⟨S2x16384x8, .f32⟩
  | 6 => ⟨S2x256x64x8, .f32⟩
  | 7 => ⟨S_, .f32⟩
  | 8 => ⟨S_, .f32⟩
  | 9 => ⟨S2x256x64x8, .f32⟩
  | 10 => ⟨S2x16384x8, .f32⟩
  | 11 => ⟨S2x16384x16, .f32⟩
  | 12 => ⟨S_, .f32⟩
  | 13 => ⟨S_, .f32⟩
  | 14 => ⟨S2x16384x128, .f32⟩
  | 15 => ⟨S2x256x64x16, .f32⟩
  | 16 => ⟨S2x256x16x64, .f32⟩
  | 17 => ⟨S2x16384x1024, .f32⟩
  | 18 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_3 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_cst_7 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_8 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call1_cst : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call2_call0_cst : Ref sig .tc := ⟨.hbm, 135, rfl⟩
abbrev main_call2_call0_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_10 : Ref sig .tc := ⟨.hbm, 140, rfl⟩
abbrev main_call3_v0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]
-- ==== Kernel3.lean ====
abbrev S69632x1024 : Shape := ⟨2, ![69632, 1024]⟩
abbrev S544 : Shape := ⟨1, ![544]⟩
abbrev S32x1024x512 : Shape := ⟨3, ![32, 1024, 512]⟩
abbrev S32x512x1024 : Shape := ⟨3, ![32, 512, 1024]⟩
abbrev S128x1024 : Shape := ⟨2, ![128, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩
abbrev S128x512 : Shape := ⟨2, ![128, 512]⟩

abbrev nBuf : Space → Nat
  | .hbm => 5
  | .vmem => 13
  | .smem => 1
  | _ => 0

abbrev bufTy : (tb : Table) → Fin (tcTables nBuf tb) → BufTy
  | .hbm, ⟨0, _⟩ => ⟨S69632x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S69632x1024, .f32⟩
  | .local _ .vmem, ⟨0, _⟩ => ⟨S128x1024, .f32⟩
  | .local _ .vmem, ⟨1, _⟩ => ⟨S128x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S128x1024, .f32⟩
  | .local _ .vmem, ⟨9, _⟩ => ⟨S128x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S544, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S69632x1024 : Shape := ⟨2, ![69632, 1024]⟩
abbrev S544 : Shape := ⟨1, ![544]⟩
abbrev S32x1024x512 : Shape := ⟨3, ![32, 1024, 512]⟩
abbrev S32x512x1024 : Shape := ⟨3, ![32, 512, 1024]⟩
abbrev S544x128x1024 : Shape := ⟨3, ![544, 128, 1024]⟩
abbrev S_ : Shape := ⟨0, ![]⟩
abbrev S544x1 : Shape := ⟨2, ![544, 1]⟩
abbrev S544x1024x512 : Shape := ⟨3, ![544, 1024, 512]⟩
abbrev S544x128x512 : Shape := ⟨3, ![544, 128, 512]⟩
abbrev S544x512x1024 : Shape := ⟨3, ![544, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S544, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S544x128x1024, .f32⟩
  | .hbm, ⟨6, _⟩ => ⟨S_, .i32⟩
  | .hbm, ⟨7, _⟩ => ⟨S544, .i32⟩
  | .hbm, ⟨8, _⟩ => ⟨S544, .i1⟩
  | .hbm, ⟨9, _⟩ => ⟨S_, .i32⟩
  | .hbm, ⟨10, _⟩ => ⟨S544, .i32⟩
  | .hbm, ⟨11, _⟩ => ⟨S544, .i32⟩
  | .hbm, ⟨12, _⟩ => ⟨S544, .i32⟩
  | .hbm, ⟨13, _⟩ => ⟨S544x1, .i32⟩
  | .hbm, ⟨14, _⟩ => ⟨S544x1024x512, .f32⟩
  | .hbm, ⟨15, _⟩ => ⟨S544x128x512, .f32⟩
  | .hbm, ⟨16, _⟩ => ⟨S544x128x512, .f32⟩
  | .hbm, ⟨17, _⟩ => ⟨S544x128x512, .f32⟩
  | .hbm, ⟨18, _⟩ => ⟨S_, .f32⟩
  | .hbm, ⟨19, _⟩ => ⟨S544x128x512, .f32⟩
  | .hbm, ⟨20, _⟩ => ⟨S544x128x512, .f32⟩
  | .hbm, ⟨21, _⟩ => ⟨S_, .f32⟩
  | .hbm, ⟨22, _⟩ => ⟨S544x128x512, .f32⟩
  | .hbm, ⟨23, _⟩ => ⟨S544x128x512, .f32⟩
  | .hbm, ⟨24, _⟩ => ⟨S544x128x512, .f32⟩
  | .hbm, ⟨25, _⟩ => ⟨S_, .i32⟩
  | .hbm, ⟨26, _⟩ => ⟨S544, .i32⟩
  | .hbm, ⟨27, _⟩ => ⟨S544, .i1⟩
  | .hbm, ⟨28, _⟩ => ⟨S_, .i32⟩
  | .hbm, ⟨29, _⟩ => ⟨S544, .i32⟩
  | .hbm, ⟨30, _⟩ => ⟨S544, .i32⟩
  | .hbm, ⟨31, _⟩ => ⟨S544, .i32⟩
  | .hbm, ⟨32, _⟩ => ⟨S544x1, .i32⟩
  | .hbm, ⟨33, _⟩ => ⟨S544x1024x512, .f32⟩
  | .hbm, ⟨34, _⟩ => ⟨S544x128x512, .f32⟩
  | .hbm, ⟨35, _⟩ => ⟨S544x128x512, .f32⟩
  | .hbm, ⟨36, _⟩ => ⟨S_, .i32⟩
  | .hbm, ⟨37, _⟩ => ⟨S544, .i32⟩
  | .hbm, ⟨38, _⟩ => ⟨S544, .i1⟩
  | .hbm, ⟨39, _⟩ => ⟨S_, .i32⟩
  | .hbm, ⟨40, _⟩ => ⟨S544, .i32⟩
  | .hbm, ⟨41, _⟩ => ⟨S544, .i32⟩
  | .hbm, ⟨42, _⟩ => ⟨S544, .i32⟩
  | .hbm, ⟨43, _⟩ => ⟨S544x1, .i32⟩
  | .hbm, ⟨44, _⟩ => ⟨S544x512x1024, .f32⟩
  | .hbm, ⟨45, _⟩ => ⟨S544x128x1024, .f32⟩
  | .hbm, ⟨46, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x6x1024 : Shape := ⟨3, ![2, 6, 1024]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S1x36 : Shape := ⟨2, ![1, 36]⟩
abbrev S1x128 : Shape := ⟨2, ![1, 128]⟩
abbrev S1x1024 : Shape := ⟨2, ![1, 1024]⟩
abbrev S2x16384x8x128 : Shape := ⟨4, ![2, 16384, 8, 128]⟩
abbrev S2x16384x128 : Shape := ⟨3, ![2, 16384, 128]⟩
abbrev S1x256x1024 : Shape := ⟨3, ![1, 256, 1024]⟩
abbrev S1x6x1024 : Shape := ⟨3, ![1, 6, 1024]⟩
abbrev S1x256x8x128 : Shape := ⟨4, ![1, 256, 8, 128]⟩
abbrev S1x256x128 : Shape := ⟨3, ![1, 256, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S6x1024 : Shape := ⟨2, ![6, 1024]⟩
abbrev S256x256 : Shape := ⟨2, ![256, 256]⟩
abbrev S1x256x1x128 : Shape := ⟨4, ![1, 256, 1, 128]⟩

abbrev nBuf : Space → Nat
  | .hbm => 28
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x6x1024, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S1024x36, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S36, .f32⟩
  | .hbm, ⟨17, _⟩ => ⟨S1x36, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1024x1024, .bf16⟩
  | .hbm, ⟨23, _⟩ => ⟨S1x1024, .f32⟩
  | .hbm, ⟨24, _⟩ => ⟨S2x16384x1024, .f32⟩
  | .hbm, ⟨25, _⟩ => ⟨S2x16384x8x128, .f32⟩
  | .hbm, ⟨26, _⟩ => ⟨S2x16384x128, .f32⟩
  | .hbm, ⟨27, _⟩ => ⟨S1x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x128, .bf16⟩
  | .local _ .vmem, ⟨12, _⟩ => ⟨S1x128, .f32⟩
  | .local _ .vmem, ⟨13, _⟩ => ⟨S1x256x1024, .f32⟩
  | .local _ .vmem, ⟨14, _⟩ => ⟨S1x256x1024, .f32⟩
  | .local _ .vmem, ⟨15, _⟩ => ⟨S1x256x8x128, .f32⟩
  | .local _ .vmem, ⟨16, _⟩ => ⟨S1x256x8x128, .f32⟩
  | .local _ .vmem, ⟨17, _⟩ => ⟨S1x256x128, .f32⟩
  | .local _ .vmem, ⟨18, _⟩ => ⟨S1x256x128, .f32⟩
  | .local _ .vmem, ⟨19, _⟩ => ⟨S1x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference4Ideal.lean ====
abbrev S2x16384x1024 : Shape := ⟨3, ![2, 16384, 1024]⟩
abbrev S2x6x1024 : Shape := ⟨3, ![2, 6, 1024]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x6x1024, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S2x16384x8x128, .f32⟩
  | .hbm, ⟨12, _⟩ => ⟨S2x16384x8x128, .f32⟩
  | .hbm, ⟨13, _⟩ => ⟨S_, .f32⟩
  | .hbm, ⟨14, _⟩ => ⟨S2x16384x8, .f32⟩
  | .hbm, ⟨15, _⟩ => ⟨S2x16384x8x1, .f32⟩
  | .hbm, ⟨16, _⟩ => ⟨S_, .f32⟩
  | .hbm, ⟨17, _⟩ => ⟨S2x16384x8x1, .f32⟩
  | .hbm, ⟨18, _⟩ => ⟨S2x16384x8x1, .f32⟩
  | .hbm, ⟨19, _⟩ => ⟨S_, .f32⟩
  | .hbm, ⟨20, _⟩ => ⟨S2x16384x8x1, .f32⟩
  | .hbm, ⟨21, _⟩ => ⟨S2x16384x8x1, .f32⟩
  | .hbm, ⟨22, _⟩ => ⟨S2x16384x8x1, .f32⟩
  | .hbm, ⟨23, _⟩ => ⟨S2x16384x8x128, .f32⟩
  | .hbm, ⟨24, _⟩ => ⟨S2x16384x8x128, .f32⟩
  | .hbm, ⟨25, _⟩ => ⟨S1x1x1x128, .f32⟩
  | .hbm, ⟨26, _⟩ => ⟨S2x16384x8x128, .f32⟩
  | .hbm, ⟨27, _⟩ => ⟨S2x16384x8x128, .f32⟩
  | .hbm, ⟨28, _⟩ => ⟨S2x16384x8x128, .f32⟩
  | .hbm, ⟨29, _⟩ => ⟨S2x16384x8x128, .f32⟩
  | .hbm, ⟨30, _⟩ => ⟨S2x16384x8x128, .f32⟩
  | .hbm, ⟨31, _⟩ => ⟨S_, .f32⟩
  | .hbm, ⟨32, _⟩ => ⟨S2x16384x8x128, .f32⟩
  | .hbm, ⟨33, _⟩ => ⟨S2x16384x8x128, .f32⟩
  | .hbm, ⟨34, _⟩ => ⟨S_, .f32⟩
  | .hbm, ⟨35, _⟩ => ⟨S2x16384x8x128, .f32⟩
  | .hbm, ⟨36, _⟩ => ⟨S2x16384x8x128, .f32⟩
  | .hbm, ⟨37, _⟩ => ⟨S2x16384x8x128, .f32⟩
  | .hbm, ⟨38, _⟩ => ⟨S2x16384x8x128, .f32⟩
  | .hbm, ⟨39, _⟩ => ⟨S2x16384x1024, .f32⟩
  | .hbm, ⟨40, _⟩ => ⟨S2x16384x1024, .f32⟩
  | .hbm, ⟨41, _⟩ => ⟨S2x1x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S2x16384x1024, .f32⟩
  | .hbm, ⟨60, _⟩ => ⟨S2x16384x1024, .f32⟩
  | .hbm, ⟨61, _⟩ => ⟨S2x1x1024, .f32⟩
  | .hbm, ⟨62, _⟩ => ⟨S_, .f32⟩
  | .hbm, ⟨63, _⟩ => ⟨S2x1x1024, .f32⟩
  | .hbm, ⟨64, _⟩ => ⟨S2x1x1024, .f32⟩
  | .hbm, ⟨65, _⟩ => ⟨S2x16384x1024, .f32⟩
  | .hbm, ⟨66, _⟩ => ⟨S2x16384x1024, .f32⟩
  | .hbm, ⟨67, _⟩ => ⟨S2x1x1024, .f32⟩
  | .hbm, ⟨68, _⟩ => ⟨S2x16384x1024, .f32⟩
  | .hbm, ⟨69, _⟩ => ⟨S2x16384x1024, .f32⟩
  | .hbm, ⟨70, _⟩ => ⟨S2x16384x8x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Pair.lean ====
/- The kernel's values for two heads side by side over one chunk of 64 tokens, stage by stage, as functions of the rows it
   loads and of the states it finds. -/
module

public import proofs.«01_k».proof.Proof.Gen.KernelIdeal.Skeleton

@[expose] public section

noncomputable section

namespace Cert.Pair

open Cert.KernelIdeal Cert.KernelIdeal.Gen Idealize.ShloMosaic Idealize.SL.Sem

/-- The row numbers. -/
def rowIdx : IVec S64x128 32 := iota .tc S64x128 32 [0] iota_S64x128_d0_w32

/-- The column's head is the first of the two. -/
abbrev left : IVec S64x128 1 := k0_pay4
/-- The column's token isn't after the row's. -/
abbrev incl : IVec S64x128 1 := k0_pay5
/-- The column's token is before the row's. -/
abbrev strict : IVec S64x128 1 := k0_pay6
/-- Both tokens lie in the same block of 16. -/
abbrev diag : IVec S64x128 1 :=
  k0_pay10 rowIdx k0_pay3 16#32 k0_pay8 k0_pay9 (Scalar.extui (Scalar.cmpi .sgt 16#32 0#32)) (Scalar.cmpi .slt 16#32 0#32)
/-- Both tokens lie in the same block of 32. -/
abbrev same32 : IVec S64x128 1 :=
  k0_pay13 rowIdx k0_pay3 32#32 (k0_pay11 rowIdx) (k0_pay12 rowIdx) (Scalar.cmpi .sgt 32#32 0#32)
/-- … and the row's in the second block of 16 of it. -/
abbrev second16 : IVec S64x128 1 :=
  k0_pay17 rowIdx same32 16#32 (k0_pay14 rowIdx) (k0_pay15 rowIdx) (k0_pay16 rowIdx)
/-- … and the column's in the first. -/
abbrev low16 : IVec S64x128 1 :=
  k0_pay20 k0_pay3 second16 16#32 (k0_pay18 k0_pay3) (k0_pay19 k0_pay3) (Scalar.cmpi .sgt 16#32 0#32)
/-- Both tokens lie in the same block of 64. -/
abbrev same64 : IVec S64x128 1 :=
  k0_pay23 rowIdx k0_pay3 64#32 (k0_pay21 rowIdx) (k0_pay22 rowIdx) (Scalar.extui (Scalar.cmpi .sgt 64#32 0#32))
    (Scalar.cmpi .slt 64#32 0#32)
/-- … and the row's in the second block of 32 of it. -/
abbrev second32 : IVec S64x128 1 :=
  k0_pay26 rowIdx same64 32#32 (k0_pay24 rowIdx) (k0_pay25 rowIdx) (Scalar.cmpi .sgt 32#32 0#32)
/-- … and the column's in the first. -/
abbrev low32 : IVec S64x128 1 :=
  k0_pay29 k0_pay3 second32 32#32 (k0_pay27 k0_pay3) (k0_pay28 k0_pay3) (Scalar.extui (Scalar.cmpi .sgt 32#32 0#32))
    (Scalar.cmpi .slt 32#32 0#32)

variable {F : FTy → Type} [FloatOps F]

/-- Zeros. -/
def zeros : FVec F S64x128 .f32 := broadcast S64x128 (Scalar.ofBits .f32 0x00000000#32)

/-- `x` where the mask holds, else zero. -/
def keep (c : IVec S64x128 1) (x : FVec F S64x128 .f32) : FVec F S64x128 .f32 := select c x zeros

/-- A column spread over the lanes. -/
def spread (x : FVec F S64x1 .f32) : FVec F S64x128 .f32 := broadcastTo S64x128 x broadcasts_S64x1_S64x128

/-- Keys times betas. -/
def scaled (k : FVec F S64x128 .f32) (b : FVec F S64x1 .f32) : FVec F S64x128 .f32 := mulf k (spread b)

/-- Queries above scaled keys, multiplied with the keys. -/
def products (q kb k : FVec F S64x128 .f32) : FVec F S128x64 .f32 :=
  matmul dot_S128x128_S64x128_S128x64_1_1_0_0_n_n none
    (truncf .bf16 (concatenate S128x128 0 [⟨S64x128, q⟩, ⟨S64x128, kb⟩] concatenates_S64x128_S64x128_S128x128_d0)
      bitsLt_bf16_f32)
    (truncf .bf16 k bitsLt_bf16_f32) (constant S128x64 .f32 0x00000000#32)

/-- The two heads' products side by side. -/
def sides (a0 a1 : FVec F S128x64 .f32) : FVec F S128x128 .f32 :=
  concatenate S128x128 1 [⟨S128x64, a0⟩, ⟨S128x64, a1⟩] concatenates_S128x64_S128x64_S128x128_d1

/-- The decay between two tokens, from the columns and the rows of the summed log-decays. -/
def decay (g0 g1 : FVec F S64x1 .f32) (r0 r1 : FVec F S1x64 .f32) : FVec F S64x128 .f32 :=
  keep incl (exp (keep incl (subf
    (select left (broadcastTo S64x128 (shapeCast S64x1 g0 shapeCasts_S64x1_S64x1) broadcasts_S64x1_S64x128)
      (broadcastTo S64x128 (shapeCast S64x1 g1 shapeCasts_S64x1_S64x1) broadcasts_S64x1_S64x128))
    (broadcastTo S64x128 (concatenate S1x128 1 [⟨S1x64, r0⟩, ⟨S1x64, r1⟩] concatenates_S1x64_S1x64_S1x128_d1)
      broadcasts_S1x128_S64x128))))

/-- Queries against keys, with the decay. -/
def attn (a0 a1 : FVec F S128x64 .f32) (d : FVec F S64x128 .f32) : FVec F S64x128 .f32 :=
  mulf (extractStridedSlice S64x128 ![0, 0] (sides a0 a1) slices_S128x128_o0_0_S64x128) d

/-- Scaled keys against keys, with the decay, strictly below the diagonal. -/
def lower (a0 a1 : FVec F S128x64 .f32) (d : FVec F S64x128 .f32) : FVec F S64x128 .f32 :=
  keep strict (mulf (extractStridedSlice S64x128 ![64, 0] (sides a0 a1) slices_S128x128_o64_0_S64x128) d)

/-- The two heads' squares on the diagonal of a square of twice the side. -/
def bdiag (x : FVec F S64x128 .f32) : FVec F S128x128 .bf16 :=
  truncf .bf16 (concatenate S128x128 0 [⟨S64x128, keep left x⟩, ⟨S64x128, select left zeros x⟩]
    concatenates_S64x128_S64x128_S128x128_d0) bitsLt_bf16_f32

/-- The product of two squares, for both heads. -/
def mul (x y : FVec F S64x128 .f32) : FVec F S64x128 .f32 :=
  matmul dot_S64x128_S128x128_S64x128_1_0_0_1_n_n none (truncf .bf16 x bitsLt_bf16_f32) (bdiag y)
    (constant S64x128 .f32 0x00000000#32)

/-- The products of one square with two, side by side. -/
def mul2 (x y z : FVec F S64x128 .f32) : FVec F S64x256 .f32 :=
  matmul dot_S64x128_S128x256_S64x256_1_0_0_1_n_n none (truncf .bf16 x bitsLt_bf16_f32)
    (concatenate S128x256 1 [⟨S128x128, bdiag y⟩, ⟨S128x128, bdiag z⟩] concatenates_S128x128_S128x128_S128x256_d1)
    (constant S64x256 .f32 0x00000000#32)

/-- The diagonal blocks, negated. -/
def nil (m : FVec F S64x128 .f32) : FVec F S64x128 .f32 := keep diag (subf zeros m)

/-- The next square of the diagonal blocks. -/
def square (n p : FVec F S64x128 .f32) : FVec F S64x128 .f32 :=
  extractStridedSlice S64x128 ![0, 0] (mul2 n n p) slices_S64x256_o0_0_S64x128

/-- The next partial inverse of the diagonal blocks. -/
def grown (n p : FVec F S64x128 .f32) : FVec F S64x128 .f32 :=
  addf p (extractStridedSlice S64x128 ![0, 128] (mul2 n n p) slices_S64x256_o0_128_S64x128)

/-- The inverse of the diagonal blocks, from the blocks negated. -/
def small (n : FVec F S64x128 .f32) : FVec F S64x128 .f32 :=
  let p0 := addf k0_pay7 n
  let n2 := mul n n
  let n4 := square n2 p0
  let p1 := grown n2 p0
  let n8 := square n4 p1
  let p2 := grown n4 p1
  addf p2 (mul n8 p2)

/-- Two neighbouring inverted blocks joined. -/
def join (low : IVec S64x128 1) (m p : FVec F S64x128 .f32) : FVec F S64x128 .f32 := subf p (mul p (mul (keep low m) p))

/-- The inverse of the unit lower triangular matrix. -/
def inv (m : FVec F S64x128 .f32) : FVec F S64x128 .f32 := join low32 m (join low16 m (small (nil m)))

/-- The right sides of one head: scaled and decayed keys next to scaled values. -/
def right (kb : FVec F S64x128 .f32) (e : FVec F S64x1 .f32) (v : FVec F S64x128 .f32) (b : FVec F S64x1 .f32) :
    FVec F S64x256 .f32 :=
  concatenate S64x256 1 [⟨S64x128, scaled kb e⟩, ⟨S64x128, scaled v b⟩] concatenates_S64x128_S64x128_S64x256_d1

/-- Both heads' right sides solved. -/
def solved (p : FVec F S64x128 .f32) (r0 r1 : FVec F S64x256 .f32) : FVec F S64x512 .f32 :=
  matmul dot_S64x128_S128x512_S64x512_1_0_0_1_n_n none (truncf .bf16 p bitsLt_bf16_f32)
    (truncf .bf16 (concatenate S128x512 0
      [⟨S64x512, concatenate S64x512 1 [⟨S64x256, r0⟩,
          ⟨S64x256, broadcast S64x256 (Scalar.ofBits .f32 0x00000000#32)⟩] concatenates_S64x256_S64x256_S64x512_d1⟩,
        ⟨S64x512, concatenate S64x512 1 [⟨S64x256, broadcast S64x256 (Scalar.ofBits .f32 0x00000000#32)⟩,
          ⟨S64x256, r1⟩] concatenates_S64x256_S64x256_S64x512_d1⟩] concatenates_S64x512_S64x512_S128x512_d0) bitsLt_bf16_f32)
    (constant S64x512 .f32 0x00000000#32)

/-- The solved keys above the decayed queries, multiplied with the state. -/
def seen (w q : FVec F S64x128 .f32) (e : FVec F S64x1 .f32) (st : FVec F S128x128 .f32) : FVec F S128x128 .f32 :=
  matmul dot_S128x128_S128x128_S128x128_1_0_0_1_n_n none
    (truncf .bf16 (concatenate S128x128 0 [⟨S64x128, w⟩, ⟨S64x128, scaled q e⟩] concatenates_S64x128_S64x128_S128x128_d0)
      bitsLt_bf16_f32)
    (truncf .bf16 st bitsLt_bf16_f32) (constant S128x128 .f32 0x00000000#32)

/-- The updates: the solved values without what the state already says. -/
def updates (u : FVec F S64x128 .f32) (ws : FVec F S128x128 .f32) : FVec F S64x128 .f32 :=
  subf u (extractStridedSlice S64x128 ![0, 0] ws slices_S128x128_o0_0_S64x128)

/-- Both heads' updates under the attention. -/
def attended (a d0 d1 : FVec F S64x128 .f32) : FVec F S64x256 .f32 :=
  matmul dot_S64x128_S128x256_S64x256_1_0_0_1_n_n none (truncf .bf16 a bitsLt_bf16_f32)
    (truncf .bf16 (concatenate S128x256 0
      [⟨S64x256, concatenate S64x256 1 [⟨S64x128, d0⟩, ⟨S64x128, zeros⟩] concatenates_S64x128_S64x128_S64x256_d1⟩,
        ⟨S64x256, concatenate S64x256 1 [⟨S64x128, zeros⟩, ⟨S64x128, d1⟩] concatenates_S64x128_S64x128_S64x256_d1⟩]
      concatenates_S64x256_S64x256_S128x256_d0) bitsLt_bf16_f32)
    (constant S64x256 .f32 0x00000000#32)

/-- The outputs of the pair's first head. -/
def outFirst (ws : FVec F S128x128 .f32) (av : FVec F S64x256 .f32) : FVec F S64x128 .f32 :=
  addf (extractStridedSlice S64x128 ![64, 0] ws slices_S128x128_o64_0_S64x128)
    (extractStridedSlice S64x128 ![0, 0] av slices_S64x256_o0_0_S64x128)

/-- The outputs of the pair's second head. -/
def outSecond (ws : FVec F S128x128 .f32) (av : FVec F S64x256 .f32) : FVec F S64x128 .f32 :=
  addf (extractStridedSlice S64x128 ![64, 0] ws slices_S128x128_o64_0_S64x128)
    (extractStridedSlice S64x128 ![0, 128] av slices_S64x256_o0_128_S64x128)

/-- The summed log-decay of the chunk's last token. -/
def last (g : FVec F S64x1 .f32) : FVec F S1x1 .f32 := extractStridedSlice S1x1 ![63, 0] g slices_S64x1_o63_0_S1x1

/-- The state after the chunk. -/
def newState (st : FVec F S128x128 .f32) (k : FVec F S64x128 .f32) (g : FVec F S64x1 .f32) (d : FVec F S64x128 .f32) :
    FVec F S128x128 .f32 :=
  addf (mulf st (broadcastTo S128x128 (exp (last g)) broadcasts_S1x1_S128x128))
    (matmul dot_S64x128_S64x128_S128x128_0_0_1_1_n_n none
      (truncf .bf16 (scaled k (exp (subf (broadcastTo S64x1 (last g) broadcasts_S1x1_S64x1) g))) bitsLt_bf16_f32)
      (truncf .bf16 d bitsLt_bf16_f32) (constant S128x128 .f32 0x00000000#32))

/-- What the kernel loads of one head over one chunk: queries, keys, values, the columns of summed log-decays and betas,
    and the row of summed log-decays. -/
structure Rows (F : FTy → Type) where
  q : FVec F S64x128 .f32
  k : FVec F S64x128 .f32
  v : FVec F S64x128 .f32
  g : FVec F S64x1 .f32
  b : FVec F S64x1 .f32
  r : FVec F S1x64 .f32

namespace Rows

/-- One head's products. -/
def a2 (x : Rows F) : FVec F S128x64 .f32 := products x.q (scaled x.k x.b) x.k

/-- One head's right sides. -/
def rhs (x : Rows F) : FVec F S64x256 .f32 := right (scaled x.k x.b) (exp x.g) x.v x.b

/-- The attention of a pair. -/
def attn (x y : Rows F) : FVec F S64x128 .f32 := Pair.attn x.a2 y.a2 (decay x.g y.g x.r y.r)

/-- The right sides of a pair solved. -/
def wu (x y : Rows F) : FVec F S64x512 .f32 :=
  solved (inv (lower x.a2 y.a2 (decay x.g y.g x.r y.r))) x.rhs y.rhs

/-- The first head's products with its state. -/
def ws0 (x y : Rows F) (s : FVec F S128x128 .f32) : FVec F S128x128 .f32 :=
  seen (extractStridedSlice S64x128 ![0, 0] (wu x y) slices_S64x512_o0_0_S64x128) x.q (exp x.g) s

/-- The second head's. -/
def ws1 (x y : Rows F) (s : FVec F S128x128 .f32) : FVec F S128x128 .f32 :=
  seen (extractStridedSlice S64x128 ![0, 256] (wu x y) slices_S64x512_o0_256_S64x128) y.q (exp y.g) s

/-- The first head's updates. -/
def d0 (x y : Rows F) (s : FVec F S128x128 .f32) : FVec F S64x128 .f32 :=
  updates (extractStridedSlice S64x128 ![0, 128] (wu x y) slices_S64x512_o0_128_S64x128) (ws0 x y s)

/-- The second head's. -/
def d1 (x y : Rows F) (s : FVec F S128x128 .f32) : FVec F S64x128 .f32 :=
  updates (extractStridedSlice S64x128 ![0, 384] (wu x y) slices_S64x512_o0_384_S64x128) (ws1 x y s)

/-- The first head's outputs, from both heads' states. -/
def o0 (x y : Rows F) (s t : FVec F S128x128 .f32) : FVec F S64x128 .f32 :=
  outFirst (ws0 x y s) (attended (attn x y) (d0 x y s) (d1 x y t))

/-- The second head's. -/
def o1 (x y : Rows F) (s t : FVec F S128x128 .f32) : FVec F S64x128 .f32 :=
  outSecond (ws1 x y t) (attended (attn x y) (d0 x y s) (d1 x y t))

/-- The first head's state after the chunk. -/
def s0 (x y : Rows F) (s : FVec F S128x128 .f32) : FVec F S128x128 .f32 := newState s x.k x.g (d0 x y s)

/-- The second head's. -/
def s1 (x y : Rows F) (s : FVec F S128x128 .f32) : FVec F S128x128 .f32 := newState s y.k y.g (d1 x y s)

end Rows

end Cert.Pair

end
-- ==== Proof.Point.lean ====
module

public import proofs.«01_k».proof.Proof.Pair
public import proofs.«01_k».proof.Proof.Gen.KernelIdeal.Frame

@[expose] public section

set_option maxRecDepth 16384

noncomputable section

/-! # One grid point: four chunks, eight heads

What the body stores at a grid point, in the vocabulary of `Cert.Pair`: over each of the four chunks of 64 tokens it
takes the eight heads in pairs, stores the outputs, and keeps the eight states in scratch. -/

namespace Cert.Point

open Idealize.ShloMosaic Cert.KernelIdeal Cert.KernelIdeal.Gen Cert.Pair

variable {F : FTy → Type} [FloatOps F]

/-- What a grid point loads: each chunk's and head's queries, keys and values, and each chunk's columns and rows of
    summed log-decays and betas. -/
structure Loads (F : FTy → Type) where
  q : Fin 4 → Fin 8 → FVec F S64x128 .f32
  k : Fin 4 → Fin 8 → FVec F S64x128 .f32
  v : Fin 4 → Fin 8 → FVec F S64x128 .f32
  gb : Fin 4 → FVec F S64x128 .f32
  gr : Fin 4 → FVec F S16x64 .f32

theorem inb_tok (c : Fin 4) (h : Fin 8) :
    ∀ a, (![0, 64 * c.val, 128 * h.val] : Fin 3 → ℕ) a + S1x64x128.size a ≤ S1x256x1024.size a := by
  revert c h; decide

theorem inb_col (c : Fin 4) :
    ∀ a, (![0, 64 * c.val, 0] : Fin 3 → ℕ) a + S1x64x128.size a ≤ S1x256x128.size a := by
  revert c; decide

theorem inb_row (c : Fin 4) :
    ∀ a, (![0, c.val, 0, 0] : Fin 4 → ℕ) a + S1x1x16x64.size a ≤ S1x4x16x64.size a := by
  revert c; decide

theorem inb_state (h : Fin 8) :
    ∀ a, (![h.val, 0, 0] : Fin 3 → ℕ) a + S1x128x128.size a ≤ S8x128x128.size a := by
  revert h; decide

theorem slices_g (h : Fin 8) : S64x128.Slices ![0, h.val] S64x1 := by
  revert h; decide

theorem slices_b (h : Fin 8) : S64x128.Slices ![0, 8 + h.val] S64x1 := by
  revert h; decide

theorem slices_r (h : Fin 8) : S16x64.Slices ![h.val, 0] S1x64 := by
  revert h; decide

/-- The rectangle of a chunk's and head's 64 rows. -/
def tok (c : Fin 4) (h : Fin 8) : Rect S1x256x1024 := Rect.unit ![0, 64 * c.val, 128 * h.val] S1x64x128.size (inb_tok c h)

/-- The rectangle of a chunk's columns. -/
def cols (c : Fin 4) : Rect S1x256x128 := Rect.unit ![0, 64 * c.val, 0] S1x64x128.size (inb_col c)

/-- The rectangle of a chunk's rows. -/
def rowsOf (c : Fin 4) : Rect S1x4x16x64 := Rect.unit ![0, c.val, 0, 0] S1x1x16x64.size (inb_row c)

/-- The rectangle of a head's state. -/
def one (h : Fin 8) : Rect S8x128x128 := Rect.unit ![h.val, 0, 0] S1x128x128.size (inb_state h)

/-- The loads out of the point's input blocks. -/
def loads (x0 x1 x2 : Vec F S1x256x1024 .f32) (x3 : Vec F S1x256x128 .f32) (x4 : Vec F S1x4x16x64 .f32) : Loads F where
  q c h := shapeCast S64x128 (View.ld x0 (tok c h)) shapeCasts_S1x64x128_S64x128
  k c h := shapeCast S64x128 (View.ld x1 (tok c h)) shapeCasts_S1x64x128_S64x128
  v c h := shapeCast S64x128 (View.ld x2 (tok c h)) shapeCasts_S1x64x128_S64x128
  gb c := shapeCast S64x128 (View.ld x3 (cols c)) shapeCasts_S1x64x128_S64x128
  gr c := shapeCast S16x64 (View.ld x4 (rowsOf c)) shapeCasts_S1x1x16x64_S16x64

/-- One head's rows over one chunk. -/
def Loads.rows (x : Loads F) (c : Fin 4) (h : Fin 8) : Rows F where
  q := x.q c h
  k := x.k c h
  v := x.v c h
  g := extractStridedSlice S64x1 ![0, h.val] (x.gb c) (slices_g h)
  b := extractStridedSlice S64x1 ![0, 8 + h.val] (x.gb c) (slices_b h)
  r := extractStridedSlice S1x64 ![h.val, 0] (x.gr c) (slices_r h)

/-- One head's state, stored. -/
def piece (h : Fin 8) (s : FVec F S128x128 .f32) : View.Piece (Elt F) S8x128x128 .f32 :=
  ⟨one h, shapeCast S1x128x128 s shapeCasts_S128x128_S1x128x128⟩

/-- One chunk's outputs of one head, stored. -/
def outPiece (c : Fin 4) (h : Fin 8) (o : FVec F S64x128 .f32) : View.Piece (Elt F) S1x256x1024 .f32 :=
  ⟨tok c h, shapeCast S1x64x128 o shapeCasts_S64x128_S1x64x128⟩

/-- The state stored after a chunk, of the states `S` found: the heads go in pairs. -/
def Loads.next (x : Loads F) (c : Fin 4) (S : Fin 8 → FVec F S128x128 .f32) : Fin 8 → FVec F S128x128 .f32
  | 0 => (x.rows c 0).s0 (x.rows c 1) (S 0)
  | 1 => (x.rows c 0).s1 (x.rows c 1) (S 1)
  | 2 => (x.rows c 2).s0 (x.rows c 3) (S 2)
  | 3 => (x.rows c 2).s1 (x.rows c 3) (S 3)
  | 4 => (x.rows c 4).s0 (x.rows c 5) (S 4)
  | 5 => (x.rows c 4).s1 (x.rows c 5) (S 5)
  | 6 => (x.rows c 6).s0 (x.rows c 7) (S 6)
  | 7 => (x.rows c 6).s1 (x.rows c 7) (S 7)

/-- The outputs of a chunk, of the states `S` found. -/
def Loads.outs (x : Loads F) (c : Fin 4) (S : Fin 8 → FVec F S128x128 .f32) : Fin 8 → FVec F S64x128 .f32
  | 0 => (x.rows c 0).o0 (x.rows c 1) (S 0) (S 1)
  | 1 => (x.rows c 0).o1 (x.rows c 1) (S 0) (S 1)
  | 2 => (x.rows c 2).o0 (x.rows c 3) (S 2) (S 3)
  | 3 => (x.rows c 2).o1 (x.rows c 3) (S 2) (S 3)
  | 4 => (x.rows c 4).o0 (x.rows c 5) (S 4) (S 5)
  | 5 => (x.rows c 4).o1 (x.rows c 5) (S 4) (S 5)
  | 6 => (x.rows c 6).o0 (x.rows c 7) (S 6) (S 7)
  | 7 => (x.rows c 6).o1 (x.rows c 7) (S 6) (S 7)

/-- The eight stored states, the last first. -/
def pieces (S : Fin 8 → FVec F S128x128 .f32) : List (View.Piece (Elt F) S8x128x128 .f32) :=
  [piece 7 (S 7), piece 6 (S 6), piece 5 (S 5), piece 4 (S 4), piece 3 (S 3), piece 2 (S 2), piece 1 (S 1), piece 0 (S 0)]

/-- The eight stored outputs, the last first. -/
def outPieces (c : Fin 4) (O : Fin 8 → FVec F S64x128 .f32) : List (View.Piece (Elt F) S1x256x1024 .f32) :=
  [outPiece c 7 (O 7), outPiece c 6 (O 6), outPiece c 5 (O 5), outPiece c 4 (O 4), outPiece c 3 (O 3),
    outPiece c 2 (O 2), outPiece c 1 (O 1), outPiece c 0 (O 0)]

/-- The eight states as loaded back after the stores `L`. -/
def found (v : View sig .tc .vmem S8x128x128 .f32) (L : List (View.Piece (Elt F) S8x128x128 .f32)) (h : Fin 8) :
    FVec F S128x128 .f32 :=
  shapeCast S128x128 (v.readCov L (one h).toLoadRect) shapeCasts_S1x128x128_S128x128

/-- The eight states out of the scratch's contents. -/
def kept (s : Vec F S8x128x128 .f32) (h : Fin 8) : FVec F S128x128 .f32 :=
  shapeCast S128x128 (View.ld s (one h)) shapeCasts_S1x128x128_S128x128

section

variable (v : View sig .tc .vmem S8x128x128 .f32) (x : Loads F) (S : Fin 8 → FVec F S128x128 .f32)
  (L : List (View.Piece (Elt F) S8x128x128 .f32))

/-- The scratch's stores up to the first chunk's end. -/
def scr1 : List (View.Piece (Elt F) S8x128x128 .f32) := pieces (x.next 0 S) ++ L
/-- … up to the second's. -/
def scr2 : List (View.Piece (Elt F) S8x128x128 .f32) := pieces (x.next 1 (found v (scr1 x S L))) ++ scr1 x S L
/-- … up to the third's. -/
def scr3 : List (View.Piece (Elt F) S8x128x128 .f32) := pieces (x.next 2 (found v (scr2 v x S L))) ++ scr2 v x S L
/-- … up to the last's. -/
def scr4 : List (View.Piece (Elt F) S8x128x128 .f32) := pieces (x.next 3 (found v (scr3 v x S L))) ++ scr3 v x S L

/-- The stores of outputs. -/
def allOuts : List (View.Piece (Elt F) S1x256x1024 .f32) :=
  outPieces 3 (x.outs 3 (found v (scr3 v x S L))) ++ (outPieces 2 (x.outs 2 (found v (scr2 v x S L))) ++
    (outPieces 1 (x.outs 1 (found v (scr1 x S L))) ++ outPieces 0 (x.outs 0 S)))

end

/-- The store that fills the scratch from the states the call was given. -/
def fill (x : Vec F S1x8x128x128 .f32) : View.Piece (Elt F) S8x128x128 .f32 :=
  ⟨Rect.unit ![0, 0, 0] S8x128x128.size inb_S8x128x128_S8x128x128_0_0_0,
    k0_pay2 (View.ld x (Rect.unit ![0, 0, 0, 0] S1x8x128x128.size inb_S1x8x128x128_S1x8x128x128_0_0_0_0))⟩

/-- The store of the states as the scratch holds them at the end. -/
def final (v : View sig .tc .vmem S8x128x128 .f32) (L : List (View.Piece (Elt F) S8x128x128 .f32)) :
    View.Piece (Elt F) S1x8x128x128 .f32 :=
  ⟨Rect.unit ![0, 0, 0, 0] ![1, 8, 128, 128] inb_S1x8x128x128_S1x8x128x128_0_0_0_0,
    k0_pay1 (v.readCov L (Rect.unit ![0, 0, 0] S8x128x128.size inb_S8x128x128_S8x128x128_0_0_0).toLoadRect)⟩

section

variable (c : Dev nD) (i : grid0.Coords)
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole)
    (arg5 : Memref sig .tc .vmem S1x256x128 .f32) (harg5 : arg5.IsWhole)
    (arg6 : Memref sig .tc .vmem S1x4x16x64 .f32) (harg6 : arg6.IsWhole)
    (arg7 : Memref sig .tc .vmem S1x8x128x128 .f32) (harg7 : arg7.IsWhole)
    (arg8 : Memref sig .tc .vmem S1x256x1024 .f32) (harg8 : arg8.IsWhole)
    (arg9 : Memref sig .tc .vmem S1x8x128x128 .f32) (harg9 : arg9.IsWhole)
    (arg10 : Memref sig .tc .vmem S8x128x128 .f32) (harg10 : arg10.IsWhole)
    (x0 : Vec F S1x256x1024 .f32) (x1 : Vec F S1x256x1024 .f32) (x2 : Vec F S1x256x1024 .f32) (x3 : Vec F S1x256x128 .f32) (x4 : Vec F S1x4x16x64 .f32) (x5 : Vec F S1x8x128x128 .f32)

/-- A batch's first point: its scratch stores. -/
theorem scratch_A (hc0 : cond0_0 i) :
    (kernelRun0_A c i arg2 harg2 arg3 harg3 arg4 harg4 arg5 harg5 arg6 harg6 arg7 harg7 arg8 harg8 arg9 harg9 arg10 harg10 hc0 x0 x1 x2 x3 x4 x5).2.2.1 =
      scr4 arg10.view (loads x0 x1 x2 x3 x4) (found arg10.view [fill x5]) [fill x5] := by
  have h : (kernelRun0_A c i arg2 harg2 arg3 harg3 arg4 harg4 arg5 harg5 arg6 harg6 arg7 harg7 arg8 harg8 arg9 harg9 arg10 harg10 hc0 x0 x1 x2 x3 x4 x5).2.2.1 =
      scr4 arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (found arg10.view [fill (arg7.view.read (Elt F) (harg7.unread x5))]) [fill (arg7.view.read (Elt F) (harg7.unread x5))] := by
    sl_kernel_rfl
  rw [h, harg2.read_unread, harg3.read_unread, harg4.read_unread, harg5.read_unread, harg6.read_unread, harg7.read_unread]

/-- A batch's first point: its stores of outputs. -/
theorem outs_A (hc0 : cond0_0 i) :
    (kernelRun0_A c i arg2 harg2 arg3 harg3 arg4 harg4 arg5 harg5 arg6 harg6 arg7 harg7 arg8 harg8 arg9 harg9 arg10 harg10 hc0 x0 x1 x2 x3 x4 x5).1 =
      allOuts arg10.view (loads x0 x1 x2 x3 x4) (found arg10.view [fill x5]) [fill x5] := by
  have h : (kernelRun0_A c i arg2 harg2 arg3 harg3 arg4 harg4 arg5 harg5 arg6 harg6 arg7 harg7 arg8 harg8 arg9 harg9 arg10 harg10 hc0 x0 x1 x2 x3 x4 x5).1 =
      allOuts arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (found arg10.view [fill (arg7.view.read (Elt F) (harg7.unread x5))]) [fill (arg7.view.read (Elt F) (harg7.unread x5))] := by
    sl_kernel_rfl
  rw [h, harg2.read_unread, harg3.read_unread, harg4.read_unread, harg5.read_unread, harg6.read_unread, harg7.read_unread]

/-- A batch's first point: its store of the states. -/
theorem final_A (hc0 : cond0_0 i) :
    (kernelRun0_A c i arg2 harg2 arg3 harg3 arg4 harg4 arg5 harg5 arg6 harg6 arg7 harg7 arg8 harg8 arg9 harg9 arg10 harg10 hc0 x0 x1 x2 x3 x4 x5).2.1 =
      [final arg10.view (scr4 arg10.view (loads x0 x1 x2 x3 x4) (found arg10.view [fill x5]) [fill x5])] := by
  have h : (kernelRun0_A c i arg2 harg2 arg3 harg3 arg4 harg4 arg5 harg5 arg6 harg6 arg7 harg7 arg8 harg8 arg9 harg9 arg10 harg10 hc0 x0 x1 x2 x3 x4 x5).2.1 =
      [final arg10.view (scr4 arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (found arg10.view [fill (arg7.view.read (Elt F) (harg7.unread x5))]) [fill (arg7.view.read (Elt F) (harg7.unread x5))])] := by
    sl_kernel_rfl
  rw [h, harg2.read_unread, harg3.read_unread, harg4.read_unread, harg5.read_unread, harg6.read_unread, harg7.read_unread]

/-- A later point: its scratch stores. -/
theorem scratch_B (hc0 : ¬cond0_0 i) (xs0 : Vec F S8x128x128 .f32) :
    (kernelRun0_B c i arg2 harg2 arg3 harg3 arg4 harg4 arg5 harg5 arg6 harg6 arg7 harg7 arg8 harg8 arg9 harg9 arg10 harg10 hc0 x0 x1 x2 x3 x4 x5 xs0).2.2.1 =
      scr4 arg10.view (loads x0 x1 x2 x3 x4) (kept xs0) [] := by
  have h : (kernelRun0_B c i arg2 harg2 arg3 harg3 arg4 harg4 arg5 harg5 arg6 harg6 arg7 harg7 arg8 harg8 arg9 harg9 arg10 harg10 hc0 x0 x1 x2 x3 x4 x5 xs0).2.2.1 =
      scr4 arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (kept (arg10.view.read (Elt F) (harg10.unread xs0))) [] := by
    sl_kernel_rfl
  rw [h, harg2.read_unread, harg3.read_unread, harg4.read_unread, harg5.read_unread, harg6.read_unread, harg10.read_unread]

/-- A later point: its stores of outputs. -/
theorem outs_B (hc0 : ¬cond0_0 i) (xs0 : Vec F S8x128x128 .f32) :
    (kernelRun0_B c i arg2 harg2 arg3 harg3 arg4 harg4 arg5 harg5 arg6 harg6 arg7 harg7 arg8 harg8 arg9 harg9 arg10 harg10 hc0 x0 x1 x2 x3 x4 x5 xs0).1 =
      allOuts arg10.view (loads x0 x1 x2 x3 x4) (kept xs0) [] := by
  have h : (kernelRun0_B c i arg2 harg2 arg3 harg3 arg4 harg4 arg5 harg5 arg6 harg6 arg7 harg7 arg8 harg8 arg9 harg9 arg10 harg10 hc0 x0 x1 x2 x3 x4 x5 xs0).1 =
      allOuts arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (kept (arg10.view.read (Elt F) (harg10.unread xs0))) [] := by
    sl_kernel_rfl
  rw [h, harg2.read_unread, harg3.read_unread, harg4.read_unread, harg5.read_unread, harg6.read_unread, harg10.read_unread]

/-- A later point: its store of the states. -/
theorem final_B (hc0 : ¬cond0_0 i) (xs0 : Vec F S8x128x128 .f32) :
    (kernelRun0_B c i arg2 harg2 arg3 harg3 arg4 harg4 arg5 harg5 arg6 harg6 arg7 harg7 arg8 harg8 arg9 harg9 arg10 harg10 hc0 x0 x1 x2 x3 x4 x5 xs0).2.1 =
      [final arg10.view (scr4 arg10.view (loads x0 x1 x2 x3 x4) (kept xs0) [])] := by
  have h : (kernelRun0_B c i arg2 harg2 arg3 harg3 arg4 harg4 arg5 harg5 arg6 harg6 arg7 harg7 arg8 harg8 arg9 harg9 arg10 harg10 hc0 x0 x1 x2 x3 x4 x5 xs0).2.1 =
      [final arg10.view (scr4 arg10.view (loads (arg2.view.read (Elt F) (harg2.unread x0)) (arg3.view.read (Elt F) (harg3.unread x1)) (arg4.view.read (Elt F) (harg4.unread x2)) (arg5.view.read (Elt F) (harg5.unread x3)) (arg6.view.read (Elt F) (harg6.unread x4))) (kept (arg10.view.read (Elt F) (harg10.unread xs0))) [])] := by
    sl_kernel_rfl
  rw [h, harg2.read_unread, harg3.read_unread, harg4.read_unread, harg5.read_unread, harg6.read_unread, harg10.read_unread]

end

end Cert.Point

end
-- ==== Proof.Masks.lean ====
/- The kernel's masks over a 64 by 128 array: row `i`, and column `64 s + j` for token `j` of the pair's head `s`. -/
module

public import proofs.«01_k».proof.Proof.Pair
public import Idealize.ShloMosaic.Lib.Pointwise

@[expose] public section

set_option maxRecDepth 65536

noncomputable section

namespace Cert.Pair

open Cert.KernelIdeal Cert.KernelIdeal.Gen Idealize.ShloMosaic

/-- The column of token `j` of the pair's head `s`. -/
def col (s : Fin 2) (j : Fin 64) : Fin 128 := ⟨64 * s.val + j.val, by omega⟩

/-- Division rounding down, as the program spells it. -/
def floorDiv (n : BitVec 32) (x : IVec S64x128 32) : IVec S64x128 32 :=
  select (andi
      (cmpi .ne (subi (extui 32 (cmpi .sgt x (broadcast S64x128 0#32)) natLt_1_32)
          (extui 32 (cmpi .slt x (broadcast S64x128 0#32)) natLt_1_32))
        (broadcast S64x128 (Scalar.subi (Scalar.extui (Scalar.cmpi .sgt n 0#32)) (Scalar.extui (Scalar.cmpi .slt n 0#32)))))
      (cmpi .ne (remsi x (broadcast S64x128 n)) (broadcast S64x128 0#32)))
    (subi (divsi x (broadcast S64x128 n)) (broadcast S64x128 1#32)) (divsi x (broadcast S64x128 n))

/-- The remainder by two with the divisor's sign, as the program spells it. -/
def parity (x : IVec S64x128 32) : IVec S64x128 32 :=
  select (andi
      (xori (cmpi .slt (remsi x (broadcast S64x128 (Scalar.select (Scalar.cmpi .eq 2#32 0#32) 1#32 2#32)))
          (broadcast S64x128 0#32))
        (broadcastTo S64x128 (broadcast S64x128
          (Scalar.cmpi .slt (Scalar.select (Scalar.cmpi .eq 2#32 0#32) 1#32 2#32) 0#32)) broadcasts_S64x128_S64x128))
      (cmpi .ne (remsi x (broadcast S64x128 (Scalar.select (Scalar.cmpi .eq 2#32 0#32) 1#32 2#32))) (broadcast S64x128 0#32)))
    (addi (remsi x (broadcast S64x128 (Scalar.select (Scalar.cmpi .eq 2#32 0#32) 1#32 2#32)))
      (broadcast S64x128 (Scalar.select (Scalar.cmpi .eq 2#32 0#32) 1#32 2#32)))
    (remsi x (broadcast S64x128 (Scalar.select (Scalar.cmpi .eq 2#32 0#32) 1#32 2#32)))

/-- The place where constant arrays are read. -/
abbrev here : S64x128.Idx := ix2 0 0

theorem rowIdx_eq (i : Fin 64) (c : Fin 128) : rowIdx (ix2 i c) = BitVec.ofNat 32 i.val := by
  unfold rowIdx
  pointwise []

theorem colIdx_row (i : Fin 64) (c : Fin 128) : k0_pay3 (ix2 i c) = k0_pay3 (ix2 0 c) := rfl

theorem colIdx_first : ∀ s j, k0_pay3 (ix2 0 (col s j)) = BitVec.ofNat 32 j.val := by decide +kernel

theorem colIdx_eq (i : Fin 64) (s : Fin 2) (j : Fin 64) : k0_pay3 (ix2 i (col s j)) = BitVec.ofNat 32 j.val :=
  (colIdx_row i _).trans (colIdx_first s j)

theorem floorDiv_at (n : BitVec 32) (x : IVec S64x128 32) (p : S64x128.Idx) :
    floorDiv n x p = floorDiv n (fun _ => x p) here := by
  unfold floorDiv
  pointwise []

theorem parity_at (x : IVec S64x128 32) (p : S64x128.Idx) : parity x p = parity (fun _ => x p) here := by
  unfold parity
  pointwise []

theorem div16 : ∀ i : Fin 64, floorDiv 16#32 (fun _ => BitVec.ofNat 32 i.val) here = BitVec.ofNat 32 (i.val / 16) := by
  decide +kernel

theorem div32 : ∀ i : Fin 64, floorDiv 32#32 (fun _ => BitVec.ofNat 32 i.val) here = BitVec.ofNat 32 (i.val / 32) := by
  decide +kernel

theorem div64 : ∀ i : Fin 64, floorDiv 64#32 (fun _ => BitVec.ofNat 32 i.val) here = BitVec.ofNat 32 (i.val / 64) := by
  decide +kernel

theorem mod2 : ∀ i : Fin 64, parity (fun _ => BitVec.ofNat 32 i.val) here = BitVec.ofNat 32 (i.val % 2) := by
  decide +kernel

theorem left_row (i : Fin 64) (c : Fin 128) : left (ix2 i c) = left (ix2 0 c) := rfl

theorem left_first : ∀ s j, left (ix2 0 (col s j)) = if s = 0 then 1#1 else 0#1 := by decide +kernel

theorem left_eq (i : Fin 64) (s : Fin 2) (j : Fin 64) : left (ix2 i (col s j)) = if s = 0 then 1#1 else 0#1 :=
  (left_row i _).trans (left_first s j)

/-- Comparisons of two words below 64. -/
theorem eq_words : ∀ i j : Fin 64, IntOp.cmpi .eq (BitVec.ofNat 32 i.val) (BitVec.ofNat 32 j.val) = if i = j then 1#1 else 0#1 := by
  decide +kernel

theorem ge_words : ∀ i j : Fin 64, IntOp.cmpi .sge (BitVec.ofNat 32 i.val) (BitVec.ofNat 32 j.val) = if j ≤ i then 1#1 else 0#1 := by
  decide +kernel

theorem gt_words : ∀ i j : Fin 64, IntOp.cmpi .sgt (BitVec.ofNat 32 i.val) (BitVec.ofNat 32 j.val) = if j < i then 1#1 else 0#1 := by
  decide +kernel

/-- The same of words that are numbers below 64. -/
theorem eq_nats (a b : ℕ) (ha : a < 64) (hb : b < 64) :
    IntOp.cmpi .eq (BitVec.ofNat 32 a) (BitVec.ofNat 32 b) = if a = b then 1#1 else 0#1 := by
  have := eq_words ⟨a, ha⟩ ⟨b, hb⟩
  simpa using this

theorem incl_eq (i : Fin 64) (s : Fin 2) (j : Fin 64) : incl (ix2 i (col s j)) = if j ≤ i then 1#1 else 0#1 := by
  have h : incl (ix2 i (col s j)) = IntOp.cmpi .sge (rowIdx (ix2 i (col s j))) (k0_pay3 (ix2 i (col s j))) := rfl
  rw [h, rowIdx_eq, colIdx_eq, ge_words]

theorem strict_eq (i : Fin 64) (s : Fin 2) (j : Fin 64) : strict (ix2 i (col s j)) = if j < i then 1#1 else 0#1 := by
  have h : strict (ix2 i (col s j)) = IntOp.cmpi .sgt (rowIdx (ix2 i (col s j))) (k0_pay3 (ix2 i (col s j))) := rfl
  rw [h, rowIdx_eq, colIdx_eq, gt_words]

theorem eye_cond (i : Fin 64) (s : Fin 2) (j : Fin 64) :
    cmpi .eq rowIdx k0_pay3 (ix2 i (col s j)) = if i = j then 1#1 else 0#1 := by
  have h : cmpi .eq rowIdx k0_pay3 (ix2 i (col s j)) =
    IntOp.cmpi .eq (rowIdx (ix2 i (col s j))) (k0_pay3 (ix2 i (col s j))) := rfl
  rw [h, rowIdx_eq, colIdx_eq, eq_words]

/-- Row and column, divided. -/
theorem row16 (i : Fin 64) (c : Fin 128) : floorDiv 16#32 rowIdx (ix2 i c) = BitVec.ofNat 32 (i.val / 16) := by
  rw [floorDiv_at, rowIdx_eq, div16]
theorem row32 (i : Fin 64) (c : Fin 128) : floorDiv 32#32 rowIdx (ix2 i c) = BitVec.ofNat 32 (i.val / 32) := by
  rw [floorDiv_at, rowIdx_eq, div32]
theorem row64 (i : Fin 64) (c : Fin 128) : floorDiv 64#32 rowIdx (ix2 i c) = BitVec.ofNat 32 (i.val / 64) := by
  rw [floorDiv_at, rowIdx_eq, div64]
theorem col16 (i : Fin 64) (s : Fin 2) (j : Fin 64) :
    floorDiv 16#32 k0_pay3 (ix2 i (col s j)) = BitVec.ofNat 32 (j.val / 16) := by
  rw [floorDiv_at, colIdx_eq, div16]
theorem col32 (i : Fin 64) (s : Fin 2) (j : Fin 64) :
    floorDiv 32#32 k0_pay3 (ix2 i (col s j)) = BitVec.ofNat 32 (j.val / 32) := by
  rw [floorDiv_at, colIdx_eq, div32]
theorem col64 (i : Fin 64) (s : Fin 2) (j : Fin 64) :
    floorDiv 64#32 k0_pay3 (ix2 i (col s j)) = BitVec.ofNat 32 (j.val / 64) := by
  rw [floorDiv_at, colIdx_eq, div64]

/-- The parity of a word below 64. -/
theorem parity_nat (a : ℕ) (ha : a < 64) : parity (fun _ => BitVec.ofNat 32 a) here = BitVec.ofNat 32 (a % 2) :=
  mod2 ⟨a, ha⟩

theorem diag_eq (i : Fin 64) (s : Fin 2) (j : Fin 64) :
    diag (ix2 i (col s j)) = if i.val / 16 = j.val / 16 then 1#1 else 0#1 := by
  have h : diag (ix2 i (col s j)) =
    IntOp.cmpi .eq (floorDiv 16#32 rowIdx (ix2 i (col s j))) (floorDiv 16#32 k0_pay3 (ix2 i (col s j))) := rfl
  rw [h, row16, col16, eq_nats _ _ (by omega) (by omega)]

/-- Conjunctions of bits that say whether. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem low16_eq (i : Fin 64) (s : Fin 2) (j : Fin 64) : low16 (ix2 i (col s j)) =
    if (i.val / 32 = j.val / 32 ∧ (i.val / 16) % 2 = 1) ∧ (j.val / 16) % 2 = 0 then 1#1 else 0#1 := by
  have h : low16 (ix2 i (col s j)) =
    IntOp.andi (IntOp.andi
      (IntOp.cmpi .eq (floorDiv 32#32 rowIdx (ix2 i (col s j))) (floorDiv 32#32 k0_pay3 (ix2 i (col s j))))
      (IntOp.cmpi .eq (parity (floorDiv 16#32 rowIdx) (ix2 i (col s j))) 1#32))
      (IntOp.cmpi .eq (parity (floorDiv 16#32 k0_pay3) (ix2 i (col s j))) 0#32) := rfl
  rw [h, parity_at, parity_at (floorDiv 16#32 k0_pay3), row32, col32, row16, col16, parity_nat _ (by omega),
    parity_nat _ (by omega), show (1#32 : BitVec 32) = BitVec.ofNat 32 1 from rfl,
    show (0#32 : BitVec 32) = BitVec.ofNat 32 0 from rfl, eq_nats _ _ (by omega) (by omega),
    eq_nats _ _ (by omega) (by omega), eq_nats _ _ (by omega) (by omega), andi_ite, andi_ite]

theorem low32_eq (i : Fin 64) (s : Fin 2) (j : Fin 64) : low32 (ix2 i (col s j)) =
    if (i.val / 64 = j.val / 64 ∧ (i.val / 32) % 2 = 1) ∧ (j.val / 32) % 2 = 0 then 1#1 else 0#1 := by
  have h : low32 (ix2 i (col s j)) =
    IntOp.andi (IntOp.andi
      (IntOp.cmpi .eq (floorDiv 64#32 rowIdx (ix2 i (col s j))) (floorDiv 64#32 k0_pay3 (ix2 i (col s j))))
      (IntOp.cmpi .eq (parity (floorDiv 32#32 rowIdx) (ix2 i (col s j))) 1#32))
      (IntOp.cmpi .eq (parity (floorDiv 32#32 k0_pay3) (ix2 i (col s j))) 0#32) := rfl
  rw [h, parity_at, parity_at (floorDiv 32#32 k0_pay3), row64, col64, row32, col32, parity_nat _ (by omega),
    parity_nat _ (by omega), show (1#32 : BitVec 32) = BitVec.ofNat 32 1 from rfl,
    show (0#32 : BitVec 32) = BitVec.ofNat 32 0 from rfl, eq_nats _ _ (by omega) (by omega),
    eq_nats _ _ (by omega) (by omega), eq_nats _ _ (by omega) (by omega), andi_ite, andi_ite]

end Cert.Pair

end
-- ==== Proof.DeltaRule.lean ====
/- The gated delta rule over the reals: the recurrence over the tokens, its solution over one chunk, and the inverse of
   the chunk's unit lower triangular matrix as a product of powers followed by merges of neighbouring blocks. -/
module

public import Mathlib.LinearAlgebra.Matrix.NonsingularInverse
public import Mathlib.Analysis.SpecialFunctions.Exp
public import Mathlib.Tactic.NoncommRing

@[expose] public section

noncomputable section

namespace Cert.DeltaRule

open Finset

/-! ## The recurrence -/

variable {K V : Type} [Fintype K]

/-- One token: the state decays by `exp g`, and the part of `v` that the decayed state does not already give at `k`, scaled
    by `b`, is added at `k`. -/
def next (k : K → ℝ) (v : V → ℝ) (g b : ℝ) (S : K → V → ℝ) : K → V → ℝ := fun d e =>
  S d e * Real.exp g + k d * ((v e - ∑ a, k a * (S a e * Real.exp g)) * b)

/-- The state before token `t`. -/
def state (k : ℕ → K → ℝ) (v : ℕ → V → ℝ) (g b : ℕ → ℝ) (S : K → V → ℝ) : ℕ → K → V → ℝ
  | 0 => S
  | t + 1 => next (k t) (v t) (g t) (b t) (state k v g b S t)

/-- What token `t` reads: its query against the state after it. -/
def out (q k : ℕ → K → ℝ) (v : ℕ → V → ℝ) (g b : ℕ → ℝ) (S : K → V → ℝ) (t : ℕ) (e : V) : ℝ :=
  ∑ d, q t d * state k v g b S (t + 1) d e

/-- The recurrence from token `n` on is the recurrence of the later tokens from the state before token `n`. -/
theorem state_add (k : ℕ → K → ℝ) (v : ℕ → V → ℝ) (g b : ℕ → ℝ) (S : K → V → ℝ) (n t : ℕ) :
    state k v g b S (n + t)
      = state (fun i => k (n + i)) (fun i => v (n + i)) (fun i => g (n + i)) (fun i => b (n + i)) (state k v g b S n) t := by
  induction t with
  | zero => rfl
  | succ t ih => rw [← Nat.add_assoc, state, state, ih]

/-- … and so are the outputs. -/
theorem out_add (q k : ℕ → K → ℝ) (v : ℕ → V → ℝ) (g b : ℕ → ℝ) (S : K → V → ℝ) (n t : ℕ) (e : V) :
    out q k v g b S (n + t) e
      = out (fun i => q (n + i)) (fun i => k (n + i)) (fun i => v (n + i)) (fun i => g (n + i)) (fun i => b (n + i))
          (state k v g b S n) t e := by
  unfold out
  rw [Nat.add_assoc, state_add]

/-- The state depends only on the tokens before it. -/
theorem state_congr {k k' : ℕ → K → ℝ} {v v' : ℕ → V → ℝ} {g g' b b' : ℕ → ℝ} (S : K → V → ℝ) (n : ℕ)
    (h : ∀ t < n, k t = k' t ∧ v t = v' t ∧ g t = g' t ∧ b t = b' t) :
    state k v g b S n = state k' v' g' b' S n := by
  induction n with
  | zero => rfl
  | succ n ih =>
    obtain ⟨h1, h2, h3, h4⟩ := h n (Nat.lt_succ_self n)
    rw [state, state, ih fun t ht => h t (Nat.lt_succ_of_lt ht), h1, h2, h3, h4]

/-- The log-decays summed up to and with token `t`. -/
def cum (g : ℕ → ℝ) (t : ℕ) : ℝ := ∑ j ∈ range (t + 1), g j

/-- The recurrence unrolled: if the added values `D` solve the triangular system, the state after token `t` is the decayed
    first state plus the decayed outer products. -/
theorem state_unrolled (k : ℕ → K → ℝ) (v : ℕ → V → ℝ) (g b : ℕ → ℝ) (S : K → V → ℝ) (n : ℕ) (D : ℕ → V → ℝ)
    (hD : ∀ t < n, ∀ e, D t e + ∑ j ∈ range t, b t * Real.exp (cum g t - cum g j) * (∑ d, k t d * k j d) * D j e
      = b t * v t e - b t * Real.exp (cum g t) * ∑ d, k t d * S d e) :
    ∀ t < n, ∀ d e, state k v g b S (t + 1) d e
      = Real.exp (cum g t) * S d e + ∑ j ∈ range (t + 1), Real.exp (cum g t - cum g j) * k j d * D j e := by
  -- before token `t`, once decayed
  have key : ∀ t < n, (∀ d e, state k v g b S t d e * Real.exp (g t)
      = Real.exp (cum g t) * S d e + ∑ j ∈ range t, Real.exp (cum g t - cum g j) * k j d * D j e) →
      ∀ d e, state k v g b S (t + 1) d e
      = Real.exp (cum g t) * S d e + ∑ j ∈ range (t + 1), Real.exp (cum g t - cum g j) * k j d * D j e := by
    intro t ht hs d e
    have hd : (v t e - ∑ a, k t a * (state k v g b S t a e * Real.exp (g t))) * b t = D t e := by
      have h := hD t ht e
      have : ∑ a, k t a * (state k v g b S t a e * Real.exp (g t))
          = Real.exp (cum g t) * ∑ d, k t d * S d e
            + ∑ j ∈ range t, Real.exp (cum g t - cum g j) * (∑ d, k t d * k j d) * D j e := by
        simp only [hs, mul_add, sum_add_distrib, mul_sum, sum_mul]
        congr 1
        · exact sum_congr rfl fun _ _ => by ring
        · rw [sum_comm]
          exact sum_congr rfl fun _ _ => sum_congr rfl fun _ _ => by ring
      rw [this]
      have h2 : ∑ j ∈ range t, b t * Real.exp (cum g t - cum g j) * (∑ d, k t d * k j d) * D j e
          = b t * ∑ j ∈ range t, Real.exp (cum g t - cum g j) * (∑ d, k t d * k j d) * D j e := by
        rw [mul_sum]; exact sum_congr rfl fun _ _ => by ring
      rw [h2] at h
      linarith
    rw [state, next, hd, hs, sum_range_succ, sub_self, Real.exp_zero]
    ring
  intro t
  induction t with
  | zero =>
    intro h0
    exact key 0 h0 fun d e => by simp [state, cum, mul_comm]
  | succ t ih =>
    intro ht
    refine key (t + 1) ht fun d e => ?_
    have hc : cum g (t + 1) = cum g t + g (t + 1) := by simp [cum, sum_range_succ]
    rw [ih (by omega), add_mul, sum_mul, hc, Real.exp_add]
    congr 1
    · ring
    · refine sum_congr rfl fun j _ => ?_
      rw [show cum g t + g (t + 1) - cum g j = (cum g t - cum g j) + g (t + 1) by ring, Real.exp_add]
      ring

/-! ## The inverse of the chunk's triangular matrix -/

variable {C : ℕ}

/-- A matrix with the entries outside the diagonal blocks of `s` rows cleared. -/
def blocks (s : ℕ) (M : Matrix (Fin C) (Fin C) ℝ) : Matrix (Fin C) (Fin C) ℝ := fun i j =>
  if i.val / s = j.val / s then M i j else 0

/-- The entries that join two neighbouring diagonal blocks of `s` rows: the row in the second of a pair, the column in the first. -/
def joins (s : ℕ) (M : Matrix (Fin C) (Fin C) ℝ) : Matrix (Fin C) (Fin C) ℝ := fun i j =>
  if i.val / (2 * s) = j.val / (2 * s) ∧ (i.val / s) % 2 = 1 ∧ (j.val / s) % 2 = 0 then M i j else 0

/-- A power of a strictly lower triangular block diagonal matrix has entries only that far below the diagonal, inside the blocks. -/
theorem pow_strict (s : ℕ) (N : Matrix (Fin C) (Fin C) ℝ)
    (hN : ∀ i j, ¬(i.val / s = j.val / s ∧ j.val < i.val) → N i j = 0) :
    ∀ n (i j : Fin C), ¬(i.val / s = j.val / s ∧ j.val + n ≤ i.val) → (N ^ n) i j = 0 := by
  intro n
  induction n with
  | zero =>
    intro i j h
    rw [pow_zero, Matrix.one_apply, if_neg]
    rintro rfl
    exact h ⟨rfl, le_refl _⟩
  | succ n ih =>
    intro i j h
    rw [pow_succ, Matrix.mul_apply]
    refine sum_eq_zero fun a _ => ?_
    by_cases h1 : i.val / s = a.val / s ∧ a.val + n ≤ i.val
    · by_cases h2 : a.val / s = j.val / s ∧ j.val < a.val
      · exact absurd ⟨h1.1.trans h2.1, by omega⟩ h
      · rw [hN a j h2, mul_zero]
    · rw [ih i a h1, zero_mul]

/-- So its power by the block's number of rows vanishes. -/
theorem pow_block (s : ℕ) (N : Matrix (Fin C) (Fin C) ℝ) (hs : 0 < s)
    (hN : ∀ i j, ¬(i.val / s = j.val / s ∧ j.val < i.val) → N i j = 0) : N ^ s = 0 := by
  ext i j
  refine pow_strict s N hN s i j fun h => ?_
  have h1 := Nat.div_add_mod i.val s
  have h2 := Nat.div_add_mod j.val s
  have h3 := Nat.mod_lt i.val hs
  rw [h.1] at h1
  omega

/-- The four factors `1 + N`, `1 + N²`, `1 + N⁴`, `1 + N⁸`, as the blocks of 16 rows are inverted. -/
def doubled (N : Matrix (Fin C) (Fin C) ℝ) : Matrix (Fin C) (Fin C) ℝ :=
  let N2 := N * N
  let p0 := 1 + N
  let N4 := N2 * N2
  let p1 := p0 + N2 * p0
  let N8 := N4 * N4
  let p2 := p1 + N4 * p1
  p2 + N8 * p2

/-- Their product is the inverse of `1 - N` when `N ^ 16` vanishes. -/
theorem doubled_mul (N : Matrix (Fin C) (Fin C) ℝ) (h : N ^ 16 = 0) : doubled N * (1 - N) = 1 := by
  have : doubled N * (1 - N) = 1 - N ^ 16 := by
    unfold doubled
    noncomm_ring
  rw [this, h, sub_zero]

/-- A product of block diagonal matrices is block diagonal. -/
theorem mul_zero_outside (s : ℕ) (A B : Matrix (Fin C) (Fin C) ℝ)
    (hA : ∀ i j, i.val / s ≠ j.val / s → A i j = 0) (hB : ∀ i j, i.val / s ≠ j.val / s → B i j = 0)
    (i j : Fin C) (h : i.val / s ≠ j.val / s) : (A * B) i j = 0 := by
  rw [Matrix.mul_apply]
  refine sum_eq_zero fun a _ => ?_
  by_cases h1 : i.val / s = a.val / s
  · rw [hB a j (h1 ▸ h), mul_zero]
  · rw [hA i a h1, zero_mul]

/-- The blocks' inverse is block diagonal. -/
theorem doubled_outside (s : ℕ) (N : Matrix (Fin C) (Fin C) ℝ) (hN : ∀ i j, i.val / s ≠ j.val / s → N i j = 0)
    (i j : Fin C) (h : i.val / s ≠ j.val / s) : doubled N i j = 0 := by
  have add : ∀ A B : Matrix (Fin C) (Fin C) ℝ, (∀ i j, i.val / s ≠ j.val / s → A i j = 0) →
      (∀ i j, i.val / s ≠ j.val / s → B i j = 0) → ∀ i j, i.val / s ≠ j.val / s → (A + B) i j = 0 := by
    intro A B hA hB i j h
    rw [Matrix.add_apply, hA i j h, hB i j h, add_zero]
  have one : ∀ i j : Fin C, i.val / s ≠ j.val / s → (1 : Matrix (Fin C) (Fin C) ℝ) i j = 0 := by
    intro i j h
    rw [Matrix.one_apply, if_neg]
    rintro rfl
    exact h rfl
  have mul := mul_zero_outside (C := C) s
  unfold doubled
  have h0 := add _ _ one hN
  have h2 := mul _ _ hN hN
  have h4 := mul _ _ h2 h2
  have h8 := mul _ _ h4 h4
  have h1 := add _ _ h0 (mul _ _ h2 h0)
  have h3 := add _ _ h1 (mul _ _ h4 h1)
  exact add _ _ h3 (mul _ _ h8 h3) i j h

/-- One merge: neighbouring blocks of `s` rows become blocks of `2 s` rows. -/
def merged (s : ℕ) (M p : Matrix (Fin C) (Fin C) ℝ) : Matrix (Fin C) (Fin C) ℝ := p - p * (joins s M * p)

/-- A merge of the inverse of the blocks of `s` rows is the inverse of the blocks of `2 s` rows, and block diagonal. -/
theorem merged_spec (s : ℕ) (M p : Matrix (Fin C) (Fin C) ℝ) (hM : ∀ i j : Fin C, i.val ≤ j.val → M i j = 0)
    (hp : p * (1 + blocks s M) = 1) (hb : ∀ i j, i.val / s ≠ j.val / s → p i j = 0) :
    merged s M p * (1 + blocks (2 * s) M) = 1 ∧ ∀ i j, i.val / (2 * s) ≠ j.val / (2 * s) → merged s M p i j = 0 := by
  have two : ∀ a : ℕ, a / (2 * s) = a / s / 2 := fun a => by rw [Nat.mul_comm, Nat.div_div_eq_div_mul]
  have hsplit : blocks (2 * s) M = blocks s M + joins s M := by
    ext i j
    rw [Matrix.add_apply]
    unfold blocks joins
    rw [two, two]
    rcases Nat.lt_or_ge j.val i.val with h | h
    · have : j.val / s ≤ i.val / s := Nat.div_le_div_right h.le
      split_ifs <;> first | omega | simp
    · simp [hM i j h]
  have hzero : joins s M * p * joins s M = 0 := by
    ext i j
    rw [Matrix.mul_apply]
    refine sum_eq_zero fun c _ => ?_
    rw [Matrix.mul_apply, sum_mul]
    refine sum_eq_zero fun a _ => ?_
    by_cases h1 : (a.val / s) % 2 = 0
    · by_cases h2 : (c.val / s) % 2 = 1
      · rw [hb a c (by omega), mul_zero, zero_mul]
      · rw [show joins s M c j = 0 by unfold joins; exact if_neg fun h => h2 h.2.1, mul_zero]
    · rw [show joins s M i a = 0 by unfold joins; exact if_neg fun h => h1 h.2.2, zero_mul, zero_mul]
  refine ⟨?_, fun i j h => ?_⟩
  · rw [hsplit]
    have : merged s M p * (1 + (blocks s M + joins s M))
        = p * (1 + blocks s M) + p * joins s M - p * joins s M * (p * (1 + blocks s M))
          - p * (joins s M * p * joins s M) := by
      unfold merged
      noncomm_ring
    rw [this, hp, hzero]
    simp
  · have wide : ∀ i j : Fin C, i.val / (2 * s) ≠ j.val / (2 * s) → p i j = 0 := fun i j h =>
      hb i j fun e => h (by rw [two, two, e])
    have hj : ∀ i j : Fin C, i.val / (2 * s) ≠ j.val / (2 * s) → joins s M i j = 0 := fun i j h => if_neg fun e => h e.1
    unfold merged
    rw [Matrix.sub_apply, wide i j h, mul_zero_outside (2 * s) _ _ wide (mul_zero_outside (2 * s) _ _ hj wide) i j h, sub_zero]

/-- The inverse of a chunk of 64 rows: the blocks of 16 rows, merged twice. -/
def inverse (M : Matrix (Fin 64) (Fin 64) ℝ) : Matrix (Fin 64) (Fin 64) ℝ :=
  merged 32 M (merged 16 M (doubled (blocks 16 (-M))))

/-- It inverts `1 + M` when `M` is strictly lower triangular. -/
theorem mul_inverse (M : Matrix (Fin 64) (Fin 64) ℝ) (hM : ∀ i j : Fin 64, i.val ≤ j.val → M i j = 0) :
    (1 + M) * inverse M = 1 := by
  have hN : ∀ i j : Fin 64, ¬(i.val / 16 = j.val / 16 ∧ j.val < i.val) → blocks 16 (-M) i j = 0 := by
    intro i j h
    unfold blocks
    split_ifs with h1
    · have := hM i j (by by_contra h2; exact h ⟨h1, by omega⟩)
      rw [Matrix.neg_apply, this, neg_zero]
    · rfl
  have hneg : (1 : Matrix (Fin 64) (Fin 64) ℝ) + blocks 16 M = 1 - blocks 16 (-M) := by
    ext i j
    rw [Matrix.add_apply, Matrix.sub_apply]
    unfold blocks
    split_ifs
    · rw [Matrix.neg_apply]; ring
    · ring
  have h16 := doubled_mul _ (pow_block 16 _ (by norm_num) hN)
  rw [← hneg] at h16
  have o16 := doubled_outside 16 (blocks 16 (-M)) fun i j h => hN i j fun e => h e.1
  obtain ⟨h32, o32⟩ := merged_spec 16 M _ hM h16 o16
  obtain ⟨h64, -⟩ := merged_spec 32 M _ hM h32 o32
  have hall : blocks (2 * 32) M = M := by
    ext i j
    unfold blocks
    rw [if_pos]
    have := i.isLt
    have := j.isLt
    omega
  rw [hall] at h64
  exact mul_eq_one_comm.mp h64

end Cert.DeltaRule

end
-- ==== Proof.Lift.lean ====
/- Real numbers inside the extended reals: sums of products of reals are real. -/
module

public import Idealize.ShloMosaic.Lib.Pointwise

@[expose] public section

noncomputable section

namespace Cert.Lift

open Idealize.ShloMosaic

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real below `⊤` and above `⊥` is the real it converts to. -/
theorem coe_toReal {x : EReal} (h : x < ⊤ ∧ ⊥ < x) : x = ((x.toReal : ℝ) : EReal) :=
  (EReal.coe_toReal h.1.ne h.2.ne').symm

end Cert.Lift

end
-- ==== Proof.Stage.lean ====
/- The kernel's stages on real numbers: what each array of a pair of heads holds when its arguments are real. -/
module

public import proofs.«01_k».proof.Proof.Masks
public import proofs.«01_k».proof.Proof.DeltaRule
public import proofs.«01_k».proof.Proof.Lift

@[expose] public section

set_option maxRecDepth 65536

noncomputable section

namespace Cert.Pair

open Cert.KernelIdeal Cert.KernelIdeal.Gen Cert.Lift Idealize.ShloMosaic

/-- The array of a pair holds these two real squares side by side. -/
def IsPair (X : FVec Ideal S64x128 .f32) (A : Fin 2 → Matrix (Fin 64) (Fin 64) ℝ) : Prop :=
  ∀ i s j, X (ix2 i (col s j)) = ((A s i j : ℝ) : EReal)

/-- The array holds these real numbers. -/
def Holds {a b : ℕ} (X : FVec Ideal ⟨2, ![a, b]⟩ .f32) (f : Fin a → Fin b → ℝ) : Prop :=
  ∀ i j, X (ix2 i j) = ((f i j : ℝ) : EReal)

/-- Choosing by a bit that says whether. -/
theorem select_ite {α : Type} (p : Prop) [Decidable p] (x y : α) :
    Scalar.select (if p then 1#1 else 0#1) x y = if p then x else y := by
  by_cases h : p <;> simp [h, Scalar.select]

/-- The extended real of a choice. -/
theorem coe_ite (p : Prop) [Decidable p] (x y : ℝ) :
    (if p then (x : EReal) else (y : EReal)) = ((if p then x else y : ℝ) : EReal) := by
  split <;> rfl

theorem col_zero (j : Fin 64) (h : j.val < 128) : (⟨j.val, h⟩ : Fin 128) = col 0 j := by
  ext; simp [col]

theorem col_one (j : Fin 64) (h : 64 + j.val < 128) : (⟨64 + j.val, h⟩ : Fin 128) = col 1 j := by
  ext; simp [col]

/-- The product of two pairs. -/
theorem mul_pair {X Y : FVec Ideal S64x128 .f32} {A B : Fin 2 → Matrix (Fin 64) (Fin 64) ℝ} (hx : IsPair X A)
    (hy : IsPair Y B) : IsPair (mul X Y) (fun s => A s * B s) := by
  intro i s j
  unfold mul bdiag keep zeros
  pointwise []
  simp only [col_zero, col_one, left_eq, hx _ _ _, hy _ _ _, select_ite]
  fin_cases s <;> simp [Matrix.mul_apply, coe_sum, EReal.coe_mul]

theorem square_pair {N P : FVec Ideal S64x128 .f32} {A B : Fin 2 → Matrix (Fin 64) (Fin 64) ℝ} (hn : IsPair N A)
    (hp : IsPair P B) : IsPair (square N P) (fun s => A s * A s) := by
  intro i s j
  unfold square mul2 bdiag keep zeros
  pointwise []
  simp only [col_zero, col_one, left_eq, hn _ _ _, hp _ _ _, select_ite]
  fin_cases s <;> simp [Matrix.mul_apply, coe_sum, EReal.coe_mul]

theorem grown_pair {N P : FVec Ideal S64x128 .f32} {A B : Fin 2 → Matrix (Fin 64) (Fin 64) ℝ} (hn : IsPair N A)
    (hp : IsPair P B) : IsPair (grown N P) (fun s => B s + A s * B s) := by
  intro i s j
  unfold grown mul2 bdiag keep zeros
  pointwise []
  simp only [col_zero, col_one, left_eq, hn _ _ _, hp _ _ _, select_ite]
  fin_cases s <;> simp [Matrix.mul_apply, coe_sum, EReal.coe_mul]

theorem eye_pair : IsPair (k0_pay7 (F := Ideal)) (fun _ => 1) := by
  intro i s j
  unfold k0_pay7
  pointwise []
  rw [colIdx_eq, eq_words, select_ite, Matrix.one_apply]
  split <;> rfl

theorem add_pair {X Y : FVec Ideal S64x128 .f32} {A B : Fin 2 → Matrix (Fin 64) (Fin 64) ℝ} (hx : IsPair X A)
    (hy : IsPair Y B) : IsPair (addf X Y) (fun s => A s + B s) := by
  intro i s j
  pointwise []
  rw [hx, hy, ← EReal.coe_add, Matrix.add_apply]

theorem sub_pair {X Y : FVec Ideal S64x128 .f32} {A B : Fin 2 → Matrix (Fin 64) (Fin 64) ℝ} (hx : IsPair X A)
    (hy : IsPair Y B) : IsPair (subf X Y) (fun s => A s - B s) := by
  intro i s j
  pointwise []
  rw [hx, hy, ← EReal.coe_sub, Matrix.sub_apply]

/-- The entries where a mask holds. -/
theorem keep_pair {X : FVec Ideal S64x128 .f32} {A : Fin 2 → Matrix (Fin 64) (Fin 64) ℝ} (hx : IsPair X A)
    (c : IVec S64x128 1) (p : Fin 64 → Fin 64 → Prop) [∀ i j, Decidable (p i j)]
    (hc : ∀ i s j, c (ix2 i (col s j)) = if p i j then 1#1 else 0#1) :
    IsPair (keep c X) (fun s i j => if p i j then A s i j else 0) := by
  intro i s j
  unfold keep zeros
  pointwise []
  rw [hx, hc, select_ite, ← EReal.coe_zero, coe_ite]

theorem nil_pair {M : FVec Ideal S64x128 .f32} {A : Fin 2 → Matrix (Fin 64) (Fin 64) ℝ} (hm : IsPair M A) :
    IsPair (nil M) (fun s => DeltaRule.blocks 16 (-(A s))) := by
  intro i s j
  unfold nil keep zeros
  pointwise []
  rw [hm, diag_eq, select_ite, ← EReal.coe_zero, ← EReal.coe_sub, coe_ite, zero_sub]
  rfl

theorem small_pair {N : FVec Ideal S64x128 .f32} {A : Fin 2 → Matrix (Fin 64) (Fin 64) ℝ} (hn : IsPair N A) :
    IsPair (small N) (fun s => DeltaRule.doubled (A s)) := by
  have p0 := add_pair eye_pair hn
  have n2 := mul_pair hn hn
  have n4 := square_pair n2 p0
  have p1 := grown_pair n2 p0
  have n8 := square_pair n4 p1
  have p2 := grown_pair n4 p1
  exact add_pair p2 (mul_pair n8 p2)

theorem join_pair {M P : FVec Ideal S64x128 .f32} {A B : Fin 2 → Matrix (Fin 64) (Fin 64) ℝ} (hm : IsPair M A)
    (hp : IsPair P B) (c : IVec S64x128 1) (b : ℕ)
    (hc : ∀ i s j, c (ix2 i (col s j)) =
      if i.val / (2 * b) = j.val / (2 * b) ∧ (i.val / b) % 2 = 1 ∧ (j.val / b) % 2 = 0 then 1#1 else 0#1) :
    IsPair (join c M P) (fun s => DeltaRule.merged b (A s) (B s)) :=
  sub_pair hp (mul_pair hp (mul_pair (keep_pair hm c _ hc) hp))

/-- The kernel's inverse is the inverse. -/
theorem inv_pair {M : FVec Ideal S64x128 .f32} {A : Fin 2 → Matrix (Fin 64) (Fin 64) ℝ} (hm : IsPair M A) :
    IsPair (inv M) (fun s => DeltaRule.inverse (A s)) :=
  join_pair hm (join_pair hm (small_pair (nil_pair hm)) low16 16 fun i s j => by rw [low16_eq]; simp only [and_assoc])
    low32 32 fun i s j => by rw [low32_eq]; simp only [and_assoc]

/-! ## One head's numbers -/

/-- The real numbers of one head over one chunk: queries, keys, values, summed log-decays, betas. -/
structure Reals where
  q : Fin 64 → Fin 128 → ℝ
  k : Fin 64 → Fin 128 → ℝ
  v : Fin 64 → Fin 128 → ℝ
  G : Fin 64 → ℝ
  b : Fin 64 → ℝ

namespace Reals

/-- The decay between two tokens. -/
def decay (R : Reals) (i j : Fin 64) : ℝ := if j ≤ i then Real.exp (R.G i - R.G j) else 0

/-- Queries against keys, with the decay. -/
def attn (R : Reals) : Matrix (Fin 64) (Fin 64) ℝ := fun i j => (∑ d, R.q i d * R.k j d) * R.decay i j

/-- Scaled keys against keys, with the decay, strictly below the diagonal. -/
def lower (R : Reals) : Matrix (Fin 64) (Fin 64) ℝ := fun i j =>
  if j < i then (∑ d, R.k i d * R.b i * R.k j d) * R.decay i j else 0

/-- The solved keys. -/
def w (R : Reals) (i : Fin 64) (d : Fin 128) : ℝ :=
  ∑ j, DeltaRule.inverse R.lower i j * (R.k j d * R.b j * Real.exp (R.G j))

/-- The solved values. -/
def u (R : Reals) (i : Fin 64) (e : Fin 128) : ℝ := ∑ j, DeltaRule.inverse R.lower i j * (R.v j e * R.b j)

/-- The updates from a state. -/
def D (R : Reals) (S : Fin 128 → Fin 128 → ℝ) (i : Fin 64) (e : Fin 128) : ℝ := R.u i e - ∑ d, R.w i d * S d e

/-- The outputs from a state. -/
def o (R : Reals) (S : Fin 128 → Fin 128 → ℝ) (i : Fin 64) (e : Fin 128) : ℝ :=
  ∑ d, R.q i d * Real.exp (R.G i) * S d e + ∑ j, R.attn i j * R.D S j e

/-- The state after the chunk. -/
def next (R : Reals) (S : Fin 128 → Fin 128 → ℝ) (d e : Fin 128) : ℝ :=
  S d e * Real.exp (R.G 63) + ∑ j, R.k j d * Real.exp (R.G 63 - R.G j) * R.D S j e

end Reals

/-- What is loaded of one head is these real numbers. -/
structure Rows.Real (x : Rows Ideal) (R : Reals) : Prop where
  q : Holds x.q R.q
  k : Holds x.k R.k
  v : Holds x.v R.v
  g : ∀ i, x.g (ix2 i 0) = ((R.G i : ℝ) : EReal)
  b : ∀ i, x.b (ix2 i 0) = ((R.b i : ℝ) : EReal)
  r : ∀ j, x.r (ix2 0 j) = ((R.G j : ℝ) : EReal)

/-- The two heads of a pair. -/
def pick (R T : Reals) (s : Fin 2) : Reals := if s = 0 then R else T

theorem products_top (q kb k : FVec Ideal S64x128 .f32) (i j : Fin 64) :
    products q kb k (ix2 (col 0 i) j) = ∑ d, q (ix2 i d) * k (ix2 j d) := by
  unfold products
  pointwise []
  simp [col]

theorem products_bottom (q kb k : FVec Ideal S64x128 .f32) (i j : Fin 64) :
    products q kb k (ix2 (col 1 i) j) = ∑ d, kb (ix2 i d) * k (ix2 j d) := by
  unfold products
  pointwise []
  simp [col]

namespace Rows.Real

variable {x y : Rows Ideal} {R T : Reals}

theorem a2_top (h : x.Real R) (i j : Fin 64) (hi : i.val < 128) :
    x.a2 (ix2 ⟨i.val, hi⟩ j) = ((∑ d, R.q i d * R.k j d : ℝ) : EReal) := by
  unfold Rows.a2
  rw [col_zero, products_top, coe_sum]
  simp only [h.q _ _, h.k _ _, EReal.coe_mul]

theorem a2_bottom (h : x.Real R) (i j : Fin 64) (hi : 64 + i.val < 128) :
    x.a2 (ix2 ⟨64 + i.val, hi⟩ j) = ((∑ d, R.k i d * R.b i * R.k j d : ℝ) : EReal) := by
  unfold Rows.a2
  rw [col_one, products_bottom, coe_sum]
  unfold scaled spread
  pointwise []
  simp only [h.k _ _, h.b _, EReal.coe_mul]

/-- The decays of a pair. -/
theorem decay (h : x.Real R) (h' : y.Real T) : IsPair (Pair.decay x.g y.g x.r y.r) (fun s => (pick R T s).decay) := by
  have hexp : ∀ (p : Prop) [Decidable p] (a : ℝ),
      (if p then Ideal.exp (if p then (a : EReal) else 0) else 0) = ((if p then Real.exp a else 0 : ℝ) : EReal) := by
    intro p _ a
    split
    · rw [Ideal.exp_coe]
    · rfl
  intro i s j
  unfold Pair.decay keep zeros
  pointwise []
  rw [incl_eq, left_eq, select_ite, select_ite, select_ite]
  fin_cases s
  · simp [col, h.g, h.r, pick, Reals.decay, ← EReal.coe_sub, hexp]
  · simp [col, h'.g, h'.r, pick, Reals.decay, ← EReal.coe_sub, hexp]

/-- The attention of a pair. -/
theorem attn (h : x.Real R) (h' : y.Real T) : IsPair (x.attn y) (fun s => (pick R T s).attn) := by
  intro i s j
  unfold Rows.attn Pair.attn sides
  pointwise []
  rw [h.decay h']
  fin_cases s
  · simp [col, h.a2_top, pick, Reals.attn, EReal.coe_mul]
  · simp [col, h'.a2_top, pick, Reals.attn, EReal.coe_mul]

/-- The triangular matrices of a pair. -/
theorem lower (h : x.Real R) (h' : y.Real T) :
    IsPair (Pair.lower x.a2 y.a2 (Pair.decay x.g y.g x.r y.r)) (fun s => (pick R T s).lower) := by
  intro i s j
  unfold Pair.lower sides keep zeros
  pointwise []
  rw [h.decay h', strict_eq, select_ite]
  fin_cases s
  · simp only [col, h.a2_bottom, pick, Reals.lower, ← EReal.coe_mul, ← EReal.coe_zero, coe_ite]
    simp [h.a2_bottom, ← EReal.coe_mul, ← EReal.coe_zero, coe_ite]
  · simp only [col, h'.a2_bottom, pick, Reals.lower, ← EReal.coe_mul, ← EReal.coe_zero, coe_ite]
    simp [h'.a2_bottom, ← EReal.coe_mul, ← EReal.coe_zero, coe_ite]

/-- The pair's inverses. -/
theorem inv (h : x.Real R) (h' : y.Real T) :
    IsPair (Pair.inv (Pair.lower x.a2 y.a2 (Pair.decay x.g y.g x.r y.r)))
      (fun s => DeltaRule.inverse (pick R T s).lower) :=
  inv_pair (h.lower h')

/-- The first head's solved keys. -/
theorem w0 (h : x.Real R) (h' : y.Real T) :
    Holds (extractStridedSlice S64x128 ![0, 0] (x.wu y) slices_S64x512_o0_0_S64x128) R.w := by
  intro i d
  have hi := h.inv h'
  unfold Rows.wu solved Rows.rhs right scaled spread
  pointwise []
  simp only [col_zero, col_one, hi _ _ _]
  have h1 : d.val < 256 := by omega
  simp [h1, h.k _ _, h.b _, h.g _, Ideal.exp_coe, pick, Reals.w, coe_sum, EReal.coe_mul]

/-- The second head's. -/
theorem w1 (h : x.Real R) (h' : y.Real T) :
    Holds (extractStridedSlice S64x128 ![0, 256] (x.wu y) slices_S64x512_o0_256_S64x128) T.w := by
  intro i d
  have hi := h.inv h'
  unfold Rows.wu solved Rows.rhs right scaled spread
  pointwise []
  simp only [col_zero, col_one, hi _ _ _]
  simp [h'.k _ _, h'.b _, h'.g _, Ideal.exp_coe, pick, Reals.w, coe_sum, EReal.coe_mul]

/-- The first head's solved values. -/
theorem u0 (h : x.Real R) (h' : y.Real T) :
    Holds (extractStridedSlice S64x128 ![0, 128] (x.wu y) slices_S64x512_o0_128_S64x128) R.u := by
  intro i d
  have hi := h.inv h'
  unfold Rows.wu solved Rows.rhs right scaled spread
  pointwise []
  simp only [col_zero, col_one, hi _ _ _]
  have h1 : 128 + d.val < 256 := by omega
  simp [h1, h.v _ _, h.b _, pick, Reals.u, coe_sum, EReal.coe_mul]

/-- The second head's. -/
theorem u1 (h : x.Real R) (h' : y.Real T) :
    Holds (extractStridedSlice S64x128 ![0, 384] (x.wu y) slices_S64x512_o0_384_S64x128) T.u := by
  intro i d
  have hi := h.inv h'
  unfold Rows.wu solved Rows.rhs right scaled spread
  pointwise []
  simp only [col_zero, col_one, hi _ _ _]
  have h1 : ¬384 + d.val < 256 := by omega
  have h2 : ¬384 + d.val - 256 < 128 := by omega
  have h3 : 384 + d.val - 256 - 128 = d.val := by omega
  simp [h1, h2, h3, h'.v _ _, h'.b _, pick, Reals.u, coe_sum, EReal.coe_mul]

end Rows.Real

/-- What the solved keys and the decayed queries see of a state. -/
theorem seen_holds {w q : FVec Ideal S64x128 .f32} {e : FVec Ideal S64x1 .f32} {st : FVec Ideal S128x128 .f32}
    {W Q : Fin 64 → Fin 128 → ℝ} {E : Fin 64 → ℝ} {S : Fin 128 → Fin 128 → ℝ} (hw : Holds w W) (hq : Holds q Q)
    (he : ∀ i, e (ix2 i 0) = ((E i : ℝ) : EReal)) (hs : Holds st S) (i : Fin 64) (d : Fin 128) :
    seen w q e st (ix2 (col 0 i) d) = ((∑ a, W i a * S a d : ℝ) : EReal) ∧
      seen w q e st (ix2 (col 1 i) d) = ((∑ a, Q i a * E i * S a d : ℝ) : EReal) := by
  unfold seen scaled spread
  constructor
  · pointwise []
    simp [col, hw _ _, hs _ _, coe_sum, EReal.coe_mul]
  · pointwise []
    simp [col, hq _ _, hs _ _, he, coe_sum, EReal.coe_mul]

theorem updates_holds {u : FVec Ideal S64x128 .f32} {ws : FVec Ideal S128x128 .f32} {U V : Fin 64 → Fin 128 → ℝ}
    (hu : Holds u U) (hw : ∀ i d, ws (ix2 (col 0 i) d) = ((V i d : ℝ) : EReal)) :
    Holds (updates u ws) (fun i d => U i d - V i d) := by
  intro i d
  unfold updates
  pointwise []
  rw [hu, col_zero, hw, EReal.coe_sub]

/-- Both heads' updates under the attention. -/
theorem attended_holds {a d0 d1 : FVec Ideal S64x128 .f32} {A : Fin 2 → Matrix (Fin 64) (Fin 64) ℝ}
    {D0 D1 : Fin 64 → Fin 128 → ℝ} (ha : IsPair a A) (h0 : Holds d0 D0) (h1 : Holds d1 D1) (i : Fin 64) (e : Fin 128) :
    attended a d0 d1 (ix2 i ⟨e.val, by omega⟩) = ((∑ j, A 0 i j * D0 j e : ℝ) : EReal) ∧
      attended a d0 d1 (ix2 i ⟨128 + e.val, by omega⟩) = ((∑ j, A 1 i j * D1 j e : ℝ) : EReal) := by
  unfold attended zeros
  constructor
  · pointwise []
    simp only [col_zero, col_one, ha _ _ _]
    simp [h0 _ _, coe_sum, EReal.coe_mul]
  · pointwise []
    simp only [col_zero, col_one, ha _ _ _]
    simp [h1 _ _, coe_sum, EReal.coe_mul]

/-- A head's state after the chunk. -/
theorem newState_holds {st : FVec Ideal S128x128 .f32} {k d : FVec Ideal S64x128 .f32} {g : FVec Ideal S64x1 .f32}
    {S : Fin 128 → Fin 128 → ℝ} {K D : Fin 64 → Fin 128 → ℝ} {G : Fin 64 → ℝ} (hs : Holds st S) (hk : Holds k K)
    (hd : Holds d D) (hg : ∀ i, g (ix2 i 0) = ((G i : ℝ) : EReal)) :
    Holds (newState st k g d)
      (fun a e => S a e * Real.exp (G 63) + ∑ j, K j a * Real.exp (G 63 - G j) * D j e) := by
  intro a e
  unfold newState last scaled spread
  pointwise []
  simp only [hs _ _, hk _ _, hd _ _, hg, Ideal.exp_coe, ← EReal.coe_sub, ← EReal.coe_mul, ← coe_sum, ← EReal.coe_add]

namespace Rows.Real

variable {x y : Rows Ideal} {R T : Reals} {s t : FVec Ideal S128x128 .f32} {S U : Fin 128 → Fin 128 → ℝ}

theorem eg (h : x.Real R) (i : Fin 64) : (exp x.g : FVec Ideal S64x1 .f32) (ix2 i 0) = ((Real.exp (R.G i) : ℝ) : EReal) := by
  pointwise []
  rw [h.g, Ideal.exp_coe]

theorem d0 (h : x.Real R) (h' : y.Real T) (hs : Holds s S) : Holds (x.d0 y s) (R.D S) :=
  updates_holds (h.u0 h') fun i d => (seen_holds (h.w0 h') h.q h.eg hs i d).1

theorem d1 (h : x.Real R) (h' : y.Real T) (ht : Holds t U) : Holds (x.d1 y t) (T.D U) :=
  updates_holds (h.u1 h') fun i d => (seen_holds (h.w1 h') h'.q h'.eg ht i d).1

/-- The first head's outputs. -/
theorem o0 (h : x.Real R) (h' : y.Real T) (hs : Holds s S) (ht : Holds t U) : Holds (x.o0 y s t) (R.o S) := by
  intro i e
  unfold Rows.o0 outFirst
  pointwise []
  have h1 := (attended_holds (h.attn h') (h.d0 h' hs) (h.d1 h' ht) i e).1
  have h2 := (seen_holds (h.w0 h') h.q h.eg hs i e).2
  rw [col_one, Rows.ws0, h2, h1, ← EReal.coe_add]
  rfl

/-- The second head's outputs. -/
theorem o1 (h : x.Real R) (h' : y.Real T) (hs : Holds s S) (ht : Holds t U) : Holds (x.o1 y s t) (T.o U) := by
  intro i e
  unfold Rows.o1 outSecond
  pointwise []
  have h1 := (attended_holds (h.attn h') (h.d0 h' hs) (h.d1 h' ht) i e).2
  have h2 := (seen_holds (h.w1 h') h'.q h'.eg ht i e).2
  rw [col_one, Rows.ws1, h2, h1, ← EReal.coe_add]
  rfl

/-- The first head's state after the chunk. -/
theorem s0 (h : x.Real R) (h' : y.Real T) (hs : Holds s S) : Holds (x.s0 y s) (R.next S) :=
  newState_holds hs h.k (h.d0 h' hs) h.g

/-- The second head's state after the chunk. -/
theorem s1 (h : x.Real R) (h' : y.Real T) (ht : Holds t U) : Holds (x.s1 y t) (T.next U) :=
  newState_holds ht h'.k (h.d1 h' ht) h'.g

end Rows.Real

end Cert.Pair

end
-- ==== Proof.Scratch.lean ====
/- What a grid point leaves in its outputs and in its scratch, when what it loads and finds is real. -/
module

public import proofs.«01_k».proof.Proof.Point
public import proofs.«01_k».proof.Proof.Stage
public import Idealize.ShloMosaic.Lib.Pipeline.ValueKit

@[expose] public section

set_option maxRecDepth 16384

noncomputable section

namespace Cert.Point

open Idealize.ShloMosaic Cert.KernelIdeal Cert.KernelIdeal.Gen Cert.Pair

section

variable {F : FTy → Type} [FloatOps F]

theorem one_idx (h : Fin 8) (d e : Fin 128) : (one h).idx (ix3 (0 : Fin 1) d e) = ix3 h d e := by
  funext a
  apply Fin.ext
  unfold one
  rw [Rect.idx_unit_val]
  fin_cases a <;> simp [ix3]

theorem tok_idx (c : Fin 4) (h : Fin 8) (i : Fin 64) (e : Fin 128) :
    (tok c h).idx (ix3 (0 : Fin 1) i e) =
      ix3 (0 : Fin 1) (⟨64 * c.val + i.val, by omega⟩ : Fin 256) (⟨128 * h.val + e.val, by omega⟩ : Fin 1024) := by
  funext a
  apply Fin.ext
  unfold tok
  rw [Rect.idx_unit_val]
  fin_cases a <;> simp [ix3]

/-- The last store of a head's state is what the scratch holds of it. -/
theorem canon_piece (h : Fin 8) (s : FVec F S128x128 .f32) (L : List (View.Piece (Elt F) S8x128x128 .f32))
    (d e : Fin 128) : View.canon (piece h s :: L) (ix3 h d e) = s (ix2 d e) := by
  rw [← one_idx h d e]
  refine (View.canon_cons_emb (one h) _ L (ix3 (0 : Fin 1) d e)).trans ?_
  pointwise []

/-- A store of another head's state leaves it alone. -/
theorem canon_piece_ne (h h' : Fin 8) (hne : h ≠ h') (s : FVec F S128x128 .f32)
    (L : List (View.Piece (Elt F) S8x128x128 .f32)) (d e : Fin 128) :
    View.canon (piece h' s :: L) (ix3 h d e) = View.canon L (ix3 h d e) := by
  apply View.canon_cons_of_not_mem
  intro hm
  have := (Rect.mem_set_unit (inb := inb_state h')).mp hm 0
  simp [ix3] at this
  exact hne (Fin.ext (by omega))

/-- After a chunk's stores the scratch holds the eight states. -/
theorem canon_pieces (S : Fin 8 → FVec F S128x128 .f32) (L : List (View.Piece (Elt F) S8x128x128 .f32)) (h : Fin 8)
    (d e : Fin 128) : View.canon (pieces S ++ L) (ix3 h d e) = S h (ix2 d e) := by
  unfold pieces
  simp only [List.cons_append, List.nil_append]
  fin_cases h <;>
    simp [canon_piece, canon_piece_ne]

/-- A block of one state read as the state. -/
theorem drop_unit {α : Type} (w : S1x128x128.Idx → α) (d e : Fin 128) :
    shapeCast S128x128 w shapeCasts_S1x128x128_S128x128 (ix2 d e) = w (ix3 (0 : Fin 1) d e) := by
  pointwise []

/-- The eight states read as a block. -/
theorem add_unit {F : FTy → Type} [FloatOps F] (w : Vec F S8x128x128 .f32) (h : Fin 8) (d e : Fin 128) :
    k0_pay1 w (ix4 (0 : Fin 1) h d e) = w (ix3 h d e) := by
  unfold k0_pay1
  pointwise []

/-- A head's state loaded back. -/
theorem found_apply (v : View sig .tc .vmem S8x128x128 .f32) (L : List (View.Piece (Elt F) S8x128x128 .f32)) (h : Fin 8)
    (d e : Fin 128) : found v L h (ix2 d e) = View.canon L (ix3 h d e) := by
  unfold found
  rw [View.readCov_eq_canon']
  exact (drop_unit _ d e).trans (congrArg (View.canon L) (one_idx h d e))

theorem found_pieces (v : View sig .tc .vmem S8x128x128 .f32) (S : Fin 8 → FVec F S128x128 .f32)
    (L : List (View.Piece (Elt F) S8x128x128 .f32)) : found v (pieces S ++ L) = S := by
  funext h j
  obtain ⟨d, e, rfl⟩ : ∃ d e, j = ix2 d e := ⟨_, _, eq_ix2 j⟩
  rw [found_apply, canon_pieces]

theorem kept_apply (s : Vec F S8x128x128 .f32) (h : Fin 8) (d e : Fin 128) : kept s h (ix2 d e) = s (ix3 h d e) := by
  exact (drop_unit _ d e).trans (congrArg s (one_idx h d e))

/-- The filled scratch holds the states the call was given. -/
theorem canon_fill (x : Vec F S1x8x128x128 .f32) (h : Fin 8) (d e : Fin 128) :
    View.canon [fill x] (ix3 h d e) = x (ix4 (0 : Fin 1) h d e) := by
  unfold fill
  rw [View.canon_cons_unit_lit _ _ _ (by decide), View.ld_unit_lit _ _ (by decide)]
  unfold k0_pay2
  pointwise []

/-- The stored states are the scratch's. -/
theorem canon_final (v : View sig .tc .vmem S8x128x128 .f32) (L : List (View.Piece (Elt F) S8x128x128 .f32)) (h : Fin 8)
    (d e : Fin 128) : View.canon [final v L] (ix4 (0 : Fin 1) h d e) = View.canon L (ix3 h d e) := by
  unfold final
  have := View.canon_cons_unit_lit (Val := Elt F) (S := S1x8x128x128) (e := .f32) inb_S1x8x128x128_S1x8x128x128_0_0_0_0
    (k0_pay1 (v.readCov L (Rect.unit ![0, 0, 0] S8x128x128.size inb_S8x128x128_S8x128x128_0_0_0).toLoadRect)) []
    (by decide)
  refine (congrFun this _).trans ?_
  rw [View.readCov_eq_canon']
  have e0 : (Rect.unit ![0, 0, 0] S8x128x128.size inb_S8x128x128_S8x128x128_0_0_0).idx (ix3 h d e) = ix3 h d e := by
    funext a
    apply Fin.ext
    rw [Rect.idx_unit_val]
    fin_cases a <;> simp
  exact (add_unit _ h d e).trans (congrArg (View.canon L) e0)

/-- The last store of a chunk's outputs of a head is what the block holds of them. -/
theorem canon_outPiece (c : Fin 4) (h : Fin 8) (o : FVec F S64x128 .f32)
    (L : List (View.Piece (Elt F) S1x256x1024 .f32)) (i : Fin 64) (e : Fin 128) :
    View.canon (outPiece c h o :: L) ((tok c h).idx (ix3 (0 : Fin 1) i e)) = o (ix2 i e) := by
  refine (View.canon_cons_emb (tok c h) _ L (ix3 (0 : Fin 1) i e)).trans ?_
  pointwise []

/-- Another store of outputs leaves them alone. -/
theorem canon_outPiece_ne (c c' : Fin 4) (h h' : Fin 8) (hne : c ≠ c' ∨ h ≠ h') (o : FVec F S64x128 .f32)
    (L : List (View.Piece (Elt F) S1x256x1024 .f32)) (i : Fin 64) (e : Fin 128) :
    View.canon (outPiece c' h' o :: L) ((tok c h).idx (ix3 (0 : Fin 1) i e)) =
      View.canon L ((tok c h).idx (ix3 (0 : Fin 1) i e)) := by
  apply View.canon_cons_of_not_mem
  intro hm
  rw [tok_idx] at hm
  have h1 := (Rect.mem_set_unit (inb := inb_tok c' h')).mp hm 1
  have h2 := (Rect.mem_set_unit (inb := inb_tok c' h')).mp hm 2
  simp [ix3] at h1 h2
  rcases hne with hne | hne
  · exact hne (Fin.ext (by omega))
  · exact hne (Fin.ext (by omega))

/-- After a chunk's stores of outputs the block holds them. -/
theorem canon_outPieces (c : Fin 4) (O : Fin 8 → FVec F S64x128 .f32)
    (L : List (View.Piece (Elt F) S1x256x1024 .f32)) (h : Fin 8) (i : Fin 64) (e : Fin 128) :
    View.canon (outPieces c O ++ L) ((tok c h).idx (ix3 (0 : Fin 1) i e)) = O h (ix2 i e) := by
  unfold outPieces
  simp only [List.cons_append, List.nil_append]
  fin_cases h <;>
    simp [canon_outPiece, canon_outPiece_ne]

/-- Another chunk's stores leave them alone. -/
theorem canon_outPieces_ne (c c' : Fin 4) (hne : c ≠ c') (O : Fin 8 → FVec F S64x128 .f32)
    (L : List (View.Piece (Elt F) S1x256x1024 .f32)) (h : Fin 8) (i : Fin 64) (e : Fin 128) :
    View.canon (outPieces c' O ++ L) ((tok c h).idx (ix3 (0 : Fin 1) i e)) =
      View.canon L ((tok c h).idx (ix3 (0 : Fin 1) i e)) := by
  unfold outPieces
  simp only [List.cons_append, List.nil_append]
  simp only [canon_outPiece_ne c c' h _ (Or.inl hne)]

/-- The states before each chunk, from those the point finds. -/
def Loads.states (x : Loads F) (S : Fin 8 → FVec F S128x128 .f32) : Fin 5 → Fin 8 → FVec F S128x128 .f32
  | 0 => S
  | 1 => x.next 0 S
  | 2 => x.next 1 (x.next 0 S)
  | 3 => x.next 2 (x.next 1 (x.next 0 S))
  | 4 => x.next 3 (x.next 2 (x.next 1 (x.next 0 S)))

/-- The scratch at the point's end. -/
theorem canon_scr4 (v : View sig .tc .vmem S8x128x128 .f32) (x : Loads F) (S : Fin 8 → FVec F S128x128 .f32)
    (L : List (View.Piece (Elt F) S8x128x128 .f32)) (h : Fin 8) (d e : Fin 128) :
    View.canon (scr4 v x S L) (ix3 h d e) = x.states S 4 h (ix2 d e) := by
  unfold scr4
  rw [canon_pieces]
  unfold scr3
  rw [found_pieces]
  unfold scr2
  rw [found_pieces]
  unfold scr1
  rw [found_pieces]
  rfl

/-- The block of outputs at the point's end. -/
theorem canon_allOuts (v : View sig .tc .vmem S8x128x128 .f32) (x : Loads F) (S : Fin 8 → FVec F S128x128 .f32)
    (L : List (View.Piece (Elt F) S8x128x128 .f32)) (c : Fin 4) (h : Fin 8) (i : Fin 64) (e : Fin 128) :
    View.canon (allOuts v x S L) ((tok c h).idx (ix3 (0 : Fin 1) i e)) =
      x.outs c (x.states S c.castSucc) h (ix2 i e) := by
  have h0 := canon_outPieces_ne (F := F) c
  unfold allOuts scr3
  rw [found_pieces]
  unfold scr2
  rw [found_pieces]
  unfold scr1
  rw [found_pieces]
  fin_cases c
  · rw [h0 3 (by decide), h0 2 (by decide), h0 1 (by decide)]
    have := canon_outPieces (F := F) 0 (x.outs 0 S) [] h i e
    rw [List.append_nil] at this
    exact this
  · rw [h0 3 (by decide), h0 2 (by decide)]
    exact canon_outPieces 1 _ _ h i e
  · rw [h0 3 (by decide)]
    exact canon_outPieces 2 _ _ h i e
  · exact canon_outPieces 3 _ _ h i e

end

/-! ## On real numbers -/

/-- The rows are real. -/
def Loads.Real (x : Loads Ideal) (R : Fin 4 → Fin 8 → Reals) : Prop := ∀ c h, (x.rows c h).Real (R c h)

theorem Loads.Real.next {x : Loads Ideal} {R : Fin 4 → Fin 8 → Reals} (hx : x.Real R) (c : Fin 4)
    {S : Fin 8 → FVec Ideal S128x128 .f32} {T : Fin 8 → Fin 128 → Fin 128 → ℝ} (hS : ∀ h, Holds (S h) (T h)) (h : Fin 8) :
    Holds (x.next c S h) ((R c h).next (T h)) := by
  fin_cases h
  · exact (hx c 0).s0 (hx c 1) (hS 0)
  · exact (hx c 0).s1 (hx c 1) (hS 1)
  · exact (hx c 2).s0 (hx c 3) (hS 2)
  · exact (hx c 2).s1 (hx c 3) (hS 3)
  · exact (hx c 4).s0 (hx c 5) (hS 4)
  · exact (hx c 4).s1 (hx c 5) (hS 5)
  · exact (hx c 6).s0 (hx c 7) (hS 6)
  · exact (hx c 6).s1 (hx c 7) (hS 7)

theorem Loads.Real.outs {x : Loads Ideal} {R : Fin 4 → Fin 8 → Reals} (hx : x.Real R) (c : Fin 4)
    {S : Fin 8 → FVec Ideal S128x128 .f32} {T : Fin 8 → Fin 128 → Fin 128 → ℝ} (hS : ∀ h, Holds (S h) (T h)) (h : Fin 8) :
    Holds (x.outs c S h) ((R c h).o (T h)) := by
  fin_cases h
  · exact (hx c 0).o0 (hx c 1) (hS 0) (hS 1)
  · exact (hx c 0).o1 (hx c 1) (hS 0) (hS 1)
  · exact (hx c 2).o0 (hx c 3) (hS 2) (hS 3)
  · exact (hx c 2).o1 (hx c 3) (hS 2) (hS 3)
  · exact (hx c 4).o0 (hx c 5) (hS 4) (hS 5)
  · exact (hx c 4).o1 (hx c 5) (hS 4) (hS 5)
  · exact (hx c 6).o0 (hx c 7) (hS 6) (hS 7)
  · exact (hx c 6).o1 (hx c 7) (hS 6) (hS 7)

/-- The states before each chunk are real, when each chunk's step is the step of `T`. -/
theorem Loads.Real.states {x : Loads Ideal} {R : Fin 4 → Fin 8 → Reals} (hx : x.Real R)
    {S : Fin 8 → FVec Ideal S128x128 .f32} {T : ℕ → Fin 8 → Fin 128 → Fin 128 → ℝ} (hS : ∀ h, Holds (S h) (T 0 h))
    (hT : ∀ (c : Fin 4) h, (R c h).next (T c h) = T (c + 1) h) (c : Fin 5) (h : Fin 8) :
    Holds (x.states S c h) (T c h) := by
  have step : ∀ (c : Fin 4) {S : Fin 8 → FVec Ideal S128x128 .f32}, (∀ h, Holds (S h) (T c h)) →
      ∀ h, Holds (x.next c S h) (T (c + 1) h) := fun c S hS h => by
    rw [← hT]; exact hx.next c hS h
  have s1 := step 0 hS
  have s2 := step 1 s1
  have s3 := step 2 s2
  fin_cases c
  · exact hS h
  · exact s1 h
  · exact s2 h
  · exact s3 h
  · exact step 3 s3 h

end Cert.Point

end
-- ==== Proof.Chunk.lean ====
/- One chunk of 64 tokens, solved by the kernel's formulas, is the recurrence over those tokens. -/
module

public import proofs.«01_k».proof.Proof.Stage

@[expose] public section

noncomputable section

namespace Cert.Pair

open Finset DeltaRule

variable (q k v : ℕ → Fin 128 → ℝ) (g b : ℕ → ℝ)

/-- The numbers of the chunk that starts at token 0 of these sequences. -/
def chunkOf : Reals where
  q := fun i => q i.val
  k := fun i => k i.val
  v := fun i => v i.val
  G := fun i => cum g i.val
  b := fun i => b i.val

/-- A sum over the tokens before one of the chunk. -/
theorem sum_before (i : Fin 64) (f : ℕ → ℝ) : ∑ j : Fin 64, (if j < i then f j.val else 0) = ∑ j ∈ range i.val, f j := by
  have h := Fin.sum_univ_eq_sum_range (fun j => if j < i.val then f j else 0) 64
  simp only [Fin.lt_def]
  rw [h, ← sum_filter]
  congr 1
  ext j
  simp only [mem_filter, mem_range]
  omega

/-- A sum over the tokens up to one of the chunk. -/
theorem sum_upto (i : Fin 64) (f : ℕ → ℝ) :
    ∑ j : Fin 64, (if j ≤ i then f j.val else 0) = ∑ j ∈ range (i.val + 1), f j := by
  have h := Fin.sum_univ_eq_sum_range (fun j => if j ≤ i.val then f j else 0) 64
  simp only [Fin.le_def]
  rw [h, ← sum_filter]
  congr 1
  ext j
  simp only [mem_filter, mem_range]
  omega

/-- The right sides of the triangular system. -/
def target (S : Fin 128 → Fin 128 → ℝ) : Matrix (Fin 64) (Fin 128) ℝ := fun i e =>
  b i.val * v i.val e - b i.val * Real.exp (cum g i.val) * ∑ d, k i.val d * S d e

/-- The updates are the right sides, multiplied by the inverse. -/
theorem inverse_target (S : Fin 128 → Fin 128 → ℝ) :
    inverse (chunkOf q k v g b).lower * target k v g b S = (chunkOf q k v g b).D S := by
  funext i e
  rw [Matrix.mul_apply]
  simp only [target, Reals.D, Reals.u, Reals.w, mul_sub, sum_sub_distrib, sum_mul, mul_sum]
  congr 1
  · exact sum_congr rfl fun j _ => by simp only [chunkOf]; ring
  · rw [sum_comm]
    exact sum_congr rfl fun j _ => sum_congr rfl fun d _ => by simp only [chunkOf]; ring

/-- The updates solve the triangular system. -/
theorem D_solves (S : Fin 128 → Fin 128 → ℝ) (i : Fin 64) (e : Fin 128) :
    (chunkOf q k v g b).D S i e + ∑ j, (chunkOf q k v g b).lower i j * (chunkOf q k v g b).D S j e
      = b i.val * v i.val e - b i.val * Real.exp (cum g i.val) * ∑ d, k i.val d * S d e := by
  have hM : ∀ i j : Fin 64, i.val ≤ j.val → (chunkOf q k v g b).lower i j = 0 := fun i j h =>
    if_neg (by rw [Fin.lt_def]; omega)
  have h : (1 + (chunkOf q k v g b).lower) * (inverse (chunkOf q k v g b).lower * target k v g b S) = target k v g b S := by
    rw [← Matrix.mul_assoc, mul_inverse _ hM, Matrix.one_mul]
  rw [Matrix.add_mul, Matrix.one_mul] at h
  have h' := congrFun (congrFun h i) e
  rw [Matrix.add_apply, Matrix.mul_apply (M := (chunkOf q k v g b).lower), inverse_target] at h'
  exact h'

/-- The updates, as a sequence. -/
def updatesOf (S : Fin 128 → Fin 128 → ℝ) (t : ℕ) (e : Fin 128) : ℝ :=
  if h : t < 64 then (chunkOf q k v g b).D S ⟨t, h⟩ e else 0

theorem updatesOf_eq (S : Fin 128 → Fin 128 → ℝ) (j : Fin 64) (e : Fin 128) :
    (chunkOf q k v g b).D S j e = updatesOf q k v g b S j.val e := by
  rw [updatesOf, dif_pos j.isLt]

/-- The recurrence inside the chunk, from the updates. -/
theorem state_in (S : Fin 128 → Fin 128 → ℝ) : ∀ t < 64, ∀ d e, state k v g b S (t + 1) d e
    = Real.exp (cum g t) * S d e
      + ∑ j ∈ range (t + 1), Real.exp (cum g t - cum g j) * k j d * updatesOf q k v g b S j e := by
  refine state_unrolled k v g b S 64 (updatesOf q k v g b S) fun t ht e => ?_
  have h := D_solves q k v g b S ⟨t, ht⟩ e
  rw [← h, ← updatesOf_eq q k v g b S ⟨t, ht⟩]
  congr 1
  rw [← sum_before ⟨t, ht⟩]
  refine sum_congr rfl fun j _ => ?_
  rw [← updatesOf_eq]
  simp only [Reals.lower, Reals.decay]
  split_ifs with h1 h2
  · simp only [chunkOf, sum_mul, mul_sum]
    exact sum_congr rfl fun d _ => by ring
  · exact absurd h1.le h2
  · rw [zero_mul]

/-- The outputs of the chunk are the recurrence's. -/
theorem o_eq (S : Fin 128 → Fin 128 → ℝ) (i : Fin 64) (e : Fin 128) :
    (chunkOf q k v g b).o S i e = out q k v g b S i.val e := by
  unfold out Reals.o
  simp only [state_in q k v g b S i.val i.isLt, mul_add, sum_add_distrib]
  congr 1
  · exact sum_congr rfl fun d _ => by simp only [chunkOf]; ring
  · simp only [mul_sum]
    rw [sum_comm, ← sum_upto i]
    refine sum_congr rfl fun j _ => ?_
    simp only [Reals.attn, Reals.decay, updatesOf_eq]
    split_ifs
    · simp only [chunkOf, sum_mul]
      exact sum_congr rfl fun d _ => by ring
    · rw [mul_zero, zero_mul]

/-- The state after the chunk is the recurrence's. -/
theorem next_eq (S : Fin 128 → Fin 128 → ℝ) (d e : Fin 128) :
    (chunkOf q k v g b).next S d e = state k v g b S 64 d e := by
  rw [show 64 = 63 + 1 from rfl, state_in q k v g b S 63 (by omega), Reals.next]
  congr 1
  · simp only [chunkOf]; exact mul_comm _ _
  · rw [← Fin.sum_univ_eq_sum_range (fun j => Real.exp (cum g 63 - cum g j) * k j d * updatesOf q k v g b S j e) 64]
    refine sum_congr rfl fun j _ => ?_
    rw [← updatesOf_eq]
    simp only [chunkOf]
    rw [mul_comm (k _ d)]
    rfl

end Cert.Pair

end
-- ==== Proof.Packing.lean ====
/- What the call reads of the log-decays and betas: the log-decays summed from the start of each chunk of 64 tokens, next to
   the betas. -/
module

public import proofs.«01_k».proof.Proof.Gen.KernelIdeal.Frame
public import proofs.«01_k».proof.Proof.DeltaRule
public import proofs.«01_k».proof.Proof.Stage

@[expose] public section

set_option maxRecDepth 16384

noncomputable section

namespace Cert.Packing

open Idealize.ShloMosaic Idealize.ShloMosaic.TcCoe Idealize.SL.Sem Cert.KernelIdeal Cert.KernelIdeal.Gen Cert.Lift

section

variable {F : FTy → Type} [FloatOps F]

/-- The log-decays of one chunk up to a token, as masked. -/
def masked (g : FVec F S2x16384x8 .f32) : FVec F S2x256x64x64x8 .f32 :=
  select (cmpi .sle (iotaInDim S2x256x64x64x8 32 3) (iotaInDim S2x256x64x64x8 32 2))
    (broadcastInDim S2x256x64x64x8 ![0, 1, 2, 3, 4] bcast_S2x256x1x64x8_S2x256x64x64x8_0_1_2_3_4
      (shapeCast S2x256x1x64x8 g shapeCasts_S2x16384x8_S2x256x1x64x8))
    (broadcastInDim S2x256x64x64x8 ![] bcast_S_S2x256x64x64x8 (constant S_ .f32 0x00000000#32))

/-- The log-decays summed from the start of each chunk. -/
def summed (g : FVec F S2x16384x8 .f32) : FVec F S2x16384x8 .f32 :=
  shapeCast S2x16384x8
    (Host.reduceAdd (masked g) (constant S_ .f32 0x00000000#32) reducesTo_S2x256x64x64x8_S2x256x64x8_d3 h_S_)
    shapeCasts_S2x256x64x8_S2x16384x8

/-- … next to the betas. -/
def packed (g b : FVec F S2x16384x8 .f32) : FVec F S2x16384x16 .f32 :=
  concatenate S2x16384x16 2 [⟨S2x16384x8, summed g⟩, ⟨S2x16384x8, b⟩] concatenates_S2x16384x8_S2x16384x8_S2x16384x16_d2

variable (m : (ℓ : Loc nD τ sig) → Buf (Elt F) ℓ)

/-- What the call reads as columns. -/
theorem V_columns (c : Dev nD) : V m c main_v10 =
    pad S2x16384x128 ![0, 0, 0] ![0, 0, 112] ![0, 0, 0]
      (packed (m ((c : Thread nD τ).loc main_arg3)) (m ((c : Thread nD τ).loc main_arg4)))
      (sitofp .f32 (constantI S_ 32 0#32)) pads_S2x16384x16_S2x16384x128_000_000_01120 h_S_ := by
  sl_kernel_rfl

/-- What the call reads as rows. -/
theorem V_rows (c : Dev nD) : V m c main_v12 =
    transpose S2x256x16x64 [0, 1, 3, 2]
      (shapeCast S2x256x64x16 (packed (m ((c : Thread nD τ).loc main_arg3)) (m ((c : Thread nD τ).loc main_arg4)))
        shapeCasts_S2x16384x16_S2x256x64x16) transposes_S2x256x64x16_S2x256x16x64_0_1_3_2 := by
  sl_kernel_rfl

end

/-- A comparison of two words below 64. -/
theorem le_words : ∀ i j : Fin 64, IntOp.cmpi .sle (BitVec.ofNat 32 j.val) (BitVec.ofNat 32 i.val) = if j ≤ i then 1#1 else 0#1 := by
  decide +kernel

/-- The masked log-decays at an index. -/
theorem masked_apply (g : FVec Ideal S2x16384x8 .f32) (b : Fin 2) (n : Fin 256) (i j : Fin 64) (h : Fin 8) :
    masked g (ix5 b n i j h) = if j ≤ i then g (ix3 b (⟨n.val * 64 + j.val, by omega⟩ : Fin 16384) h) else 0 := by
  unfold masked
  pointwise []
  rw [le_words, Pair.select_ite]

/-- The log-decays given are these real numbers. -/
def Gives (g : FVec Ideal S2x16384x8 .f32) (γ : Fin 2 → Fin 8 → ℕ → ℝ) : Prop :=
  ∀ b (t : Fin 16384) h, g (ix3 b t h) = ((γ b h t : ℝ) : EReal)

/-- A sum over the tokens of a chunk up to one of them. -/
theorem sum_upto (i : Fin 64) (f : ℕ → ℝ) : ∑ j : Fin 64, (if j ≤ i then f j.val else 0) = DeltaRule.cum f i.val := by
  have h := Fin.sum_univ_eq_sum_range (fun j => if j ≤ i.val then f j else 0) 64
  simp only [Fin.le_def]
  rw [h, ← Finset.sum_filter, DeltaRule.cum]
  congr 1
  ext j
  simp only [Finset.mem_filter, Finset.mem_range]
  omega

/-- The summed log-decays at a token. -/
theorem summed_apply {g : FVec Ideal S2x16384x8 .f32} {γ : Fin 2 → Fin 8 → ℕ → ℝ} (hg : Gives g γ) (b : Fin 2)
    (t : Fin 16384) (h : Fin 8) :
    summed g (ix3 b t h) = ((DeltaRule.cum (fun j => γ b h (t.val / 64 * 64 + j)) (t.val % 64) : ℝ) : EReal) := by
  unfold summed
  pointwise []
  rw [← sum_upto ⟨t.val % 64, by omega⟩, coe_sum]
  refine Finset.sum_congr rfl fun j _ => ?_
  rw [masked_apply, ← Pair.coe_ite, hg]
  rfl

/-- The packed numbers: the summed log-decays of head `h` in lane `h`, -/
theorem packed_low (g b : FVec Ideal S2x16384x8 .f32) (i : Fin 2) (t : Fin 16384) (h : Fin 8) :
    packed g b (ix3 i t (⟨h.val, by omega⟩ : Fin 16)) = summed g (ix3 i t h) := by
  unfold packed
  pointwise []

/-- and its betas in lane `8 + h`. -/
theorem packed_high (g b : FVec Ideal S2x16384x8 .f32) (i : Fin 2) (t : Fin 16384) (h : Fin 8) :
    packed g b (ix3 i t (⟨8 + h.val, by omega⟩ : Fin 16)) = b (ix3 i t h) := by
  unfold packed
  pointwise []

variable (m : (ℓ : Loc nD τ sig) → Buf (Elt Ideal) ℓ)

/-- The columns the call reads, at a token and lane. -/
theorem columns_apply (c : Dev nD) (b : Fin 2) (t : Fin 16384) (l : Fin 16) :
    (V m c main_v10 : FVec Ideal S2x16384x128 .f32) (ix3 b t (⟨l.val, by omega⟩ : Fin 128)) =
      packed (F := Ideal) (m ((c : Thread nD τ).loc main_arg3)) (m ((c : Thread nD τ).loc main_arg4)) (ix3 b t l) := by
  rw [V_columns]
  generalize packed (F := Ideal) (m ((c : Thread nD τ).loc main_arg3)) (m ((c : Thread nD τ).loc main_arg4)) = x
  pointwise []

/-- The rows the call reads, at a chunk, lane and place. -/
theorem rows_apply (c : Dev nD) (b : Fin 2) (n : Fin 256) (l : Fin 16) (i : Fin 64) :
    (V m c main_v12 : FVec Ideal S2x256x16x64 .f32) (ix4 b n l i) =
      packed (F := Ideal) (m ((c : Thread nD τ).loc main_arg3)) (m ((c : Thread nD τ).loc main_arg4))
        (ix3 b (⟨n.val * 64 + i.val, by omega⟩ : Fin 16384) l) := by
  rw [V_rows]
  generalize packed (F := Ideal) (m ((c : Thread nD τ).loc main_arg3)) (m ((c : Thread nD τ).loc main_arg4)) = x
  pointwise []

end Cert.Packing

end
-- ==== Proof.Reference.lean ====
/- What the reference program computes from real arguments: the recurrence over the tokens, one trip of its loop a token. -/
module

public import proofs.«01_k».proof.Proof.Gen.ReferenceIdeal.Run
public import proofs.«01_k».proof.Proof.DeltaRule
public import proofs.«01_k».proof.Proof.Lift
public import Idealize.ShloMosaic.Lib.Tactic.CleanTypes
public import Idealize.ShloMosaic.Lib.DynamicIndex

@[expose] public section

set_option maxRecDepth 16384

noncomputable section

namespace Cert.Proof.Ref

open Cert.ReferenceIdeal Cert.ReferenceIdeal.Gen Cert.ReferenceIdeal.Value Cert.Lift
open Idealize.ShloMosaic Idealize.ShloMosaic.StableHlo Idealize.SL.Sem

/-- Real arguments: queries, keys and values per batch, head, token and lane; log-decays and betas per batch, head and
    token; the first states per batch, head, row and column. -/
structure Args where
  q : Fin 2 → Fin 8 → ℕ → Fin 128 → ℝ
  k : Fin 2 → Fin 8 → ℕ → Fin 128 → ℝ
  v : Fin 2 → Fin 8 → ℕ → Fin 128 → ℝ
  g : Fin 2 → Fin 8 → ℕ → ℝ
  b : Fin 2 → Fin 8 → ℕ → ℝ
  s : Fin 2 → Fin 8 → Fin 128 → Fin 128 → ℝ

/-- The state of one head before token `t`. -/
def Args.state (A : Args) (b : Fin 2) (h : Fin 8) : ℕ → Fin 128 → Fin 128 → ℝ :=
  DeltaRule.state (A.k b h) (A.v b h) (A.g b h) (A.b b h) (A.s b h)

/-- The output of one head at token `t`. -/
def Args.out (A : Args) (b : Fin 2) (h : Fin 8) : ℕ → Fin 128 → ℝ :=
  DeltaRule.out (A.q b h) (A.k b h) (A.v b h) (A.g b h) (A.b b h) (A.s b h)

/-- The loop's buffers before trip `n`: the token-major arguments, the counter `n`, the state before token `n` and the
    outputs of the earlier tokens. -/
structure Before (A : Args) (n : ℕ) (V : Valuation τ sig (Elt Ideal)) : Prop where
  q : ∀ (t : Fin 16384) b h d, V (Proc.devRef .tc main_v9_0) (ix4 t b h d) = ((A.q b h t d : ℝ) : EReal)
  k : ∀ (t : Fin 16384) b h d, V (Proc.devRef .tc main_v9_1) (ix4 t b h d) = ((A.k b h t d : ℝ) : EReal)
  v : ∀ (t : Fin 16384) b h d, V (Proc.devRef .tc main_v9_2) (ix4 t b h d) = ((A.v b h t d : ℝ) : EReal)
  g : ∀ (t : Fin 16384) b h, V (Proc.devRef .tc main_v9_3) (ix3 t b h) = ((A.g b h t : ℝ) : EReal)
  b : ∀ (t : Fin 16384) b h, V (Proc.devRef .tc main_v9_4) (ix3 t b h) = ((A.b b h t : ℝ) : EReal)
  ctr : V (Proc.devRef .tc main_v9_5) = fun _ => BitVec.ofNat 32 n
  s : ∀ b h d e, V (Proc.devRef .tc main_v9_6) (ix4 b h d e) = ((A.state b h n d e : ℝ) : EReal)
  o : ∀ (t : Fin 16384) b h e, t.val < n → V (Proc.devRef .tc main_v9_7) (ix4 t b h e) = ((A.out b h t e : ℝ) : EReal)

/-- The starts of the slices of the token-major arguments, as words. -/
abbrev starts4 (n : ℕ) : Fin 4 → Int := fun k => BitVec.toInt ((![fun _ => BitVec.ofNat 32 n, constantI S_ 32 0#32,
  constantI S_ 32 0#32, constantI S_ 32 0#32] : Fin 4 → IVec S_ 32) k (Shape.Idx.first h_S_))

/-- … and of the log-decays and betas. -/
abbrev starts3 (n : ℕ) : Fin 3 → Int := fun k => BitVec.toInt ((![fun _ => BitVec.ofNat 32 n, constantI S_ 32 0#32,
  constantI S_ 32 0#32] : Fin 3 → IVec S_ 32) k (Shape.Idx.first h_S_))

/-- They are the token's number and zeros. -/
theorem starts4_eq (n : ℕ) (hn : n < 16384) (a : Fin 4) : starts4 n a = ((![n, 0, 0, 0] : Fin 4 → ℕ) a : Int) := by
  fin_cases a
  · exact toInt_ofNat_of_lt (by omega)
  all_goals rfl

theorem starts3_eq (n : ℕ) (hn : n < 16384) (a : Fin 3) : starts3 n a = ((![n, 0, 0] : Fin 3 → ℕ) a : Int) := by
  fin_cases a
  · exact toInt_ofNat_of_lt (by omega)
  all_goals rfl

theorem fits4 (n : ℕ) (hn : n < 16384) : S16384x2x8x128.Slices ![n, 0, 0, 0] S1x2x8x128 :=
  ⟨rfl, fun a => by fin_cases a <;> simp <;> omega⟩

theorem fits3 (n : ℕ) (hn : n < 16384) : S16384x2x8.Slices ![n, 0, 0] S1x2x8 :=
  ⟨rfl, fun a => by fin_cases a <;> simp <;> omega⟩

/-- A token's slice of the token-major arguments. -/
theorem slice4 (n : ℕ) (hn : n < 16384) (x : FVec Ideal S16384x2x8x128 .f32) (h) :
    Host.dynamicSlice S1x2x8x128 x (starts4 n) h = extractStridedSlice S1x2x8x128 ![n, 0, 0, 0] x (fits4 n hn) :=
  Host.dynamicSlice_eq_extractStridedSlice _ x _ _ h _ (starts4_eq n hn)

theorem slice3 (n : ℕ) (hn : n < 16384) (x : FVec Ideal S16384x2x8 .f32) (h) :
    Host.dynamicSlice S1x2x8 x (starts3 n) h = extractStridedSlice S1x2x8 ![n, 0, 0] x (fits3 n hn) :=
  Host.dynamicSlice_eq_extractStridedSlice _ x _ _ h _ (starts3_eq n hn)

/-- Writing a token's outputs. -/
theorem write4 (n : ℕ) (hn : n < 16384) (x : FVec Ideal S16384x2x8x128 .f32) (y : FVec Ideal S1x2x8x128 .f32) (h) :
    Host.dynamicUpdateSlice x y (starts4 n) h = updateSlice x y ![n, 0, 0, 0] (fits4 n hn) :=
  Host.dynamicUpdateSlice_eq_updateSlice x y _ h _ (fun a => by
    have := (fits4 n hn).2 a
    rw [starts4_eq n hn a]
    omega) _

/-- One trip's new state. -/
theorem newState {A : Args} {n : ℕ} {V : Valuation τ sig (Elt Ideal)} (H : Before A n V) (hn : n < 16384)
    (b : Fin 2) (h : Fin 8) (d e : Fin 128) :
    res_main_while0b_v31 V (ix4 b h d e) = ((A.state b h (n + 1) d e : ℝ) : EReal) := by
  unfold res_main_while0b_v31 res_main_while0b_v20 res_main_while0b_v13
  clean_types
  simp only [H.ctr]
  erw [slice4 n hn, slice4 n hn, slice3 n hn, slice3 n hn]
  pointwise []
  have hk := fun d => H.k ⟨n, hn⟩ b h d
  have hv := fun d => H.v ⟨n, hn⟩ b h d
  have hg := H.g ⟨n, hn⟩ b h
  have hb := H.b ⟨n, hn⟩ b h
  simp only [hk, hv, hg, hb, H.s, Ideal.exp_coe, ← EReal.coe_mul, ← EReal.coe_add, ← EReal.coe_sub, ← coe_sum]
  rfl

/-- One trip keeps the description of the buffers. -/
theorem Before.step {A : Args} {n : ℕ} {V : Valuation τ sig (Elt Ideal)} (H : Before A n V) (hn : n < 16384) :
    Before A (n + 1) (STEP V) where
  q t b h d := by rw [STEP_main_v9_0]; exact H.q t b h d
  k t b h d := by rw [STEP_main_v9_1]; exact H.k t b h d
  v t b h d := by rw [STEP_main_v9_2]; exact H.v t b h d
  g t b h := by rw [STEP_main_v9_3]; exact H.g t b h
  b t b h := by rw [STEP_main_v9_4]; exact H.b t b h
  ctr := by
    rw [STEP_main_v9_5, step_main_v9_5, H.ctr]
    funext i
    exact (BitVec.ofNat_add n 1).symm
  s b h d e := by rw [STEP_main_v9_6]; exact newState H hn b h d e
  o t b h e ht := by
    rw [STEP_main_v9_7, step_main_v9_7]
    clean_types
    simp only [id_eq, H.ctr]
    erw [write4 n hn, slice4 n hn]
    pointwise []
    have hq := fun d => H.q ⟨n, hn⟩ b h d
    split_ifs with hin
    · obtain rfl : t = ⟨n, hn⟩ := Fin.ext (by simp; omega)
      simp only [hq, newState H hn, ← EReal.coe_mul, ← coe_sum]
      rfl
    · exact H.o t b h e (by omega)

/-- The buffers after `n` trips. -/
theorem Before.iterate {A : Args} {V : Valuation τ sig (Elt Ideal)} (H : Before A 0 V) :
    ∀ n, n ≤ 16384 → Before A n (STEP^[n] V)
  | 0, _ => H
  | n + 1, hn => by
    rw [Function.iterate_succ_apply']
    exact (H.iterate n (by omega)).step (by omega)

variable (m : (ℓ : Loc nD τ sig) → Buf (Elt Ideal) ℓ) (c : Dev nD)

/-- The program's arguments are the real ones: heads side by side in the lanes of the queries, keys and values. -/
structure Given (A : Args) : Prop where
  q : ∀ b h (t : Fin 16384) d, m ((c.tc : Thread nD τ).loc main_arg0) (ix3 b t ⟨h.val * 128 + d.val, by omega⟩) = ((A.q b h t d : ℝ) : EReal)
  k : ∀ b h (t : Fin 16384) d, m ((c.tc : Thread nD τ).loc main_arg1) (ix3 b t ⟨h.val * 128 + d.val, by omega⟩) = ((A.k b h t d : ℝ) : EReal)
  v : ∀ b h (t : Fin 16384) d, m ((c.tc : Thread nD τ).loc main_arg2) (ix3 b t ⟨h.val * 128 + d.val, by omega⟩) = ((A.v b h t d : ℝ) : EReal)
  g : ∀ b h (t : Fin 16384), m ((c.tc : Thread nD τ).loc main_arg3) (ix3 b t h) = ((A.g b h t : ℝ) : EReal)
  b : ∀ b h (t : Fin 16384), m ((c.tc : Thread nD τ).loc main_arg4) (ix3 b t h) = ((A.b b h t : ℝ) : EReal)
  s : ∀ b h d e, m ((c.tc : Thread nD τ).loc main_arg5) (ix4 b h d e) = ((A.s b h d e : ℝ) : EReal)

/-- The loop's entry. -/
theorem Given.entry {A : Args} (H : Given m c A) : Before A 0 (entryContents preI m c) where
  q t b h d := by
    refine Eq.trans ?_ (H.q b h t d)
    simp only [entryContents, afterL_cons, afterL_nil]
    after_reads_simp
    clean_types
    simp only [id_eq]
    pointwise []
  k t b h d := by
    refine Eq.trans ?_ (H.k b h t d)
    simp only [entryContents, afterL_cons, afterL_nil]
    after_reads_simp
    clean_types
    simp only [id_eq]
    pointwise []
  v t b h d := by
    refine Eq.trans ?_ (H.v b h t d)
    simp only [entryContents, afterL_cons, afterL_nil]
    after_reads_simp
    clean_types
    simp only [id_eq]
    pointwise []
  g t b h := by
    refine Eq.trans ?_ (H.g b h t)
    simp only [entryContents, afterL_cons, afterL_nil]
    after_reads_simp
    clean_types
    simp only [id_eq]
    pointwise []
  b t b h := by
    refine Eq.trans ?_ (H.b b h t)
    simp only [entryContents, afterL_cons, afterL_nil]
    after_reads_simp
    clean_types
    simp only [id_eq]
    pointwise []
  ctr := ctr_entry m c
  s b h d e := by
    refine Eq.trans ?_ (H.s b h d e)
    simp only [entryContents, afterL_cons, afterL_nil]
    after_reads_simp
    rfl
  o t b h e ht := absurd ht (Nat.not_lt_zero _)

/-- The reference's outputs: each head's outputs, side by side in the lanes. -/
theorem Given.out {A : Args} (H : Given m c A) (b : Fin 2) (h : Fin 8) (t : Fin 16384) (e : Fin 128) :
    out_main_v11 (STEP^[16384] (entryContents preI m c)) (ix3 b t ⟨h.val * 128 + e.val, by omega⟩)
      = ((A.out b h t e : ℝ) : EReal) := by
  refine Eq.trans ?_ ((H.entry.iterate 16384 (le_refl _)).o t b h e t.isLt)
  unfold out_main_v11
  generalize (STEP^[16384] (entryContents preI m c)) = V
  clean_types
  pointwise []

/-- The reference's last states. -/
theorem Given.state {A : Args} (H : Given m c A) (b : Fin 2) (h : Fin 8) (d e : Fin 128) :
    (STEP^[16384] (entryContents preI m c)) (Proc.devRef .tc main_v9_6) (ix4 b h d e)
      = ((A.state b h 16384 d e : ℝ) : EReal) :=
  (H.entry.iterate 16384 (le_refl _)).s b h d e

end Cert.Proof.Ref

end
-- ==== Proof.Blocks.lean ====
/- The blocks a grid point reads of real arguments, and what it makes of the states it finds. -/
module

public import proofs.«01_k».proof.Proof.Scratch
public import proofs.«01_k».proof.Proof.Chunk
public import proofs.«01_k».proof.Proof.Packing
public import proofs.«01_k».proof.Proof.Reference

@[expose] public section

set_option maxRecDepth 16384

noncomputable section

namespace Cert.Blocks

open Idealize.ShloMosaic Idealize.ShloMosaic.TcCoe Idealize.SL.Sem Cert.KernelIdeal Cert.KernelIdeal.Gen Cert.Lift
open Cert.Pair Cert.Point
open Cert.Proof.Ref (Args)

theorem idx0 : ∀ t : Fin cfg0.N, win0_0.index t (0 : Fin 3) = t.val / 64 ∧ win0_0.index t (1 : Fin 3) = t.val % 64 ∧ win0_0.index t (2 : Fin 3) = 0 :=
  (by decide +kernel : ∀ t : Fin grid0.N, _)
theorem idx1 : ∀ t : Fin cfg0.N, win0_1.index t (0 : Fin 3) = t.val / 64 ∧ win0_1.index t (1 : Fin 3) = t.val % 64 ∧ win0_1.index t (2 : Fin 3) = 0 :=
  (by decide +kernel : ∀ t : Fin grid0.N, _)
theorem idx2 : ∀ t : Fin cfg0.N, win0_2.index t (0 : Fin 3) = t.val / 64 ∧ win0_2.index t (1 : Fin 3) = t.val % 64 ∧ win0_2.index t (2 : Fin 3) = 0 :=
  (by decide +kernel : ∀ t : Fin grid0.N, _)
theorem idx3 : ∀ t : Fin cfg0.N, win0_3.index t (0 : Fin 3) = t.val / 64 ∧ win0_3.index t (1 : Fin 3) = t.val % 64 ∧ win0_3.index t (2 : Fin 3) = 0 :=
  (by decide +kernel : ∀ t : Fin grid0.N, _)
theorem idx4 : ∀ t : Fin cfg0.N, win0_4.index t (0 : Fin 4) = t.val / 64 ∧ win0_4.index t (1 : Fin 4) = t.val % 64 ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val / 64 ∧ win0_5.index t (1 : Fin 4) = 0 ∧ win0_5.index t (2 : Fin 4) = 0 ∧ win0_5.index t (3 : Fin 4) = 0 :=
  (by decide +kernel : ∀ t : Fin grid0.N, _)

theorem lt_points (t : Fin cfg0.N) : t.val < 128 := lt_of_lt_of_eq t.isLt N_0

/-- The batch of a grid point. -/
def batch (t : Fin cfg0.N) : Fin 2 := ⟨t.val / 64, by have := lt_points t; omega⟩

/-- The number of the first token of a grid point. -/
def first (t : Fin cfg0.N) : ℕ := 256 * (t.val % 64)

theorem first_lt (t : Fin cfg0.N) (i : Fin 256) : first t + i.val < 16384 := by unfold first; omega

variable (m : (ℓ : Loc nD τ sig) → Buf (Elt Ideal) ℓ) (c : Dev nD)

/-- The block of queries. -/
theorem block0 (t : Fin cfg0.N) (i : Fin 256) (l : Fin 1024) :
    (iblk m c 0 t : FVec Ideal S1x256x1024 .f32) (ix3 (0 : Fin 1) i l) =
      m ((c : Thread nD τ).loc main_arg0) (ix3 (batch t) (⟨first t + i.val, first_lt t i⟩ : Fin 16384) l) := by
  obtain ⟨e0, e1, e2⟩ := idx0 t
  show V m c main_arg0 (((cfg0.win 0).blk t).view.emb (ix3 (0 : Fin 1) i l)) = _
  rw [V_main_arg0]
  congr 1
  funext a
  apply Fin.ext
  match a with
  | ⟨0, _⟩ => show win0_0.index t (0 : Fin 3) * 1 + 1 * 0 = t.val / 64; omega
  | ⟨1, _⟩ => show win0_0.index t (1 : Fin 3) * 256 + 1 * i.val = 256 * (t.val % 64) + i.val; omega
  | ⟨2, _⟩ => show win0_0.index t (2 : Fin 3) * 1024 + 1 * l.val = l.val; omega

/-- The block of keys. -/
theorem block1 (t : Fin cfg0.N) (i : Fin 256) (l : Fin 1024) :
    (iblk m c 1 t : FVec Ideal S1x256x1024 .f32) (ix3 (0 : Fin 1) i l) =
      m ((c : Thread nD τ).loc main_arg1) (ix3 (batch t) (⟨first t + i.val, first_lt t i⟩ : Fin 16384) l) := by
  obtain ⟨e0, e1, e2⟩ := idx1 t
  show V m c main_arg1 (((cfg0.win 1).blk t).view.emb (ix3 (0 : Fin 1) i l)) = _
  rw [V_main_arg1]
  congr 1
  funext a
  apply Fin.ext
  match a with
  | ⟨0, _⟩ => show win0_1.index t (0 : Fin 3) * 1 + 1 * 0 = t.val / 64; omega
  | ⟨1, _⟩ => show win0_1.index t (1 : Fin 3) * 256 + 1 * i.val = 256 * (t.val % 64) + i.val; omega
  | ⟨2, _⟩ => show win0_1.index t (2 : Fin 3) * 1024 + 1 * l.val = l.val; omega

/-- The block of values. -/
theorem block2 (t : Fin cfg0.N) (i : Fin 256) (l : Fin 1024) :
    (iblk m c 2 t : FVec Ideal S1x256x1024 .f32) (ix3 (0 : Fin 1) i l) =
      m ((c : Thread nD τ).loc main_arg2) (ix3 (batch t) (⟨first t + i.val, first_lt t i⟩ : Fin 16384) l) := by
  obtain ⟨e0, e1, e2⟩ := idx2 t
  show V m c main_arg2 (((cfg0.win 2).blk t).view.emb (ix3 (0 : Fin 1) i l)) = _
  rw [V_main_arg2]
  congr 1
  funext a
  apply Fin.ext
  match a with
  | ⟨0, _⟩ => show win0_2.index t (0 : Fin 3) * 1 + 1 * 0 = t.val / 64; omega
  | ⟨1, _⟩ => show win0_2.index t (1 : Fin 3) * 256 + 1 * i.val = 256 * (t.val % 64) + i.val; omega
  | ⟨2, _⟩ => show win0_2.index t (2 : Fin 3) * 1024 + 1 * l.val = l.val; omega

/-- The block of columns. -/
theorem block3 (t : Fin cfg0.N) (i : Fin 256) (l : Fin 128) :
    (iblk m c 3 t : FVec Ideal S1x256x128 .f32) (ix3 (0 : Fin 1) i l) =
      (V m c main_v10 : FVec Ideal S2x16384x128 .f32)
        (ix3 (batch t) (⟨first t + i.val, first_lt t i⟩ : Fin 16384) l) := by
  obtain ⟨e0, e1, e2⟩ := idx3 t
  show V m c main_v10 (((cfg0.win 3).blk t).view.emb (ix3 (0 : Fin 1) i l)) = _
  congr 1
  funext a
  apply Fin.ext
  match a with
  | ⟨0, _⟩ => show win0_3.index t (0 : Fin 3) * 1 + 1 * 0 = t.val / 64; omega
  | ⟨1, _⟩ => show win0_3.index t (1 : Fin 3) * 256 + 1 * i.val = 256 * (t.val % 64) + i.val; omega
  | ⟨2, _⟩ => show win0_3.index t (2 : Fin 3) * 128 + 1 * l.val = l.val; omega

/-- The block of rows. -/
theorem block4 (t : Fin cfg0.N) (n : Fin 4) (l : Fin 16) (i : Fin 64) :
    (iblk m c 4 t : FVec Ideal S1x4x16x64 .f32) (ix4 (0 : Fin 1) n l i) =
      (V m c main_v12 : FVec Ideal S2x256x16x64 .f32)
        (ix4 (batch t) (⟨4 * (t.val % 64) + n.val, by omega⟩ : Fin 256) l i) := by
  obtain ⟨e0, e1, e2, e3⟩ := idx4 t
  show V m c main_v12 (((cfg0.win 4).blk t).view.emb (ix4 (0 : Fin 1) n l i)) = _
  congr 1
  funext a
  apply Fin.ext
  match a with
  | ⟨0, _⟩ => show win0_4.index t (0 : Fin 4) * 1 + 1 * 0 = t.val / 64; omega
  | ⟨1, _⟩ => show win0_4.index t (1 : Fin 4) * 4 + 1 * n.val = 4 * (t.val % 64) + n.val; omega
  | ⟨2, _⟩ => show win0_4.index t (2 : Fin 4) * 16 + 1 * l.val = l.val; omega
  | ⟨3, _⟩ => show win0_4.index t (3 : Fin 4) * 64 + 1 * i.val = i.val; omega

/-- The block of first states. -/
theorem block5 (t : Fin cfg0.N) (h : Fin 8) (d e : Fin 128) :
    (iblk m c 5 t : FVec Ideal S1x8x128x128 .f32) (ix4 (0 : Fin 1) h d e) =
      m ((c : Thread nD τ).loc main_arg5) (ix4 (batch t) h d e) := by
  obtain ⟨e0, e1, e2, e3⟩ := idx5 t
  show V m c main_arg5 (((cfg0.win 5).blk t).view.emb (ix4 (0 : Fin 1) h d e)) = _
  rw [V_main_arg5]
  congr 1
  funext a
  apply Fin.ext
  match a with
  | ⟨0, _⟩ => show win0_5.index t (0 : Fin 4) * 1 + 1 * 0 = t.val / 64; omega
  | ⟨1, _⟩ => show win0_5.index t (1 : Fin 4) * 8 + 1 * h.val = h.val; omega
  | ⟨2, _⟩ => show win0_5.index t (2 : Fin 4) * 128 + 1 * d.val = d.val; omega
  | ⟨3, _⟩ => show win0_5.index t (3 : Fin 4) * 128 + 1 * e.val = e.val; omega

/-- The kernel's arguments are these real numbers. -/
structure Given (A : Args) : Prop where
  q : ∀ b h (t : Fin 16384) (d : Fin 128), m ((c : Thread nD τ).loc main_arg0)
    (ix3 b t (⟨h.val * 128 + d.val, by omega⟩ : Fin 1024)) = ((A.q b h t d : ℝ) : EReal)
  k : ∀ b h (t : Fin 16384) (d : Fin 128), m ((c : Thread nD τ).loc main_arg1)
    (ix3 b t (⟨h.val * 128 + d.val, by omega⟩ : Fin 1024)) = ((A.k b h t d : ℝ) : EReal)
  v : ∀ b h (t : Fin 16384) (d : Fin 128), m ((c : Thread nD τ).loc main_arg2)
    (ix3 b t (⟨h.val * 128 + d.val, by omega⟩ : Fin 1024)) = ((A.v b h t d : ℝ) : EReal)
  g : ∀ b h (t : Fin 16384), m ((c : Thread nD τ).loc main_arg3) (ix3 b t h) = ((A.g b h t : ℝ) : EReal)
  b : ∀ b h (t : Fin 16384), m ((c : Thread nD τ).loc main_arg4) (ix3 b t h) = ((A.b b h t : ℝ) : EReal)
  s : ∀ b h d e, m ((c : Thread nD τ).loc main_arg5) (ix4 b h d e) = ((A.s b h d e : ℝ) : EReal)

/-- The real numbers of one head over the chunk that starts at token `n`. -/
def chunkAt (A : Args) (b : Fin 2) (h : Fin 8) (n : ℕ) : Reals :=
  chunkOf (fun i => A.q b h (n + i)) (fun i => A.k b h (n + i)) (fun i => A.v b h (n + i)) (fun i => A.g b h (n + i))
    (fun i => A.b b h (n + i))

theorem chunkAt_next (A : Args) (b : Fin 2) (h : Fin 8) (n : ℕ) :
    (chunkAt A b h n).next (A.state b h n) = A.state b h (n + 64) := by
  funext d e
  unfold chunkAt
  rw [next_eq]
  unfold Args.state
  rw [DeltaRule.state_add]

theorem chunkAt_o (A : Args) (b : Fin 2) (h : Fin 8) (n : ℕ) (i : Fin 64) (e : Fin 128) :
    (chunkAt A b h n).o (A.state b h n) i e = A.out b h (n + i) e := by
  unfold chunkAt
  rw [o_eq]
  unfold Args.state Args.out
  rw [DeltaRule.out_add]

/-- A block of one chunk's rows read as a square. -/
theorem drop64 {α : Type} (w : S1x64x128.Idx → α) (i : Fin 64) (d : Fin 128) :
    shapeCast S64x128 w shapeCasts_S1x64x128_S64x128 (ix2 i d) = w (ix3 (0 : Fin 1) i d) := by
  pointwise []

/-- A block of one chunk's lanes read as a rectangle. -/
theorem drop16 {α : Type} (w : S1x1x16x64.Idx → α) (l : Fin 16) (i : Fin 64) :
    shapeCast S16x64 w shapeCasts_S1x1x16x64_S16x64 (ix2 l i) = w (ix4 (0 : Fin 1) (0 : Fin 1) l i) := by
  pointwise []

theorem cols_idx (n : Fin 4) (i : Fin 64) (l : Fin 128) :
    (cols n).idx (ix3 (0 : Fin 1) i l) = ix3 (0 : Fin 1) (⟨64 * n.val + i.val, by omega⟩ : Fin 256) l := by
  funext a
  apply Fin.ext
  unfold cols
  rw [Rect.idx_unit_val]
  fin_cases a <;> simp [ix3]

theorem rowsOf_idx (n : Fin 4) (l : Fin 16) (i : Fin 64) :
    (rowsOf n).idx (ix4 (0 : Fin 1) (0 : Fin 1) l i) = ix4 (0 : Fin 1) n l i := by
  funext a
  apply Fin.ext
  unfold rowsOf
  rw [Rect.idx_unit_val]
  fin_cases a <;> simp [ix4]

/-- A head's column of summed log-decays. -/
theorem column_g {α : Type} (w : S64x128.Idx → α) (h : Fin 8) (i : Fin 64) :
    extractStridedSlice S64x1 ![0, h.val] w (slices_g h) (ix2 i (0 : Fin 1)) = w (ix2 i (⟨h.val, by omega⟩ : Fin 128)) := by
  refine extractStridedSlice_apply _ w _ _ _ fun a => ?_
  fin_cases a
  · exact (Nat.zero_add _).symm
  · rfl

/-- A head's column of betas. -/
theorem column_b {α : Type} (w : S64x128.Idx → α) (h : Fin 8) (i : Fin 64) :
    extractStridedSlice S64x1 ![0, 8 + h.val] w (slices_b h) (ix2 i (0 : Fin 1)) =
      w (ix2 i (⟨8 + h.val, by omega⟩ : Fin 128)) := by
  refine extractStridedSlice_apply _ w _ _ _ fun a => ?_
  fin_cases a
  · exact (Nat.zero_add _).symm
  · rfl

/-- A head's row of summed log-decays. -/
theorem row_g {α : Type} (w : S16x64.Idx → α) (h : Fin 8) (j : Fin 64) :
    extractStridedSlice S1x64 ![h.val, 0] w (slices_r h) (ix2 (0 : Fin 1) j) = w (ix2 (⟨h.val, by omega⟩ : Fin 16) j) := by
  refine extractStridedSlice_apply _ w _ _ _ fun a => ?_
  fin_cases a
  · rfl
  · exact (Nat.zero_add _).symm

/-- A head's tokens of a chunk, loaded. -/
theorem tokens {F : FTy → Type} (x : Vec F S1x256x1024 .f32) (n : Fin 4) (h : Fin 8) (i : Fin 64) (d : Fin 128) :
    shapeCast S64x128 (View.ld x (tok n h)) shapeCasts_S1x64x128_S64x128 (ix2 i d) =
      x (ix3 (0 : Fin 1) (⟨64 * n.val + i.val, by omega⟩ : Fin 256) (⟨128 * h.val + d.val, by omega⟩ : Fin 1024)) :=
  (drop64 (View.ld x (tok n h)) i d).trans (congrArg x (tok_idx n h i d))

/-- A chunk's columns, loaded. -/
theorem columns {F : FTy → Type} (x : Vec F S1x256x128 .f32) (n : Fin 4) (i : Fin 64) (l : Fin 128) :
    shapeCast S64x128 (View.ld x (cols n)) shapeCasts_S1x64x128_S64x128 (ix2 i l) =
      x (ix3 (0 : Fin 1) (⟨64 * n.val + i.val, by omega⟩ : Fin 256) l) :=
  (drop64 (View.ld x (cols n)) i l).trans (congrArg x (cols_idx n i l))

/-- A chunk's rows, loaded. -/
theorem lanes {F : FTy → Type} (x : Vec F S1x4x16x64 .f32) (n : Fin 4) (l : Fin 16) (j : Fin 64) :
    shapeCast S16x64 (View.ld x (rowsOf n)) shapeCasts_S1x1x16x64_S16x64 (ix2 l j) = x (ix4 (0 : Fin 1) n l j) :=
  (drop16 (View.ld x (rowsOf n)) l j).trans (congrArg x (rowsOf_idx n l j))

/-- The loads of a grid point. -/
abbrev loadsAt (t : Fin cfg0.N) : Loads Ideal :=
  loads (iblk m c 0 t) (iblk m c 1 t) (iblk m c 2 t) (iblk m c 3 t) (iblk m c 4 t)

variable {m c}

theorem Given.summed {A : Args} (H : Given m c A) : Packing.Gives (m ((c : Thread nD τ).loc main_arg3)) A.g :=
  fun b t h => H.g b h t

/-- The summed log-decay of a token of a chunk. -/
theorem Given.cum {A : Args} (H : Given m c A) (t : Fin cfg0.N) (n : Fin 4) (h : Fin 8) (i : Fin 64)
    (x : Fin 16384) (hx : x.val = first t + (64 * n.val + i.val)) :
    Packing.summed (F := Ideal) (m ((c : Thread nD τ).loc main_arg3)) (ix3 (batch t) x h) =
      (((chunkAt A (batch t) h (first t + 64 * n.val)).G i : ℝ) : EReal) := by
  rw [Packing.summed_apply H.summed]
  have h1 : x.val / 64 * 64 = first t + 64 * n.val := by unfold first at *; omega
  have h2 : x.val % 64 = i.val := by unfold first at *; omega
  rw [h1, h2]
  rfl

theorem Given.load_q {A : Args} (H : Given m c A) (t : Fin cfg0.N) (n : Fin 4) (h : Fin 8) (i : Fin 64) (d : Fin 128) :
    (loadsAt m c t).q n h (ix2 i d) = (((chunkAt A (batch t) h (first t + 64 * n.val)).q i d : ℝ) : EReal) := by
  refine (tokens (iblk m c 0 t) n h i d).trans ?_
  refine (block0 m c t _ _).trans ?_
  refine Eq.trans ?_ (H.q (batch t) h ⟨first t + 64 * n.val + i.val, by unfold first; omega⟩ d)
  congr 1
  funext a
  apply Fin.ext
  match a with
  | ⟨0, _⟩ => rfl
  | ⟨1, _⟩ => exact (Nat.add_assoc _ _ _).symm
  | ⟨2, _⟩ => exact congrArg (· + d.val) (Nat.mul_comm _ _)

theorem Given.load_k {A : Args} (H : Given m c A) (t : Fin cfg0.N) (n : Fin 4) (h : Fin 8) (i : Fin 64) (d : Fin 128) :
    (loadsAt m c t).k n h (ix2 i d) = (((chunkAt A (batch t) h (first t + 64 * n.val)).k i d : ℝ) : EReal) := by
  refine (tokens (iblk m c 1 t) n h i d).trans ?_
  refine (block1 m c t _ _).trans ?_
  refine Eq.trans ?_ (H.k (batch t) h ⟨first t + 64 * n.val + i.val, by unfold first; omega⟩ d)
  congr 1
  funext a
  apply Fin.ext
  match a with
  | ⟨0, _⟩ => rfl
  | ⟨1, _⟩ => exact (Nat.add_assoc _ _ _).symm
  | ⟨2, _⟩ => exact congrArg (· + d.val) (Nat.mul_comm _ _)

theorem Given.load_v {A : Args} (H : Given m c A) (t : Fin cfg0.N) (n : Fin 4) (h : Fin 8) (i : Fin 64) (d : Fin 128) :
    (loadsAt m c t).v n h (ix2 i d) = (((chunkAt A (batch t) h (first t + 64 * n.val)).v i d : ℝ) : EReal) := by
  refine (tokens (iblk m c 2 t) n h i d).trans ?_
  refine (block2 m c t _ _).trans ?_
  refine Eq.trans ?_ (H.v (batch t) h ⟨first t + 64 * n.val + i.val, by unfold first; omega⟩ d)
  congr 1
  funext a
  apply Fin.ext
  match a with
  | ⟨0, _⟩ => rfl
  | ⟨1, _⟩ => exact (Nat.add_assoc _ _ _).symm
  | ⟨2, _⟩ => exact congrArg (· + d.val) (Nat.mul_comm _ _)

theorem Given.load_g {A : Args} (H : Given m c A) (t : Fin cfg0.N) (n : Fin 4) (h : Fin 8) (i : Fin 64) :
    (loadsAt m c t).gb n (ix2 i (⟨h.val, by omega⟩ : Fin 128)) =
      (((chunkAt A (batch t) h (first t + 64 * n.val)).G i : ℝ) : EReal) := by
  refine (columns (iblk m c 3 t) n i _).trans ?_
  refine (block3 m c t _ _).trans ?_
  refine (Packing.columns_apply m c _ _ (⟨h.val, by omega⟩ : Fin 16)).trans ?_
  refine (Packing.packed_low _ _ _ _ h).trans ?_
  exact H.cum t n h i _ rfl

theorem Given.load_b {A : Args} (H : Given m c A) (t : Fin cfg0.N) (n : Fin 4) (h : Fin 8) (i : Fin 64) :
    (loadsAt m c t).gb n (ix2 i (⟨8 + h.val, by omega⟩ : Fin 128)) =
      (((chunkAt A (batch t) h (first t + 64 * n.val)).b i : ℝ) : EReal) := by
  refine (columns (iblk m c 3 t) n i _).trans ?_
  refine (block3 m c t _ _).trans ?_
  refine (Packing.columns_apply m c _ _ (⟨8 + h.val, by omega⟩ : Fin 16)).trans ?_
  refine (Packing.packed_high _ _ _ _ h).trans ?_
  refine (H.b (batch t) h _).trans ?_
  show ((A.b (batch t) h (first t + (64 * n.val + i.val)) : ℝ) : EReal) =
    ((A.b (batch t) h (first t + 64 * n.val + i.val) : ℝ) : EReal)
  rw [Nat.add_assoc]

theorem Given.load_r {A : Args} (H : Given m c A) (t : Fin cfg0.N) (n : Fin 4) (h : Fin 8) (j : Fin 64) :
    (loadsAt m c t).gr n (ix2 (⟨h.val, by omega⟩ : Fin 16) j) =
      (((chunkAt A (batch t) h (first t + 64 * n.val)).G j : ℝ) : EReal) := by
  refine (lanes (iblk m c 4 t) n _ j).trans ?_
  refine (block4 m c t _ _ _).trans ?_
  refine (Packing.rows_apply m c _ _ _ _).trans ?_
  refine (Packing.packed_low _ _ _ _ h).trans ?_
  refine H.cum t n h j _ ?_
  show (4 * (t.val % 64) + n.val) * 64 + j.val = 256 * (t.val % 64) + (64 * n.val + j.val)
  omega

/-- What a grid point loads is real: the tokens of its chunks. -/
theorem Given.loads {A : Args} (H : Given m c A) (t : Fin cfg0.N) :
    (loadsAt m c t).Real fun n h => chunkAt A (batch t) h (first t + 64 * n.val) := fun n h =>
  { q := fun i d => H.load_q t n h i d
    k := fun i d => H.load_k t n h i d
    v := fun i d => H.load_v t n h i d
    g := fun i => (column_g ((loadsAt m c t).gb n) h i).trans (H.load_g t n h i)
    b := fun i => (column_b ((loadsAt m c t).gb n) h i).trans (H.load_b t n h i)
    r := fun j => (row_g ((loadsAt m c t).gr n) h j).trans (H.load_r t n h j) }

end Cert.Blocks

end
-- ==== Proof.Points.lean ====
/- What every grid point leaves: the recurrence's outputs at its tokens and the states after them. -/
module

public import proofs.«01_k».proof.Proof.Blocks

@[expose] public section

set_option maxRecDepth 16384

noncomputable section

namespace Cert.Blocks

open Idealize.ShloMosaic Idealize.ShloMosaic.TcCoe Idealize.SL.Sem Cert.KernelIdeal Cert.KernelIdeal.Gen Cert.Lift
open Cert.Pair Cert.Point
open Cert.Proof.Ref (Args)

/-! ## The blocks a point leaves, of any inputs -/

section

variable {F : FTy → Type} [FloatOps F]

variable (c : Dev nD) (i : grid0.Coords)
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole)
    (arg5 : Memref sig .tc .vmem S1x256x128 .f32) (harg5 : arg5.IsWhole)
    (arg6 : Memref sig .tc .vmem S1x4x16x64 .f32) (harg6 : arg6.IsWhole)
    (arg7 : Memref sig .tc .vmem S1x8x128x128 .f32) (harg7 : arg7.IsWhole)
    (arg8 : Memref sig .tc .vmem S1x256x1024 .f32) (harg8 : arg8.IsWhole)
    (arg9 : Memref sig .tc .vmem S1x8x128x128 .f32) (harg9 : arg9.IsWhole)
    (arg10 : Memref sig .tc .vmem S8x128x128 .f32) (harg10 : arg10.IsWhole)
    (x0 : Vec F S1x256x1024 .f32) (x1 : Vec F S1x256x1024 .f32) (x2 : Vec F S1x256x1024 .f32) (x3 : Vec F S1x256x128 .f32) (x4 : Vec F S1x4x16x64 .f32) (x5 : Vec F S1x8x128x128 .f32)

theorem out0_A_6_eq (hc0 : cond0_0 i) :
    out0_A_6 c i arg2 harg2 arg3 harg3 arg4 harg4 arg5 harg5 arg6 harg6 arg7 harg7 arg8 harg8 arg9 harg9 arg10 harg10 hc0 x0 x1 x2 x3 x4 x5 =
      View.canon (allOuts arg10.view (loads x0 x1 x2 x3 x4) (found arg10.view [fill x5]) [fill x5]) := by
  unfold out0_A_6
  rw [View.read_writes_junk_eq_canon, outs_A]

theorem out0_A_7_eq (hc0 : cond0_0 i) :
    out0_A_7 c i arg2 harg2 arg3 harg3 arg4 harg4 arg5 harg5 arg6 harg6 arg7 harg7 arg8 harg8 arg9 harg9 arg10 harg10 hc0 x0 x1 x2 x3 x4 x5 =
      View.canon ([final arg10.view (scr4 arg10.view (loads x0 x1 x2 x3 x4) (found arg10.view [fill x5]) [fill x5])]) := by
  unfold out0_A_7
  rw [View.read_writes_junk_eq_canon, final_A]

theorem sout0_A_0_eq (hc0 : cond0_0 i) :
    sout0_A_0 c i arg2 harg2 arg3 harg3 arg4 harg4 arg5 harg5 arg6 harg6 arg7 harg7 arg8 harg8 arg9 harg9 arg10 harg10 hc0 x0 x1 x2 x3 x4 x5 =
      View.canon (scr4 arg10.view (loads x0 x1 x2 x3 x4) (found arg10.view [fill x5]) [fill x5]) := by
  unfold sout0_A_0
  rw [View.read_writes_junk_eq_canon, scratch_A]

theorem out0_B_6_eq (hc0 : ¬cond0_0 i) (xs0 : Vec F S8x128x128 .f32) :
    out0_B_6 c i arg2 harg2 arg3 harg3 arg4 harg4 arg5 harg5 arg6 harg6 arg7 harg7 arg8 harg8 arg9 harg9 arg10 harg10 hc0 x0 x1 x2 x3 x4 x5 xs0 =
      View.canon (allOuts arg10.view (loads x0 x1 x2 x3 x4) (kept xs0) []) := by
  unfold out0_B_6
  rw [View.read_writes_junk_eq_canon, outs_B]

theorem out0_B_7_eq (hc0 : ¬cond0_0 i) (xs0 : Vec F S8x128x128 .f32) :
    out0_B_7 c i arg2 harg2 arg3 harg3 arg4 harg4 arg5 harg5 arg6 harg6 arg7 harg7 arg8 harg8 arg9 harg9 arg10 harg10 hc0 x0 x1 x2 x3 x4 x5 xs0 =
      View.canon ([final arg10.view (scr4 arg10.view (loads x0 x1 x2 x3 x4) (kept xs0) [])]) := by
  unfold out0_B_7
  rw [View.read_writes_junk_eq_canon, final_B]

theorem sout0_B_0_eq (hc0 : ¬cond0_0 i) (xs0 : Vec F S8x128x128 .f32) :
    sout0_B_0 c i arg2 harg2 arg3 harg3 arg4 harg4 arg5 harg5 arg6 harg6 arg7 harg7 arg8 harg8 arg9 harg9 arg10 harg10 hc0 x0 x1 x2 x3 x4 x5 xs0 =
      View.canon (scr4 arg10.view (loads x0 x1 x2 x3 x4) (kept xs0) []) := by
  unfold sout0_B_0
  rw [View.read_writes_junk_eq_canon, scratch_B]

end

variable (m : (ℓ : Loc nD τ sig) → Buf (Elt Ideal) ℓ) (c : Dev nD)

/-- What a grid point leaves, when it finds the states `S` in its scratch, whose stores so far are `L`. -/
def Leaves (t : Fin cfg0.N) (S : Fin 8 → FVec Ideal S128x128 .f32)
    (L : List (View.Piece (Elt Ideal) S8x128x128 .f32)) : Prop :=
  outsAt0 m c t.val t.isLt = (View.canon (allOuts scM0_0.view (loadsAt m c t) S L),
    View.canon [final scM0_0.view (scr4 scM0_0.view (loadsAt m c t) S L)],
    View.canon (scr4 scM0_0.view (loadsAt m c t) S L))

/-- A batch's first point finds the states the call was given. -/
theorem leaves_first (t : Fin cfg0.N) (h0 : t.val % 64 = 0) :
    Leaves m c t (found scM0_0.view [fill (iblk m c 5 t)]) [fill (iblk m c 5 t)] := by
  unfold Leaves
  rw [outsAt0_A m c t h0, out0_A_6_eq, out0_A_7_eq, sout0_A_0_eq]

/-- Any other point finds the states the point before left. -/
theorem leaves_later (t : Fin cfg0.N) (h0 : ¬t.val % 64 = 0) :
    Leaves m c t (kept (outsAt0 m c (t.val - 1) (Nat.lt_of_le_of_lt (Nat.sub_le _ _) t.isLt)).2.2) [] := by
  unfold Leaves
  rw [outsAt0_B m c t h0, out0_B_6_eq, out0_B_7_eq, sout0_B_0_eq]

/-- A point's three results, when the states it finds are those of the recurrence before its tokens. -/
structure Point (A : Args) (t : Fin cfg0.N) : Prop where
  out : ∀ (n : Fin 4) (h : Fin 8) (i : Fin 64) (e : Fin 128),
    (outsAt0 m c t.val t.isLt).1 ((tok n h).idx (ix3 (0 : Fin 1) i e)) =
      ((A.out (batch t) h (first t + 64 * n.val + i.val) e : ℝ) : EReal)
  last : ∀ (h : Fin 8) (d e : Fin 128), (outsAt0 m c t.val t.isLt).2.1 (ix4 (0 : Fin 1) h d e) =
    ((A.state (batch t) h (first t + 256) d e : ℝ) : EReal)
  scratch : ∀ (h : Fin 8) (d e : Fin 128), (outsAt0 m c t.val t.isLt).2.2 (ix3 h d e) =
    ((A.state (batch t) h (first t + 256) d e : ℝ) : EReal)

variable {m c}

theorem Given.point {A : Args} (H : Given m c A) (t : Fin cfg0.N) (S : Fin 8 → FVec Ideal S128x128 .f32)
    (L : List (View.Piece (Elt Ideal) S8x128x128 .f32)) (hL : Leaves m c t S L)
    (hS : ∀ h, Holds (S h) (A.state (batch t) h (first t))) : Point m c A t := by
  have hst : ∀ (n : Fin 5) h, Holds ((loadsAt m c t).states S n h) (A.state (batch t) h (first t + 64 * n.val)) :=
    (H.loads t).states (T := fun n h => A.state (batch t) h (first t + 64 * n)) hS
      (fun n h => chunkAt_next A (batch t) h (first t + 64 * n.val))
  have l1 := congrArg (fun o => o.1) hL
  have l2 := congrArg (fun o => o.2.1) hL
  have l3 := congrArg (fun o => o.2.2) hL
  dsimp only at l1 l2 l3
  have last : ∀ h d e, View.canon (scr4 scM0_0.view (loadsAt m c t) S L) (ix3 h d e) =
      ((A.state (batch t) h (first t + 256) d e : ℝ) : EReal) := fun h d e => by
    have he : first t + 256 = first t + 64 * ((4 : Fin 5) : ℕ) := rfl
    rw [he, canon_scr4]
    exact hst 4 h d e
  refine ⟨fun n h i e => ?_, fun h d e => ?_, fun h d e => ?_⟩
  · rw [l1]
    refine (canon_allOuts scM0_0.view (loadsAt m c t) S L n h i e).trans ?_
    refine ((H.loads t).outs n (fun h => hst n.castSucc h) h i e).trans ?_
    exact congrArg _ (chunkAt_o A (batch t) h (first t + 64 * n.val) i e)
  · rw [l2, canon_final]
    exact last h d e
  · rw [l3]
    exact last h d e

/-- Every point leaves the recurrence's outputs at its tokens and the states after them. -/
theorem Given.points {A : Args} (H : Given m c A) : ∀ (n : ℕ) (hn : n < cfg0.N), Point m c A ⟨n, hn⟩ := by
  intro n
  induction n with
  | zero =>
    intro hn
    refine H.point ⟨0, hn⟩ _ _ (leaves_first m c ⟨0, hn⟩ rfl) fun h d e => ?_
    rw [found_apply, canon_fill, block5, H.s]
    rfl
  | succ n ih =>
    intro hn
    by_cases h0 : (n + 1) % 64 = 0
    · refine H.point ⟨n + 1, hn⟩ _ _ (leaves_first m c ⟨n + 1, hn⟩ h0) fun h d e => ?_
      rw [found_apply, canon_fill, block5, H.s]
      have hz : first ⟨n + 1, hn⟩ = 0 := by unfold first; dsimp only; rw [h0]
      rw [hz]
      rfl
    · refine H.point ⟨n + 1, hn⟩ _ _ (leaves_later m c ⟨n + 1, hn⟩ h0) fun h d e => ?_
      rw [kept_apply]
      refine ((ih (Nat.lt_of_succ_lt hn)).scratch h d e).trans ?_
      have hb : batch ⟨n, Nat.lt_of_succ_lt hn⟩ = batch ⟨n + 1, hn⟩ :=
        Fin.ext (by show n / 64 = (n + 1) / 64; omega)
      have hf : first ⟨n, Nat.lt_of_succ_lt hn⟩ + 256 = first ⟨n + 1, hn⟩ := by
        show 256 * (n % 64) + 256 = 256 * ((n + 1) % 64)
        omega
      rw [hb, hf]

end Cert.Blocks

end
-- ==== Proof.Finite.lean ====
/- The arguments are real: what the precondition says of them. -/
module

public import proofs.«01_k».proof.Pre_finite
public import proofs.«01_k».proof.Proof.Lift
public import Idealize.ShloMosaic.Lib.ReduceAll
public import Idealize.ShloMosaic.Lib.Pointwise

@[expose] public section

noncomputable section

namespace Cert.Finite

open Idealize.ShloMosaic Cert.Pre_finite Cert.Pre_finite.Facts

instance : Subsingleton S_.Idx := ⟨fun _ _ => funext fun a => nomatch a⟩

theorem top_word : FloatOps.ofBits (F := Ideal) .f32 0x7F800000#32 = (⊤ : EReal) := by
  simp [Ideal.ofBits, Ideal.ieee]

theorem bot_word : FloatOps.ofBits (F := Ideal) .f32 0xFF800000#32 = (⊥ : EReal) := by
  simp [Ideal.ofBits, Ideal.ieee]

/-- Both comparisons hold of an element: it is a real number. -/
theorem real_of_compares {x : EReal}
    (h : IntOp.andi (FloatOps.cmpf (F := Ideal) (φ := .f32) .olt x (FloatOps.ofBits (F := Ideal) .f32 0x7F800000#32))
      (FloatOps.cmpf (F := Ideal) (φ := .f32) .ogt x (FloatOps.ofBits (F := Ideal) .f32 0xFF800000#32)) = 1#1) :
    x = ((x.toReal : ℝ) : EReal) := by
  obtain ⟨h1, h2⟩ := IntOp.andi_eq_one.1 h
  rw [top_word] at h1
  rw [bot_word] at h2
  rw [Ideal.cmpf_def] at h1 h2
  apply Lift.coe_toReal
  constructor
  · by_contra hn
    simp [Ideal.cmp, hn] at h1
  · by_contra hn
    simp [Ideal.cmp, hn] at h2

/-- Every element of an array of which the precondition's conjunct holds is real. -/
theorem real_of_all {s : Shape} {axes : List (Fin s.rank)} (hb : S_.BroadcastsInDim s ![]) (hr : s.ReducesTo axes S_)
    (x : FVec Ideal s .f32)
    (h : Host.reduce IntOp.andi
      (andi (cmpf .olt x (broadcastInDim s ![] hb (constant (F := Ideal) S_ .f32 0x7F800000#32)))
        (cmpf .ogt x (broadcastInDim s ![] hb (constant (F := Ideal) S_ .f32 0xFF800000#32))))
      (constantI S_ 1 1#1) hr (by decide : 0 < S_.numel) (fun a => nomatch a) = 1#1) (i : s.Idx) :
    x i = (((x i).toReal : ℝ) : EReal) :=
  real_of_compares (Host.reduce_andi_all _ _ hr _ _ h i)

variable [Facts]

/-- Under the precondition every element of every argument is real. -/
theorem real_of_fn (q k v : FVec Ideal S2x16384x1024 .f32) (g b : FVec Ideal S2x16384x8 .f32)
    (s : FVec Ideal S2x8x128x128 .f32) (h : fn (F := Ideal) q k v g b s = fun _ => 1#1) :
    (∀ i, q i = (((q i).toReal : ℝ) : EReal)) ∧ (∀ i, k i = (((k i).toReal : ℝ) : EReal)) ∧
    (∀ i, v i = (((v i).toReal : ℝ) : EReal)) ∧ (∀ i, g i = (((g i).toReal : ℝ) : EReal)) ∧
    (∀ i, b i = (((b i).toReal : ℝ) : EReal)) ∧ (∀ i, s i = (((s i).toReal : ℝ) : EReal)) := by
  have h0 := congrFun h (fun a => nomatch a)
  unfold fn fn_part1 fn_part2 at h0
  dsimp only at h0
  obtain ⟨h0, hs⟩ := IntOp.andi_eq_one.1 h0
  obtain ⟨h0, hb⟩ := IntOp.andi_eq_one.1 h0
  obtain ⟨h0, hg⟩ := IntOp.andi_eq_one.1 h0
  obtain ⟨h0, hv⟩ := IntOp.andi_eq_one.1 h0
  obtain ⟨hq, hk⟩ := IntOp.andi_eq_one.1 h0
  exact ⟨real_of_all _ _ q hq, real_of_all _ _ k hk, real_of_all _ _ v hv, real_of_all _ _ g hg, real_of_all _ _ b hb,
    real_of_all _ _ s hs⟩

end Cert.Finite

end
-- ==== Proof.Final.lean ====
/- The kernel's arrays and the reference's are one: the recurrence's outputs and its last states. -/
module

public import proofs.«01_k».proof.Defs
public import proofs.«01_k».proof.Proof.Points
public import proofs.«01_k».proof.Proof.Finite
public import proofs.«01_k».proof.Proof.Gen.Pre_finite
public import proofs.«01_k».proof.Proof.Gen.KernelIdeal.Value
public import proofs.«01_k».proof.Proof.Gen.ReferenceIdeal.Run

@[expose] public section

set_option maxRecDepth 16384

noncomputable section

namespace Cert.Final

open Idealize.ShloMosaic Idealize.ShloMosaic.TcCoe Idealize.SL.Sem Cert.KernelIdeal Cert.KernelIdeal.Gen Cert.Blocks Cert.Point
open Cert.Proof.Ref (Args)
open Cert.KernelIdeal.Value (G6 G7 outsAt0_sweep)

/-- Token `t` of the sequence. -/
def tok (t : ℕ) : Fin 16384 := ⟨t % 16384, Nat.mod_lt _ (by decide)⟩

theorem tok_val (t : Fin 16384) : tok t.val = t := Fin.ext (Nat.mod_eq_of_lt t.isLt)

/-- The lane of a head's column. -/
def lane (h : Fin 8) (d : Fin 128) : Fin 1024 := ⟨h.val * 128 + d.val, by omega⟩

/-- The real numbers of six arrays. -/
def argsOf (q k v : FVec Ideal S2x16384x1024 .f32) (g b : FVec Ideal S2x16384x8 .f32)
    (s : FVec Ideal S2x8x128x128 .f32) : Args where
  q β h t d := EReal.toReal (q (ix3 β (tok t) (lane h d)))
  k β h t d := EReal.toReal (k (ix3 β (tok t) (lane h d)))
  v β h t d := EReal.toReal (v (ix3 β (tok t) (lane h d)))
  g β h t := EReal.toReal (g (ix3 β (tok t) h))
  b β h t := EReal.toReal (b (ix3 β (tok t) h))
  s β h d e := EReal.toReal (s (ix4 β h d e))

section

variable (m : (ℓ : Loc nD τ sig) → Buf (Elt Ideal) ℓ) (c : Dev nD)

/-- The real numbers of the kernel's arguments. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c}

/-- Under the precondition the kernel's arguments are real. -/
theorem given (hpre : Cert.Pre_KernelIdeal_finite m) : Blocks.Given m c (args m c) := by
  obtain ⟨hq, hk, hv, hg, hb, hs⟩ := Finite.real_of_fn _ _ _ _ _ _ (hpre c)
  refine ⟨fun b h t d => ?_, fun b h t d => ?_, fun b h t d => ?_, fun b h t => ?_, fun b h t => ?_, fun b h d e => ?_⟩
  · show _ = ((EReal.toReal (m ((c : Thread nD τ).loc main_arg0) (ix3 b (tok t.val) (lane h d))) : ℝ) : EReal)
    rw [tok_val]; exact hq _
  · show _ = ((EReal.toReal (m ((c : Thread nD τ).loc main_arg1) (ix3 b (tok t.val) (lane h d))) : ℝ) : EReal)
    rw [tok_val]; exact hk _
  · show _ = ((EReal.toReal (m ((c : Thread nD τ).loc main_arg2) (ix3 b (tok t.val) (lane h d))) : ℝ) : EReal)
    rw [tok_val]; exact hv _
  · show _ = ((EReal.toReal (m ((c : Thread nD τ).loc main_arg3) (ix3 b (tok t.val) h)) : ℝ) : EReal)
    rw [tok_val]; exact hg _
  · show _ = ((EReal.toReal (m ((c : Thread nD τ).loc main_arg4) (ix3 b (tok t.val) h)) : ℝ) : EReal)
    rw [tok_val]; exact hb _
  · exact hs _

theorem batch_of {n : ℕ} (hn : n < cfg0.N) (b : Fin 2) (h : n / 64 = b.val) : batch ⟨n, hn⟩ = b := Fin.ext h

/-- The kernel's outputs are the recurrence's. -/
theorem out_eq {A : Args} (H : Blocks.Given m c A) (b : Fin 2) (h : Fin 8) (t : Fin 16384) (e : Fin 128) :
    G6 m c (ix3 b t (lane h e)) = ((A.out b h t e : ℝ) : EReal) := by
  have hp : Value.pt6Of (ix3 b t (lane h e)) = 64 * b.val + t.val / 256 := by
    show 64 * (b.val / 1 - 0) + 1 * (t.val / 256 - 0) + 1 * ((h.val * 128 + e.val) / 1024 - 0) = _
    omega
  have hlt : 64 * b.val + t.val / 256 < cfg0.N := lt_of_lt_of_eq (by omega) N_0.symm
  unfold G6
  rw [dif_pos (by rw [hp]; exact hlt), Value.fold0_congr m c _ _ _ (by rw [Nat.zero_add]; exact hlt) hp,
    ← outsAt0_sweep m c _ hlt]
  have hl : Value.loc6Of (ix3 b t (lane h e)) =
      (Point.tok (⟨t.val % 256 / 64, by omega⟩ : Fin 4) h).idx (ix3 (0 : Fin 1) (⟨t.val % 64, by omega⟩ : Fin 64) e) := by
    rw [tok_idx]
    funext a
    apply Fin.ext
    match a with
    | ⟨0, _⟩ => show b.val % 1 = 0; omega
    | ⟨1, _⟩ => show t.val % 256 = 64 * (t.val % 256 / 64) + t.val % 64; omega
    | ⟨2, _⟩ => show (h.val * 128 + e.val) % 1024 = 128 * h.val + e.val; omega
  rw [hl]
  refine ((H.points _ hlt).out _ h _ e).trans ?_
  rw [batch_of hlt b (by omega)]
  have ht : first ⟨64 * b.val + t.val / 256, hlt⟩ + 64 * (t.val % 256 / 64) + t.val % 64 = t.val := by
    show 256 * ((64 * b.val + t.val / 256) % 64) + 64 * (t.val % 256 / 64) + t.val % 64 = t.val
    omega
  show ((A.out b h (first ⟨64 * b.val + t.val / 256, hlt⟩ + 64 * (t.val % 256 / 64) + t.val % 64) e : ℝ) : EReal) = _
  rw [ht]

/-- The kernel's last states are the recurrence's. -/
theorem state_eq {A : Args} (H : Blocks.Given m c A) (b : Fin 2) (h : Fin 8) (d e : Fin 128) :
    G7 m c (ix4 b h d e) = ((A.state b h 16384 d e : ℝ) : EReal) := by
  have hp : Value.pt7Of (ix4 b h d e) = 64 * b.val + 63 := by
    show 64 * (1 * (b.val / 1 - 0) + 1 * (h.val / 8 - 0) + 1 * (d.val / 128 - 0) + 1 * (e.val / 128 - 0)) + 63 = _
    omega
  have hlt : 64 * b.val + 63 < cfg0.N := lt_of_lt_of_eq (by omega) N_0.symm
  unfold G7
  rw [dif_pos (by rw [hp]; exact hlt), Value.fold0_congr m c _ _ _ (by rw [Nat.zero_add]; exact hlt) hp,
    ← outsAt0_sweep m c _ hlt]
  have hl : Value.loc7Of (ix4 b h d e) = ix4 (0 : Fin 1) h d e := by
    funext a
    apply Fin.ext
    match a with
    | ⟨0, _⟩ => show b.val % 1 = 0; omega
    | ⟨1, _⟩ => show h.val % 8 = h.val; omega
    | ⟨2, _⟩ => show d.val % 128 = d.val; omega
    | ⟨3, _⟩ => show e.val % 128 = e.val; omega
  rw [hl]
  refine ((H.points _ hlt).last h d e).trans ?_
  rw [batch_of hlt b (by omega)]
  have ht : first ⟨64 * b.val + 63, hlt⟩ + 256 = 16384 := by
    show 256 * ((64 * b.val + 63) % 64) + 256 = 16384
    omega
  rw [ht]

end

end Cert.Final

end
-- ==== Proof.InPoint.lean ====
/- What the projection's body stores at a grid point, in a short vocabulary. -/
module

public import proofs.«01_k».proof.Proof.Gen.Kernel2Ideal.Frame

@[expose] public section

set_option maxRecDepth 16384

noncomputable section

/-! # One grid point of the input projection

The body normalises 256 tokens, projects them, keeps the convolution's channels in scratch behind the three rows the
point before left, convolves them, and stores queries and keys head by head, the values, the gate, the log-decays summed
over chunks beside the betas, and the last three rows. -/

namespace Cert.InPoint

open Idealize.ShloMosaic Cert.Kernel2Ideal Cert.Kernel2Ideal.Gen

variable {F : FTy → Type} [FloatOps F]

/-- The blocks a grid point reads. -/
structure Ins (F : FTy → Type) where
  x : Vec F S1x256x1024 .f32
  mod : Vec F S1x6x1024 .f32
  norm : Vec F S1x1024 .f32
  wq : Vec F S1024x3072 .bf16
  wz : Vec F S1024x1024 .bf16
  wab : Vec F S1024x128 .bf16
  conv : Vec F S4x3072 .f32
  hist : Vec F S1x3x3072 .f32
  alog : Vec F S1x128 .f32
  dt : Vec F S1x128 .f32

namespace Ins

variable (X : Ins F)

/-- The tokens as loaded. -/
def lx := View.ld X.x (Rect.unit ![0, 0, 0] S1x256x1024.size inb_S1x256x1024_S1x256x1024_0_0_0)
/-- The modulations as loaded. -/
def lmod := View.ld X.mod (Rect.unit ![0, 0, 0] S1x6x1024.size inb_S1x6x1024_S1x6x1024_0_0_0)
/-- The norm's gains as loaded. -/
def lnorm := View.ld X.norm (Rect.unit ![0, 0] S1x1024.size inb_S1x1024_S1x1024_0_0)
/-- The convolved channels' weights as loaded. -/
def lwq := View.ld X.wq (Rect.unit ![0, 0] S1024x3072.size inb_S1024x3072_S1024x3072_0_0)
/-- The gate's weights as loaded. -/
def lwz := View.ld X.wz (Rect.unit ![0, 0] S1024x1024.size inb_S1024x1024_S1024x1024_0_0)
/-- The decays' and betas' weights as loaded. -/
def lwab := View.ld X.wab (Rect.unit ![0, 0] S1024x128.size inb_S1024x128_S1024x128_0_0)
/-- The convolution's taps as loaded. -/
def lconv := View.ld X.conv (Rect.unit ![0, 0] S4x3072.size inb_S4x3072_S4x3072_0_0)
/-- The first history as loaded. -/
def lhist := View.ld X.hist (Rect.unit ![0, 0, 0] S1x3x3072.size inb_S1x3x3072_S1x3x3072_0_0_0)
/-- The decays' logarithms as loaded. -/
def lalog := View.ld X.alog (Rect.unit ![0, 0] S1x128.size inb_S1x128_S1x128_0_0)
/-- The decays' offsets as loaded. -/
def ldt := View.ld X.dt (Rect.unit ![0, 0] S1x128.size inb_S1x128_S1x128_0_0)

/-- The normalised tokens. -/
def hn : FVec F S256x1024 .bf16 := k0_pay4 X.lx X.lmod X.lnorm

/-- The channels to convolve, stored behind eight rows of scratch. -/
def proj : View.Piece (Elt F) S264x3072 .f32 :=
  ⟨Rect.unit ![8, 0] S256x3072.size inb_S264x3072_S256x3072_8_0, k0_pay6 X.lx X.lmod X.lnorm X.lwq⟩

/-- The scratch's stores at a batch's first point before it convolves. -/
def begun : List (View.Piece (Elt F) S264x3072 .f32) :=
  [X.proj, ⟨Rect.unit ![5, 0] S3x3072.size inb_S264x3072_S3x3072_5_0, k0_pay3 X.lhist⟩,
    ⟨Rect.unit ![0, 0] S8x3072.size inb_S264x3072_S8x3072_0_0, k0_pay2⟩]

/-- The convolved and gated channels, of the three earlier tokens' loads. -/
def act (a b c : Vec F S256x3072 .f32) : FVec F S256x3072 .f32 :=
  k0_pay9 (k0_pay5 X.lx X.lmod X.lnorm X.lwq) X.lconv a b c

/-- The log-decays. -/
def decay : FVec F S256x128 .f32 := k0_pay42 X.hn X.lwab X.lalog X.ldt

/-- The betas. -/
def beta : FVec F S256x128 .f32 := k0_pay44 (k0_pay41 X.hn X.lwab) k0_pay43

end Ins

/-- The row numbers of a chunk's square. -/
def rowNo : IVec S256x256 32 := iota .tc S256x256 32 [0] iota_S256x256_d0_w32
/-- The column numbers of a chunk's square. -/
def colNo : IVec S256x256 32 := iota .tc S256x256 32 [1] iota_S256x256_d1_w32

/-- The summed log-decays beside the betas. -/
def packed (g b : FVec F S256x128 .f32) : FVec F S256x128 .f32 :=
  k0_pay48 g b rowNo colNo k0_pay45 64#32 k0_pay46 k0_pay47 1#32

theorem slices_head (n : Fin 16) : S256x3072.Slices ![0, 128 * n.val] S256x128 := by
  revert n; decide

theorem inb_head (h : Fin 8) :
    ∀ a, (![0, 0, 128 * h.val] : Fin 3 → ℕ) a + S1x256x128.size a ≤ S1x256x1024.size a := by
  revert h; decide

/-- One head's channels, at unit length. -/
def unitRows (y : FVec F S256x3072 .f32) (n : Fin 16) : FVec F S256x128 .f32 :=
  mulf (extractStridedSlice S256x128 ![0, 128 * n.val] y (slices_head n))
    (broadcastTo S256x128 (rsqrt (addf (shapeCast S256x1 (multiReduction .add [1] S256
        (mulf (extractStridedSlice S256x128 ![0, 128 * n.val] y (slices_head n))
          (extractStridedSlice S256x128 ![0, 128 * n.val] y (slices_head n)))
        0x00000000#32 reduces_S256x128_S256 (.inl rfl) rfl) shapeCasts_S256_S256x1)
      (broadcast S256x1 (Scalar.ofBits .f32 0x358637BD#32)))) broadcasts_S256x1_S256x128)

/-- The rectangle of a head's rows. -/
def headOf (h : Fin 8) : Rect S1x256x1024 := Rect.unit ![0, 0, 128 * h.val] S1x256x128.size (inb_head h)

/-- One head's rows, stored. -/
def rowsPiece (h : Fin 8) (o : FVec F S256x128 .f32) : View.Piece (Elt F) S1x256x1024 .f32 :=
  ⟨headOf h, shapeCast S1x256x128 o shapeCasts_S256x128_S1x256x128⟩

/-- Eight heads' rows, stored, the last first. -/
def heads (o : Fin 8 → FVec F S256x128 .f32) : List (View.Piece (Elt F) S1x256x1024 .f32) :=
  [rowsPiece 7 (o 7), rowsPiece 6 (o 6), rowsPiece 5 (o 5), rowsPiece 4 (o 4), rowsPiece 3 (o 3), rowsPiece 2 (o 2),
    rowsPiece 1 (o 1), rowsPiece 0 (o 0)]

/-- A head's queries. -/
def query (y : FVec F S256x3072 .f32) (h : Fin 8) : FVec F S256x128 .f32 :=
  mulf (unitRows y (h.castLE (by decide))) (broadcast S256x128 (Scalar.ofBits .f32 0x3DB504F3#32))

/-- A head's keys. -/
def key (y : FVec F S256x3072 .f32) (h : Fin 8) : FVec F S256x128 .f32 := unitRows y (h.natAdd 8)

/-- A store of a whole block of tokens. -/
def wholeRows (w : FVec F S1x256x1024 .f32) : View.Piece (Elt F) S1x256x1024 .f32 :=
  ⟨Rect.unit ![0, 0, 0] S1x256x1024.size inb_S1x256x1024_S1x256x1024_0_0_0, w⟩

/-- The store of the packed columns. -/
def columns (w : FVec F S256x128 .f32) : View.Piece (Elt F) S1x256x128 .f32 :=
  ⟨Rect.unit ![0, 0, 0] S1x256x128.size inb_S1x256x128_S1x256x128_0_0_0, shapeCast S1x256x128 w shapeCasts_S256x128_S1x256x128⟩

theorem slices_chunk (n : Fin 4) : S256x128.Slices ![64 * n.val, 0] S64x128 := by
  revert n; decide

theorem inb_chunk (n : Fin 4) :
    ∀ a, (![0, n.val, 0, 0] : Fin 4 → ℕ) a + S1x1x16x64.size a ≤ S1x4x16x64.size a := by
  revert n; decide

/-- One chunk's columns picked lane by lane, as rows. -/
def picked (w : FVec F S256x128 .bf16) (n : Fin 4) : FVec F S16x64 .f32 :=
  matmul dot_S16x128_S64x128_S16x64_1_1_0_0_n_n none k0_pay50
    (extractStridedSlice S64x128 ![64 * n.val, 0] w (slices_chunk n)) (constant S16x64 .f32 0x00000000#32)

/-- One chunk's rows, of the columns in three parts. -/
def turned (w : FVec F S256x128 .f32) (n : Fin 4) : FVec F S16x64 .f32 :=
  addf (addf (picked (truncf .bf16 w bitsLt_bf16_f32) n)
    (picked (k0_pay53 (subf w (extf .f32 (truncf .bf16 w bitsLt_bf16_f32) bitsLt_bf16_f32))) n))
    (picked (k0_pay54 (subf w (extf .f32 (truncf .bf16 w bitsLt_bf16_f32) bitsLt_bf16_f32))) n)

/-- The rectangle of a chunk's rows. -/
def chunkRect (n : Fin 4) : Rect S1x4x16x64 := Rect.unit ![0, n.val, 0, 0] S1x1x16x64.size (inb_chunk n)

/-- One chunk's rows, stored. -/
def chunkPiece (n : Fin 4) (w : FVec F S16x64 .f32) : View.Piece (Elt F) S1x4x16x64 .f32 :=
  ⟨chunkRect n, shapeCast S1x1x16x64 w shapeCasts_S16x64_S1x1x16x64⟩

/-- The four chunks' rows, stored, the last first. -/
def chunkRows (o : Fin 4 → FVec F S16x64 .f32) : List (View.Piece (Elt F) S1x4x16x64 .f32) :=
  [chunkPiece 3 (o 3), chunkPiece 2 (o 2), chunkPiece 1 (o 1), chunkPiece 0 (o 0)]

theorem inb_earlier (n : Fin 9) :
    ∀ a, (![n.val, 0] : Fin 2 → ℕ) a + S256x3072.size a ≤ S264x3072.size a := by
  revert n; decide

/-- The rectangle of 256 rows of scratch from row `n`. -/
def earlier (n : Fin 9) : Rect S264x3072 := Rect.unit ![n.val, 0] S256x3072.size (inb_earlier n)

/-- The rectangle of the last three rows of scratch. -/
def lastRows : Rect S264x3072 := Rect.unit ![261, 0] S3x3072.size inb_S264x3072_S3x3072_261_0

/-- The store of the last rows over the three rows before the next point's. -/
def carried (w : Vec F S3x3072 .f32) : View.Piece (Elt F) S264x3072 .f32 :=
  ⟨Rect.unit ![5, 0] S3x3072.size inb_S264x3072_S3x3072_5_0, k0_pay7 w⟩

/-- The store of the last rows as the new history. -/
def newHist (w : Vec F S3x3072 .f32) : View.Piece (Elt F) S1x3x3072 .f32 :=
  ⟨Rect.unit ![0, 0, 0] S1x3x3072.size inb_S1x3x3072_S1x3x3072_0_0_0, k0_pay8 w⟩

/-- A batch's first point's loads of earlier tokens. -/
def tapsA (v : View sig .tc .vmem S264x3072 .f32) (X : Ins F) (n : Fin 9) : Vec F S256x3072 .f32 :=
  v.readCov X.begun (earlier n).toLoadRect

/-- The scratch a later point holds when it convolves, of the contents `s` found. -/
def held (a : Memref sig .tc .vmem S264x3072 .f32) (h : a.IsWhole) (s : Vec F S264x3072 .f32)
    (L : List (View.Piece (Elt F) S264x3072 .f32)) : Vec F S264x3072 .f32 :=
  a.view.read (Elt F) (a.view.writes (Elt F) (h.unread s) L)

/-- The last three rows, loaded after the stores `L`. -/
def lastOf (v : View sig .tc .vmem S264x3072 .f32) (L : List (View.Piece (Elt F) S264x3072 .f32)) : Vec F S3x3072 .f32 :=
  v.readCov L lastRows.toLoadRect

/-- The convolved channels of a batch's first point. -/
def actA (v : View sig .tc .vmem S264x3072 .f32) (X : Ins F) : FVec F S256x3072 .f32 :=
  X.act (tapsA v X 5) (tapsA v X 6) (tapsA v X 7)

/-- The convolved channels of any other point. -/
def actB (a : Memref sig .tc .vmem S264x3072 .f32) (h : a.IsWhole) (s : Vec F S264x3072 .f32) (X : Ins F) :
    FVec F S256x3072 .f32 :=
  X.act (View.ld (held a h s [X.proj]) (earlier 5)) (View.ld (held a h s [X.proj]) (earlier 6))
    (View.ld (held a h s [X.proj]) (earlier 7))

/-- What a point stores: queries, keys, values, the gate, the columns, the rows, the new history, and the scratch's
    stores. -/
abbrev Stores (F : FTy → Type) [FloatOps F] : Type :=
  List (View.Piece (Elt F) S1x256x1024 .f32) × List (View.Piece (Elt F) S1x256x1024 .f32) ×
    List (View.Piece (Elt F) S1x256x1024 .f32) × List (View.Piece (Elt F) S1x256x1024 .f32) ×
    List (View.Piece (Elt F) S1x256x128 .f32) × List (View.Piece (Elt F) S1x4x16x64 .f32) ×
    List (View.Piece (Elt F) S1x3x3072 .f32) × List (View.Piece (Elt F) S264x3072 .f32)

/-- The stores of a point of inputs `X`, of its convolved channels `y` and its scratch's stores `L` so far. -/
def stores (v : View sig .tc .vmem S264x3072 .f32) (X : Ins F) (y : FVec F S256x3072 .f32)
    (L : List (View.Piece (Elt F) S264x3072 .f32)) : Stores F :=
  (heads (query y), heads (key y), [wholeRows (k0_pay39 y)], [wholeRows (k0_pay40 X.hn X.lwz)],
    [columns (packed X.decay X.beta)], chunkRows (turned (packed X.decay X.beta)), [newHist (lastOf v L)],
    carried (lastOf v L) :: L)

section

variable (c : Dev nD) (i : grid0.Coords)
    (arg2 : Memref sig .tc .vmem S1x256x1024 .f32) (harg2 : arg2.IsWhole)
    (arg3 : Memref sig .tc .vmem S1x6x1024 .f32) (harg3 : arg3.IsWhole)
    (arg4 : Memref sig .tc .vmem S1x1024 .f32) (harg4 : arg4.IsWhole)
    (arg5 : Memref sig .tc .vmem S1024x3072 .bf16) (harg5 : arg5.IsWhole)
    (arg6 : Memref sig .tc .vmem S1024x1024 .bf16) (harg6 : arg6.IsWhole)
    (arg7 : Memref sig .tc .vmem S1024x128 .bf16) (harg7 : arg7.IsWhole)
    (arg8 : Memref sig .tc .vmem S4x3072 .f32) (harg8 : arg8.IsWhole)
    (arg9 : Memref sig .tc .vmem S1x3x3072 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x256x1024 .f32) (harg12 : arg12.IsWhole)
    (arg13 : Memref sig .tc .vmem S1x256x1024 .f32) (harg13 : arg13.IsWhole)
    (arg14 : Memref sig .tc .vmem S1x256x1024 .f32) (harg14 : arg14.IsWhole)
    (arg15 : Memref sig .tc .vmem S1x256x1024 .f32) (harg15 : arg15.IsWhole)
    (arg16 : Memref sig .tc .vmem S1x256x128 .f32) (harg16 : arg16.IsWhole)
    (arg17 : Memref sig .tc .vmem S1x4x16x64 .f32) (harg17 : arg17.IsWhole)
    (arg18 : Memref sig .tc .vmem S1x3x3072 .f32) (harg18 : arg18.IsWhole)
    (arg19 : Memref sig .tc .vmem S264x3072 .f32) (harg19 : arg19.IsWhole)
    (x0 : Vec F S1x256x1024 .f32) (x1 : Vec F S1x6x1024 .f32) (x2 : Vec F S1x1024 .f32) (x3 : Vec F S1024x3072 .bf16) (x4 : Vec F S1024x1024 .bf16) (x5 : Vec F S1024x128 .bf16) (x6 : Vec F S4x3072 .f32) (x7 : Vec F S1x3x3072 .f32) (x8 : Vec F S1x128 .f32) (x9 : Vec F S1x128 .f32)

/-- A batch's first point's stores. -/
theorem stores_A (hc0 : cond0_0 i) :
    (fun r => (r.1, r.2.1, r.2.2.1, r.2.2.2.1, r.2.2.2.2.1, r.2.2.2.2.2.1, r.2.2.2.2.2.2.1, r.2.2.2.2.2.2.2.1))
        (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9) =
      (fun X : Ins F => stores arg19.view X (actA arg19.view X) X.begun) ⟨x0, x1, x2, x3, x4, x5, x6, x7, x8, x9⟩ := by
  have h : (fun r => (r.1, r.2.1, r.2.2.1, r.2.2.2.1, r.2.2.2.2.1, r.2.2.2.2.2.1, r.2.2.2.2.2.2.1, r.2.2.2.2.2.2.2.1))
        (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9) =
      (fun X : Ins F => stores arg19.view X (actA arg19.view X) X.begun) ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9)⟩ := by
    sl_kernel_rfl
  rw [h, harg2.read_unread, harg3.read_unread, harg4.read_unread, harg5.read_unread, harg6.read_unread, harg7.read_unread, harg8.read_unread, harg9.read_unread, harg10.read_unread, harg11.read_unread]

/-- Any other point's stores. -/
theorem stores_B (hc0 : ¬cond0_0 i) (xs0 : Vec F S264x3072 .f32) :
    (fun r => (r.1, r.2.1, r.2.2.1, r.2.2.2.1, r.2.2.2.2.1, r.2.2.2.2.2.1, r.2.2.2.2.2.2.1, r.2.2.2.2.2.2.2.1))
        (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0) =
      (fun X : Ins F => stores arg19.view X (actB arg19 harg19 xs0 X) [X.proj]) ⟨x0, x1, x2, x3, x4, x5, x6, x7, x8, x9⟩ := by
  have h : (fun r => (r.1, r.2.1, r.2.2.1, r.2.2.2.1, r.2.2.2.2.1, r.2.2.2.2.2.1, r.2.2.2.2.2.2.1, r.2.2.2.2.2.2.2.1))
        (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0) =
      (fun X : Ins F => stores arg19.view X (actB arg19 harg19 xs0 X) [X.proj]) ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9)⟩ := by
    sl_kernel_rfl
  rw [h, harg2.read_unread, harg3.read_unread, harg4.read_unread, harg5.read_unread, harg6.read_unread, harg7.read_unread, harg8.read_unread, harg9.read_unread, harg10.read_unread, harg11.read_unread]

end

end Cert.InPoint

end
-- ==== Proof.InSpec.lean ====
/- The input projection's mathematics, number by number: one token's norm, one channel's convolution, one head's scale. -/
module

public import Idealize.ShloMosaic.Lib.Pointwise

@[expose] public section

noncomputable section

namespace Cert.InSpec

open Idealize.ShloMosaic

/-- The number a 32-bit word stands for. -/
abbrev word (b : BitVec 32) : EReal := FloatOps.ofBits (F := Ideal) .f32 b

/-- A token's channels over their root mean square, with the norm's gain, the modulation's scale and its shift. -/
def normed (x g sc sh : Fin 1024 → EReal) (d : Fin 1024) : EReal :=
  x d * Ideal.rsqrt (Ideal.div (∑ e, x e * x e) (word 0x44800000#32) + word 0x358637BD#32) * g d * (1 + sc d) + sh d

/-- Four successive tokens of a channel against the taps. -/
def conv (p c : Fin 4 → EReal) : EReal := p 0 * c 0 + p 1 * c 1 + p 2 * c 2 + p 3 * c 3

/-- The logistic function. -/
def sigmoid (x : EReal) : EReal := Ideal.div 1 (1 + Ideal.exp (-x))

/-- A number times its logistic. -/
def silu (x : EReal) : EReal := x * sigmoid x

/-- A head's channels at unit length. -/
def unit (r : Fin 128 → EReal) (d : Fin 128) : EReal :=
  r d * Ideal.rsqrt ((∑ e, r e * r e) + word 0x358637BD#32)

/-- The logarithm of one plus the exponential. -/
def softplus (x : EReal) : EReal := max x 0 + Ideal.log1p (Ideal.exp (-max x (-x)))

/-- A head's log-decay. -/
def decay (a x : EReal) : EReal := -Ideal.exp a * softplus x

/-- The arguments: the tokens' channels, the modulations' rows, the norm's gain, the weights, the convolution's taps, the
    heads' log-rates and biases, and the three tokens before the first. -/
structure Arr where
  x : Fin 2 → Fin 16384 → Fin 1024 → EReal
  mod : Fin 2 → Fin 6 → Fin 1024 → EReal
  norm : Fin 1024 → EReal
  w : Fin 1024 → Fin 4112 → EReal
  conv : Fin 4 → Fin 3072 → EReal
  alog : Fin 8 → EReal
  dt : Fin 8 → EReal
  hist : Fin 2 → Fin 3 → Fin 3072 → EReal

namespace Arr

variable (A : Arr) (b : Fin 2)

/-- The normalised and modulated tokens. -/
def hn (t : Fin 16384) : Fin 1024 → EReal := normed (A.x b t) A.norm (A.mod b 1) (A.mod b 0)

/-- The projections. -/
def proj (t : Fin 16384) (l : Fin 4112) : EReal := ∑ d, A.hn b t d * A.w d l

/-- The channels to convolve, three earlier tokens first. -/
def xp (n : ℕ) (l : Fin 3072) : EReal :=
  if h : n < 3 then A.hist b ⟨n, h⟩ l else A.proj b (Fin.ofNat 16384 (n - 3)) (l.castLE (by decide))

/-- The convolved channels. -/
def act (t : Fin 16384) (l : Fin 3072) : EReal := silu (InSpec.conv (fun j => A.xp b (t.val + j.val) l) fun j => A.conv j l)

/-- The sixteen heads of queries and keys, at unit length. -/
def head (t : Fin 16384) (n : Fin 16) : Fin 128 → EReal :=
  unit fun e => A.act b t (⟨128 * n.val + e.val, by omega⟩ : Fin 3072)

/-- The queries. -/
def q (t : Fin 16384) (h : Fin 8) (d : Fin 128) : EReal := A.head b t (h.castLE (by decide)) d * word 0x3DB504F3#32

/-- The keys. -/
def k (t : Fin 16384) (h : Fin 8) (d : Fin 128) : EReal := A.head b t (h.natAdd 8) d

/-- The values. -/
def v (t : Fin 16384) (l : Fin 1024) : EReal := A.act b t (⟨2048 + l.val, by omega⟩ : Fin 3072)

/-- The gate. -/
def z (t : Fin 16384) (l : Fin 1024) : EReal := A.proj b t (⟨3072 + l.val, by omega⟩ : Fin 4112)

/-- The log-decays. -/
def g (t : Fin 16384) (h : Fin 8) : EReal :=
  decay (A.alog h) (A.proj b t (⟨4096 + h.val, by omega⟩ : Fin 4112) + A.dt h)

/-- The betas. -/
def beta (t : Fin 16384) (h : Fin 8) : EReal := sigmoid (A.proj b t (⟨4104 + h.val, by omega⟩ : Fin 4112))

/-- The log-decays summed from the start of each chunk. -/
def gcum (t : Fin 16384) (h : Fin 8) : EReal :=
  ∑ j : Fin 64, if j.val ≤ t.val % 64 then A.g b (⟨t.val / 64 * 64 + j.val, by omega⟩ : Fin 16384) h else 0

/-- … and the betas after them. -/
def gb (t : Fin 16384) (l : Fin 16) : EReal :=
  if h : l.val < 8 then A.gcum b t ⟨l.val, h⟩ else A.beta b t ⟨l.val - 8, by omega⟩

end Arr

end Cert.InSpec

end
-- ==== Proof.InMath.lean ====
/- What the projection's body computes at one index. -/
module

public import proofs.«01_k».proof.Proof.InPoint
public import proofs.«01_k».proof.Proof.InSpec
public import proofs.«01_k».proof.Proof.Stage

@[expose] public section

set_option maxRecDepth 16384

noncomputable section

namespace Cert.InMath

open Idealize.ShloMosaic Cert.Kernel2Ideal Cert.Kernel2Ideal.Gen Cert.InPoint Cert.InSpec

/-- The normalised tokens. -/
theorem pay4_apply (x : Vec Ideal S1x256x1024 .f32) (md : Vec Ideal S1x6x1024 .f32) (g : Vec Ideal S1x1024 .f32)
    (i : Fin 256) (d : Fin 1024) : k0_pay4 (F := Ideal) x md g (ix2 i d) =
      normed (fun e => x (ix3 (0 : Fin 1) i e)) (fun e => g (ix2 (0 : Fin 1) e)) (fun e => md (ix3 (0 : Fin 1) (1 : Fin 6) e))
        (fun e => md (ix3 (0 : Fin 1) (0 : Fin 6) e)) d := by
  unfold k0_pay4 normed
  pointwise []

/-- The projected channels: the tokens against the weights' columns. -/
theorem pay5_apply (x : Vec Ideal S1x256x1024 .f32) (md : Vec Ideal S1x6x1024 .f32) (g : Vec Ideal S1x1024 .f32)
    (w : Vec Ideal S1024x3072 .bf16) (i : Fin 256) (l : Fin 3072) : k0_pay5 (F := Ideal) x md g w (ix2 i l) =
      ∑ d : Fin 1024, k0_pay4 (F := Ideal) x md g (ix2 i d) * w (ix2 d l) := by
  unfold k0_pay5
  pointwise []

/-- The convolved channels: the taps in another order. -/
theorem pay9_apply (q : FVec Ideal S256x3072 .f32) (w : Vec Ideal S4x3072 .f32) (a b c : Vec Ideal S256x3072 .f32)
    (i : Fin 256) (l : Fin 3072) : k0_pay9 (F := Ideal) q w a b c (ix2 i l) =
      silu (conv ![a (ix2 i l), b (ix2 i l), c (ix2 i l), q (ix2 i l)] fun j => w (ix2 j l)) := by
  have h : conv ![a (ix2 i l), b (ix2 i l), c (ix2 i l), q (ix2 i l)] (fun j => w (ix2 j l)) =
      w (ix2 3 l) * q (ix2 i l) + w (ix2 0 l) * a (ix2 i l) + w (ix2 1 l) * b (ix2 i l) + w (ix2 2 l) * c (ix2 i l) := by
    show a (ix2 i l) * w (ix2 0 l) + b (ix2 i l) * w (ix2 1 l) + c (ix2 i l) * w (ix2 2 l) + q (ix2 i l) * w (ix2 3 l) = _
    rw [mul_comm (a _), mul_comm (b _), mul_comm (c _), mul_comm (q _), add_comm (_ + _) (w (ix2 3 l) * _),
      ← add_assoc, ← add_assoc]
  rw [h]
  unfold k0_pay9 silu sigmoid
  pointwise []
  rw [zero_sub]

/-- A head's channels at unit length. -/
theorem unitRows_apply (y : FVec Ideal S256x3072 .f32) (n : Fin 16) (i : Fin 256) (d : Fin 128) :
    unitRows y n (ix2 i d) = InSpec.unit (fun e => y (ix2 i (⟨128 * n.val + e.val, by omega⟩ : Fin 3072))) d := by
  have hz (e : Fin 128) : extractStridedSlice S256x128 ![0, 128 * n.val] y (slices_head n) (ix2 i e) =
      y (ix2 i (⟨128 * n.val + e.val, by omega⟩ : Fin 3072)) := by
    pointwise []
  unfold unitRows InSpec.unit
  simp only [← hz]
  generalize extractStridedSlice S256x128 ![0, 128 * n.val] y (slices_head n) = z
  pointwise []

/-- The log-decays. -/
theorem pay42_apply (h : FVec Ideal S256x1024 .bf16) (w : Vec Ideal S1024x128 .bf16) (a t : Vec Ideal S1x128 .f32)
    (i : Fin 256) (l : Fin 128) : k0_pay42 (F := Ideal) h w a t (ix2 i l) =
      decay (a (ix2 (0 : Fin 1) l)) ((∑ d : Fin 1024, h (ix2 i d) * w (ix2 d l)) + t (ix2 (0 : Fin 1) l)) := by
  unfold k0_pay42 k0_pay41 decay softplus
  pointwise []
  rw [zero_sub, zero_sub]
  rfl

/-- The betas. -/
theorem beta_apply (h : FVec Ideal S256x1024 .bf16) (w : Vec Ideal S1024x128 .bf16)
    (i : Fin 256) (l : Fin 128) : k0_pay44 (F := Ideal) (k0_pay41 h w) k0_pay43 (ix2 i l) =
      sigmoid (∑ d : Fin 1024, h (ix2 i d) * w (ix2 d l)) := by
  unfold k0_pay44 k0_pay41 k0_pay43 sigmoid
  pointwise []
  rw [zero_sub]

/-- The gate. -/
theorem pay40_apply (h : FVec Ideal S256x1024 .bf16) (w : Vec Ideal S1024x1024 .bf16)
    (i : Fin 256) (l : Fin 1024) : k0_pay40 (F := Ideal) h w (ix3 (0 : Fin 1) i l) =
      ∑ d : Fin 1024, h (ix2 i d) * w (ix2 d l) := by
  unfold k0_pay40
  pointwise []

/-- The values: the convolved channels past the queries and keys. -/
theorem pay39_apply (y : FVec Ideal S256x3072 .f32)
    (i : Fin 256) (l : Fin 1024) : k0_pay39 (F := Ideal) y (ix3 (0 : Fin 1) i l) =
      y (ix2 i (⟨2048 + l.val, by omega⟩ : Fin 3072)) := by
  unfold k0_pay39
  pointwise []

/-- A token's chunk, by rows. -/
theorem rowChunk (i j : Fin 256) : k0_pay45 (ix2 i j) = BitVec.ofNat 32 (i.val / 64) :=
  (show k0_pay45 (ix2 i j) = k0_pay45 (ix2 i 0) from rfl).trans ((by decide +kernel : ∀ i : Fin 256,
    k0_pay45 (ix2 i (0 : Fin 256)) = BitVec.ofNat 32 (i.val / 64)) i)

/-- The columns' chunks, as the program spells them. -/
def colChunk : IVec S256x256 32 :=
  select (andi (cmpi .ne k0_pay47 (broadcast S256x256 1#32))
    (cmpi .ne (remsi colNo (broadcast S256x256 64#32)) (broadcast S256x256 0#32)))
    (subi k0_pay46 (broadcast S256x256 1#32)) k0_pay46

/-- A token's chunk, by columns. -/
theorem colChunk_eq (i j : Fin 256) : colChunk (ix2 i j) = BitVec.ofNat 32 (j.val / 64) :=
  (show colChunk (ix2 i j) = colChunk (ix2 0 j) from rfl).trans ((by decide +kernel : ∀ j : Fin 256,
    colChunk (ix2 (0 : Fin 256) j) = BitVec.ofNat 32 (j.val / 64)) j)

theorem le_words (i j : Fin 256) : IntOp.cmpi .sle (BitVec.ofNat 32 j.val) (BitVec.ofNat 32 i.val) =
    if j ≤ i then 1#1 else 0#1 := by
  have ht (k : Fin 256) : (BitVec.ofNat 32 k.val).toInt = (k.val : ℤ) := by
    rw [BitVec.toInt_eq_toNat_of_lt] <;> simp only [BitVec.toNat_ofNat] <;> omega
  show BitVec.ofBool (BitVec.sle _ _) = _
  rw [BitVec.sle_eq_decide, ht, ht]
  by_cases h : j ≤ i
  · rw [if_pos h, decide_eq_true (by exact_mod_cast h)]
    rfl
  · rw [if_neg h, decide_eq_false (by exact_mod_cast h)]
    rfl

theorem lt_words : ∀ l : Fin 128, IntOp.cmpi .slt (BitVec.ofNat 32 l.val) 8#32 = if l.val < 8 then 1#1 else 0#1 := by
  decide +kernel

theorem lane_words : ∀ (l : Fin 16) (k : Fin 128), IntOp.cmpi .eq (BitVec.ofNat 32 l.val) (BitVec.ofNat 32 k.val) =
    if l.castLE (by decide) = k then 1#1 else 0#1 := by
  decide +kernel

/-- Which tokens of a token's chunk are summed. -/
def upTo : IVec S256x256 1 := andi (cmpi .eq k0_pay45 colChunk) (cmpi .sle colNo rowNo)

theorem upTo_eq (i j : Fin 256) :
    upTo (ix2 i j) = if i.val / 64 = j.val / 64 ∧ j ≤ i then 1#1 else 0#1 := by
  have h : upTo (ix2 i j) = IntOp.andi (IntOp.cmpi .eq (k0_pay45 (ix2 i j)) (colChunk (ix2 i j)))
      (IntOp.cmpi .sle (BitVec.ofNat 32 j.val) (BitVec.ofNat 32 i.val)) := by
    unfold upTo colNo rowNo
    pointwise []
  rw [h, rowChunk, colChunk_eq, Pair.eq_nats _ _ (by omega) (by omega), le_words, Pair.andi_ite]

/-- The packed columns: in the first eight lanes the log-decays summed from the chunk's start, in three parts. -/
theorem packed_parts (g b : FVec Ideal S256x128 .f32) (i : Fin 256) (l : Fin 128) : packed g b (ix2 i l) =
    if l.val < 8 then
      (∑ j : Fin 256, if i.val / 64 = j.val / 64 ∧ j ≤ i then g (ix2 j l) else 0) +
      (∑ j : Fin 256, if i.val / 64 = j.val / 64 ∧ j ≤ i then g (ix2 j l) - g (ix2 j l) else 0) +
      (∑ j : Fin 256, if i.val / 64 = j.val / 64 ∧ j ≤ i then g (ix2 j l) - g (ix2 j l) - (g (ix2 j l) - g (ix2 j l)) else 0)
    else b (ix2 i l) := by
  have h : packed g b = select (cmpi .slt (iota .tc S256x128 32 [1] iota_S256x128_d1_w32) (broadcast S256x128 8#32))
    (addf (addf (matmul dot_S256x256_S256x128_S256x128_1_0_0_1_n_n none (truncf .bf16 (select upTo
        (broadcast S256x256 (Scalar.ofBits (F := Ideal) .f32 0x3F800000#32)) (broadcast S256x256 (Scalar.ofBits .f32 0x00000000#32))) bitsLt_bf16_f32)
        (truncf .bf16 g bitsLt_bf16_f32) (constant S256x128 .f32 0x00000000#32))
      (matmul dot_S256x256_S256x128_S256x128_1_0_0_1_n_n none (truncf .bf16 (select upTo
        (broadcast S256x256 (Scalar.ofBits (F := Ideal) .f32 0x3F800000#32)) (broadcast S256x256 (Scalar.ofBits .f32 0x00000000#32))) bitsLt_bf16_f32)
        (truncf .bf16 (subf g (extf .f32 (truncf .bf16 g bitsLt_bf16_f32) bitsLt_bf16_f32)) bitsLt_bf16_f32) (constant S256x128 .f32 0x00000000#32)))
      (matmul dot_S256x256_S256x128_S256x128_1_0_0_1_n_n none (truncf .bf16 (select upTo
        (broadcast S256x256 (Scalar.ofBits (F := Ideal) .f32 0x3F800000#32)) (broadcast S256x256 (Scalar.ofBits .f32 0x00000000#32))) bitsLt_bf16_f32)
        (truncf .bf16 (subf (subf g g) (subf g g)) bitsLt_bf16_f32) (constant S256x128 .f32 0x00000000#32))) b := rfl
  have hu (u : IVec S256x256 1) (hu : u = upTo) (x : EReal) (j : Fin 256) :
      Scalar.select (u (ix2 i j)) x 0 = if i.val / 64 = j.val / 64 ∧ j ≤ i then x else 0 := by
    rw [hu, upTo_eq, Pair.select_ite]
  rw [h]
  generalize hq : upTo = u
  pointwise []
  simp only [hu u hq.symm, lt_words, Pair.select_ite]

/-- The packed columns of real log-decays. -/
theorem packed_apply (g b : FVec Ideal S256x128 .f32) (i : Fin 256) (l : Fin 128)
    (hg : l.val < 8 → ∀ j : Fin 256, g (ix2 j l) - g (ix2 j l) = 0) : packed g b (ix2 i l) =
    if l.val < 8 then ∑ j : Fin 64, (if j.val ≤ i.val % 64 then g (ix2 (⟨i.val / 64 * 64 + j.val, by omega⟩ : Fin 256) l) else 0)
    else b (ix2 i l) := by
  rw [packed_parts]
  by_cases hl : l.val < 8
  · rw [if_pos hl, if_pos hl]
    simp only [hg hl, sub_zero, ite_self, Finset.sum_const_zero, add_zero]
    rw [← Finset.sum_filter, ← Finset.sum_filter]
    refine Finset.sum_bij' (fun k _ => (⟨k.val % 64, by omega⟩ : Fin 64))
      (fun j _ => (⟨i.val / 64 * 64 + j.val, by omega⟩ : Fin 256)) ?_ ?_ ?_ ?_ ?_
    · intro k hk
      have := (Finset.mem_filter.mp hk).2
      simp only [Finset.mem_filter, Finset.mem_univ, true_and, Fin.le_def] at this ⊢
      omega
    · intro j hj
      have := (Finset.mem_filter.mp hj).2
      simp only [Finset.mem_filter, Finset.mem_univ, true_and, Fin.le_def] at this ⊢
      omega
    · intro k hk
      have := (Finset.mem_filter.mp hk).2
      apply Fin.ext
      show i.val / 64 * 64 + k.val % 64 = k.val
      omega
    · intro j hj
      apply Fin.ext
      show (i.val / 64 * 64 + j.val) % 64 = j.val
      omega
    · intro k hk
      have := (Finset.mem_filter.mp hk).2
      congr 2
      apply Fin.ext
      show k.val = i.val / 64 * 64 + k.val % 64
      omega
  · rw [if_neg hl, if_neg hl]

/-- One chunk's columns picked. -/
theorem picked_apply (w : FVec Ideal S256x128 .bf16) (n : Fin 4) (l : Fin 16) (r : Fin 64) :
    picked w n (ix2 l r) = w (ix2 (⟨64 * n.val + r.val, by omega⟩ : Fin 256) (l.castLE (by decide) : Fin 128)) := by
  have hz (e : Fin 64) (l : Fin 128) : extractStridedSlice S64x128 ![64 * n.val, 0] w (slices_chunk n) (ix2 e l) =
      w (ix2 (⟨64 * n.val + e.val, by omega⟩ : Fin 256) l) := by
    pointwise []
  unfold picked
  rw [← hz]
  generalize extractStridedSlice S64x128 ![64 * n.val, 0] w (slices_chunk n) = z
  unfold k0_pay50
  pointwise []
  simp only [lane_words, Pair.select_ite]
  rw [Finset.sum_ite_eq, if_pos (Finset.mem_univ _)]

/-- One chunk's rows, where the columns are real. -/
theorem turned_apply (w : FVec Ideal S256x128 .f32) (n : Fin 4) (l : Fin 16) (r : Fin 64)
    (hw : w (ix2 (⟨64 * n.val + r.val, by omega⟩ : Fin 256) (l.castLE (by decide) : Fin 128)) -
      w (ix2 (⟨64 * n.val + r.val, by omega⟩ : Fin 256) (l.castLE (by decide) : Fin 128)) = 0) :
    turned w n (ix2 l r) = w (ix2 (⟨64 * n.val + r.val, by omega⟩ : Fin 256) (l.castLE (by decide) : Fin 128)) := by
  have h : turned w n (ix2 l r) =
      picked w n (ix2 l r) + picked (subf w w) n (ix2 l r) + picked (subf (subf w w) (subf w w)) n (ix2 l r) := rfl
  rw [h, picked_apply, picked_apply, picked_apply]
  pointwise []
  rw [hw, sub_zero, add_zero, add_zero]

end Cert.InMath

end
-- ==== Proof.InScratch.lean ====
/- What the projection's stores leave in its outputs and in its scratch, index by index. -/
module

public import proofs.«01_k».proof.Proof.InMath
public import Idealize.ShloMosaic.Lib.Pipeline.ValueKit
public import Idealize.ShloMosaic.Lib.WritesUnit

@[expose] public section

set_option maxRecDepth 16384

noncomputable section

namespace Cert.InPoint

open Idealize.ShloMosaic Cert.Kernel2Ideal Cert.Kernel2Ideal.Gen

variable {F : FTy → Type} [FloatOps F]

/-! ## The outputs -/

theorem headOf_idx (h : Fin 8) (i : Fin 256) (d : Fin 128) : (headOf h).idx (ix3 (0 : Fin 1) i d) =
    ix3 (0 : Fin 1) i (⟨128 * h.val + d.val, by omega⟩ : Fin 1024) := by
  funext a
  apply Fin.ext
  unfold headOf
  rw [Rect.idx_unit_val]
  fin_cases a <;> simp [ix3]

theorem canon_rows (h : Fin 8) (o : FVec F S256x128 .f32) (L : List (View.Piece (Elt F) S1x256x1024 .f32))
    (i : Fin 256) (d : Fin 128) : View.canon (rowsPiece h o :: L) ((headOf h).idx (ix3 (0 : Fin 1) i d)) = o (ix2 i d) := by
  refine (View.canon_cons_emb (headOf h) _ L (ix3 (0 : Fin 1) i d)).trans ?_
  pointwise []

theorem canon_rows_ne (h h' : Fin 8) (hne : h ≠ h') (o : FVec F S256x128 .f32)
    (L : List (View.Piece (Elt F) S1x256x1024 .f32)) (i : Fin 256) (d : Fin 128) :
    View.canon (rowsPiece h' o :: L) ((headOf h).idx (ix3 (0 : Fin 1) i d)) =
      View.canon L ((headOf h).idx (ix3 (0 : Fin 1) i d)) := by
  apply View.canon_cons_of_not_mem
  intro hm
  rw [headOf_idx] at hm
  have h2 := (Rect.mem_set_unit (inb := inb_head h')).mp hm 2
  simp [ix3] at h2
  exact hne (Fin.ext (by omega))

/-- After the heads' stores a block holds them. -/
theorem canon_heads (o : Fin 8 → FVec F S256x128 .f32) (h : Fin 8) (i : Fin 256) (d : Fin 128) :
    View.canon (heads o) (ix3 (0 : Fin 1) i (⟨128 * h.val + d.val, by omega⟩ : Fin 1024)) = o h (ix2 i d) := by
  rw [← headOf_idx]
  unfold heads
  fin_cases h <;> simp [canon_rows, canon_rows_ne]

theorem canon_whole (w : FVec F S1x256x1024 .f32) : View.canon [wholeRows w] = w := by
  unfold wholeRows
  exact View.canon_cons_unit_lit _ _ _ (by decide)

theorem canon_columns (w : FVec F S256x128 .f32) (i : Fin 256) (l : Fin 128) :
    View.canon [columns w] (ix3 (0 : Fin 1) i l) = w (ix2 i l) := by
  unfold columns
  rw [View.canon_cons_unit_lit _ _ _ (by decide)]
  pointwise []

theorem chunkRect_idx (n : Fin 4) (l : Fin 16) (r : Fin 64) : (chunkRect n).idx (ix4 (0 : Fin 1) (0 : Fin 1) l r) =
    ix4 (0 : Fin 1) n l r := by
  funext a
  apply Fin.ext
  unfold chunkRect
  rw [Rect.idx_unit_val]
  fin_cases a <;> simp [ix4]

theorem canon_chunk (n : Fin 4) (w : FVec F S16x64 .f32) (L : List (View.Piece (Elt F) S1x4x16x64 .f32))
    (l : Fin 16) (r : Fin 64) : View.canon (chunkPiece n w :: L) (ix4 (0 : Fin 1) n l r) = w (ix2 l r) := by
  rw [← chunkRect_idx n l r]
  refine (View.canon_cons_emb (chunkRect n) _ L (ix4 (0 : Fin 1) (0 : Fin 1) l r)).trans ?_
  pointwise []

theorem canon_chunk_ne (n n' : Fin 4) (hne : n ≠ n') (w : FVec F S16x64 .f32)
    (L : List (View.Piece (Elt F) S1x4x16x64 .f32)) (l : Fin 16) (r : Fin 64) :
    View.canon (chunkPiece n' w :: L) (ix4 (0 : Fin 1) n l r) = View.canon L (ix4 (0 : Fin 1) n l r) := by
  apply View.canon_cons_of_not_mem
  intro hm
  have h1 := (Rect.mem_set_unit (inb := inb_chunk n')).mp hm 1
  simp [ix4] at h1
  exact hne (Fin.ext (by omega))

/-- After the chunks' stores their block holds them. -/
theorem canon_chunks (o : Fin 4 → FVec F S16x64 .f32) (n : Fin 4) (l : Fin 16) (r : Fin 64) :
    View.canon (chunkRows o) (ix4 (0 : Fin 1) n l r) = o n (ix2 l r) := by
  unfold chunkRows
  fin_cases n <;> simp [canon_chunk, canon_chunk_ne]

theorem canon_hist (w : Vec F S3x3072 .f32) (j : Fin 3) (l : Fin 3072) :
    View.canon [newHist w] (ix3 (0 : Fin 1) j l) = w (ix2 j l) := by
  unfold newHist
  rw [View.canon_cons_unit_lit _ _ _ (by decide)]
  unfold k0_pay8
  pointwise []

/-! ## The scratch -/

theorem earlier_idx (n : Fin 9) (i : Fin 256) (l : Fin 3072) : (earlier n).idx (ix2 i l) =
    ix2 (⟨n.val + i.val, by omega⟩ : Fin 264) l := by
  funext a
  apply Fin.ext
  unfold earlier
  rw [Rect.idx_unit_val]
  fin_cases a <;> simp [ix2]

theorem last_idx (j : Fin 3) (l : Fin 3072) : lastRows.idx (ix2 j l) = ix2 (⟨261 + j.val, by omega⟩ : Fin 264) l := by
  funext a
  apply Fin.ext
  unfold lastRows
  rw [Rect.idx_unit_val]
  fin_cases a <;> simp [ix2]

/-- The scratch's stores, over contents `f`, read at rows past the first eight: the point's own channels. -/
theorem read_proj (v : View sig .tc .vmem S264x3072 .f32) (f : v.ty.Contents (Elt F))
    (X : Ins F) (L : List (View.Piece (Elt F) S264x3072 .f32)) (i : Fin 256) (l : Fin 3072) (r : Fin 264)
    (hr : r.val = 8 + i.val) : v.read (Elt F) (v.writes (Elt F) f (X.proj :: L)) (ix2 r l) =
      k0_pay6 X.lx X.lmod X.lnorm X.lwq (ix2 i l) :=
  View.read_writes_cons_rows_of_mem v f (o := 8) inb_S264x3072_S256x3072_8_0 _ L (ix2 r l) (ix2 i l) rfl hr rfl

/-- … read before them: what was there. -/
theorem read_before (v : View sig .tc .vmem S264x3072 .f32) (f : v.ty.Contents (Elt F))
    (X : Ins F) (L : List (View.Piece (Elt F) S264x3072 .f32)) (l : Fin 3072) (r : Fin 264)
    (hr : r.val < 8) : v.read (Elt F) (v.writes (Elt F) f (X.proj :: L)) (ix2 r l) =
      v.read (Elt F) (v.writes (Elt F) f L) (ix2 r l) :=
  View.read_writes_cons_rows_of_not_mem v f (o := 8) (W := 256) inb_S264x3072_S256x3072_8_0 _ L (ix2 r l) rfl rfl
    (Or.inl hr)

/-- … read at the three rows before the next point's: the rows carried. -/
theorem read_carried (v : View sig .tc .vmem S264x3072 .f32) (f : v.ty.Contents (Elt F))
    (w : Vec F S3x3072 .f32) (L : List (View.Piece (Elt F) S264x3072 .f32)) (j : Fin 3) (l : Fin 3072) (r : Fin 264)
    (hr : r.val = 5 + j.val) : v.read (Elt F) (v.writes (Elt F) f (carried w :: L)) (ix2 r l) = w (ix2 j l) := by
  refine (View.read_writes_cons_rows_of_mem v f (o := 5) inb_S264x3072_S3x3072_5_0 (k0_pay7 w) L (ix2 r l) (ix2 j l) rfl hr
    rfl).trans ?_
  unfold k0_pay7
  pointwise []

/-- A batch's first point's stores before its channels: the history and the zeros under it. -/
def Ins.before (X : Ins F) : List (View.Piece (Elt F) S264x3072 .f32) :=
  [⟨Rect.unit ![5, 0] S3x3072.size inb_S264x3072_S3x3072_5_0, k0_pay3 X.lhist⟩,
    ⟨Rect.unit ![0, 0] S8x3072.size inb_S264x3072_S8x3072_0_0, k0_pay2⟩]

theorem begun_eq (X : Ins F) : X.begun = X.proj :: X.before := rfl

/-- … and at a batch's first point before it convolves: the history. -/
theorem read_first (v : View sig .tc .vmem S264x3072 .f32) (f : v.ty.Contents (Elt F))
    (X : Ins F) (j : Fin 3) (l : Fin 3072) (r : Fin 264)
    (hr : r.val = 5 + j.val) : v.read (Elt F) (v.writes (Elt F) f (X.proj :: X.before)) (ix2 r l) = X.lhist (ix3 (0 : Fin 1) j l) := by
  rw [read_before v f X _ l r (by omega)]
  unfold Ins.before
  refine (View.read_writes_cons_rows_of_mem v f (o := 5) inb_S264x3072_S3x3072_5_0 (k0_pay3 X.lhist) _ (ix2 r l) (ix2 j l)
    rfl hr rfl).trans ?_
  generalize X.lhist = w
  unfold k0_pay3
  pointwise []

end Cert.InPoint

end
-- ==== Proof.InReal.lean ====
/- The input projection's log-decays and betas are real numbers when its arguments are. -/
module

public import proofs.«01_k».proof.Proof.InSpec

@[expose] public section

noncomputable section

namespace Cert.InSpec

open Idealize.ShloMosaic

/-- A number that is neither infinity. -/
def IsReal (x : EReal) : Prop := ∃ r : ℝ, x = (r : EReal)

namespace IsReal

variable {x y : EReal}

theorem add (hx : IsReal x) (hy : IsReal y) : IsReal (x + y) := by
  obtain ⟨a, rfl⟩ := hx
  obtain ⟨b, rfl⟩ := hy
  exact ⟨a + b, (EReal.coe_add a b).symm⟩

theorem mul (hx : IsReal x) (hy : IsReal y) : IsReal (x * y) := by
  obtain ⟨a, rfl⟩ := hx
  obtain ⟨b, rfl⟩ := hy
  exact ⟨a * b, (EReal.coe_mul a b).symm⟩

theorem neg (hx : IsReal x) : IsReal (-x) := by
  obtain ⟨a, rfl⟩ := hx
  exact ⟨-a, (EReal.coe_neg a).symm⟩

theorem max (hx : IsReal x) (hy : IsReal y) : IsReal (max x y) := by
  rcases max_choice x y with h | h <;> rw [h] <;> assumption

theorem zero : IsReal 0 := ⟨0, rfl⟩

theorem one : IsReal 1 := ⟨1, rfl⟩

theorem sum {ι : Type} (s : Finset ι) (f : ι → EReal) (h : ∀ i, IsReal (f i)) : IsReal (∑ i ∈ s, f i) := by
  classical
  induction s using Finset.induction_on with
  | empty => exact zero
  | insert a s ha ih => rw [Finset.sum_insert ha]; exact (h a).add ih

theorem sub_self (hx : IsReal x) : x - x = 0 := by
  obtain ⟨a, rfl⟩ := hx
  rw [← EReal.coe_sub, _root_.sub_self, EReal.coe_zero]

end IsReal

/-- A sum of squares of real numbers is real and not negative. -/
theorem squares {n : ℕ} (f : Fin n → EReal) (h : ∀ i, IsReal (f i)) : ∃ r : ℝ, 0 ≤ r ∧ ∑ i, f i * f i = (r : EReal) := by
  choose r hr using h
  have hs (s : Finset (Fin n)) : ∑ i ∈ s, f i * f i = ((∑ i ∈ s, r i * r i : ℝ) : EReal) := by
    classical
    induction s using Finset.induction_on with
    | empty => simp
    | insert a s ha ih => rw [Finset.sum_insert ha, Finset.sum_insert ha, EReal.coe_add, ih, hr a, EReal.coe_mul]
  exact ⟨_, Finset.sum_nonneg fun i _ => mul_self_nonneg (r i), hs _⟩

theorem word_1024 : word 0x44800000#32 = ((1024 : ℝ) : EReal) := by
  simp [Ideal.ofBits, Ideal.ieee, -EReal.coe_mul]
  norm_num

theorem word_half : word 0x3F000000#32 = ((2⁻¹ : ℝ) : EReal) := by
  simp [Ideal.ofBits, Ideal.ieee, -EReal.coe_mul]
  norm_num

theorem word_eps : ∃ r : ℝ, 0 < r ∧ word 0x358637BD#32 = (r : EReal) := by
  refine ⟨8796093 * 2 ^ (-43 : ℤ), by positivity, ?_⟩
  simp [Ideal.ofBits, Ideal.ieee, -EReal.coe_mul]

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

theorem IsReal.rsqrt {r : ℝ} (h : 0 < r) : IsReal (Ideal.rsqrt (r : EReal)) := by
  refine ⟨(Real.sqrt r)⁻¹, ?_⟩
  show (if r < 0 then (⊥ : EReal) else if r = 0 then ⊤ else ((Real.sqrt r)⁻¹ : ℝ)) = _
  rw [if_neg h.le.not_gt, if_neg h.ne']

theorem exp_coe (r : ℝ) : Ideal.exp (r : EReal) = ((Real.exp r : ℝ) : EReal) := rfl

/-- The logistic of nothing is one half. -/
theorem sigmoid_zero : sigmoid 0 = word 0x3F000000#32 := by
  have h : (1 : EReal) + 1 = ((2 : ℝ) : EReal) := by
    rw [← EReal.coe_one, ← EReal.coe_add]
    norm_num
  have h1 : Ideal.exp (-0) = 1 := by
    rw [neg_zero, ← EReal.coe_zero, exp_coe, Real.exp_zero, EReal.coe_one]
  rw [sigmoid, h1, h, ← EReal.coe_one, div_coe _ _ two_ne_zero, word_half, one_mul]

theorem IsReal.sigmoid {x : EReal} (h : IsReal x) : IsReal (sigmoid x) := by
  obtain ⟨a, rfl⟩ := h
  unfold InSpec.sigmoid
  rw [← EReal.coe_neg, exp_coe, ← EReal.coe_one, ← EReal.coe_add, div_coe]
  · exact ⟨_, rfl⟩
  · positivity

theorem IsReal.softplus {x : EReal} (h : IsReal x) : IsReal (softplus x) := by
  unfold InSpec.softplus
  refine (h.max zero).add ?_
  obtain ⟨a, ha⟩ := (h.max h.neg).neg
  rw [ha, exp_coe, Ideal.log1p, ← EReal.coe_one, ← EReal.coe_add]
  have hp : 0 < 1 + Real.exp a := by positivity
  refine ⟨Real.log (1 + Real.exp a), ?_⟩
  show (if 1 + Real.exp a ≤ 0 then (⊥ : EReal) else _) = _
  rw [if_neg hp.not_ge]

theorem IsReal.decay {a x : EReal} (ha : IsReal a) (hx : IsReal x) : IsReal (decay a x) := by
  unfold InSpec.decay
  obtain ⟨r, rfl⟩ := ha
  exact (IsReal.neg ⟨_, exp_coe r⟩).mul hx.softplus

theorem IsReal.normed {x g sc sh : Fin 1024 → EReal} (hx : ∀ d, IsReal (x d)) (hg : ∀ d, IsReal (g d))
    (hsc : ∀ d, IsReal (sc d)) (hsh : ∀ d, IsReal (sh d)) (d : Fin 1024) : IsReal (normed x g sc sh d) := by
  unfold InSpec.normed
  obtain ⟨r, hr, hs⟩ := squares x hx
  obtain ⟨e, he, hw⟩ := word_eps
  rw [hs, word_1024, div_coe _ _ (by norm_num), hw, ← EReal.coe_add]
  exact ((((hx d).mul (IsReal.rsqrt (by positivity))).mul (hg d)).mul (one.add (hsc d))).add (hsh d)

namespace Arr

/-- Every argument is real. -/
structure Real (A : Arr) : Prop where
  x : ∀ b t d, IsReal (A.x b t d)
  mod : ∀ b j d, IsReal (A.mod b j d)
  norm : ∀ d, IsReal (A.norm d)
  w : ∀ d l, IsReal (A.w d l)
  alog : ∀ h, IsReal (A.alog h)
  dt : ∀ h, IsReal (A.dt h)

variable {A : Arr} (H : A.Real) (b : Fin 2) (t : Fin 16384)

include H

theorem Real.proj (l : Fin 4112) : IsReal (A.proj b t l) :=
  IsReal.sum _ _ fun d => (IsReal.normed (H.x b t) H.norm (H.mod b 1) (H.mod b 0) d).mul (H.w d l)

/-- The log-decays are real. -/
theorem Real.g (h : Fin 8) : IsReal (A.g b t h) := (H.alog h).decay ((H.proj b t _).add (H.dt h))

/-- The summed log-decays and the betas are real. -/
theorem Real.gb (l : Fin 16) : IsReal (A.gb b t l) := by
  unfold Arr.gb
  split_ifs with h
  · refine IsReal.sum _ _ fun j => ?_
    split_ifs
    · exact H.g b _ _
    · exact IsReal.zero
  · exact (H.proj b t _).sigmoid

end Arr

end Cert.InSpec

end
-- ==== Proof.InBlocks.lean ====
/- The blocks a grid point of the projection reads of its arguments, and what it makes of them. -/
module

public import proofs.«01_k».proof.Proof.InScratch
public import proofs.«01_k».proof.Proof.InReal

@[expose] public section

set_option maxRecDepth 16384

noncomputable section

namespace Cert.InBlocks

open Idealize.ShloMosaic Idealize.ShloMosaic.TcCoe Idealize.SL.Sem Cert.Kernel2Ideal Cert.Kernel2Ideal.Gen
open Cert.InPoint Cert.InMath Cert.InSpec

/-! ## What the host hands the call -/

section

variable {F : FTy → Type} [FloatOps F]

variable (m : (ℓ : Loc nD τ sig) → Buf (Elt F) ℓ) (c : Dev nD)

theorem V_norm : V m c main_v2 = shapeCast S1x1024 (m ((c : Thread nD τ).loc main_arg2)) shapeCasts_S1024_S1x1024 := by
  sl_kernel_rfl

theorem V_wq : V m c main_v4 = truncf .bf16 (extractStridedSlice S1024x3072 ![0, 0] (m ((c : Thread nD τ).loc main_arg3))
    slices_S1024x4112_S1024x3072_0_0) bitsLt_bf16_f32 := by
  sl_kernel_rfl

theorem V_wz : V m c main_v6 = truncf .bf16 (extractStridedSlice S1024x1024 ![0, 3072]
    (m ((c : Thread nD τ).loc main_arg3)) slices_S1024x4112_S1024x1024_0_3072) bitsLt_bf16_f32 := by
  sl_kernel_rfl

theorem V_wab : V m c main_v7 = truncf .bf16 (pad S1024x128 ![0, 0] ![0, 112] ![0, 0]
    (extractStridedSlice S1024x16 ![0, 4096] (m ((c : Thread nD τ).loc main_arg3)) slices_S1024x4112_S1024x16_0_4096)
    (sitofp .f32 (constantI S_ 32 0#32)) pads_S1024x16_S1024x128_000_01120 h_S_) bitsLt_bf16_f32 := by
  sl_kernel_rfl

theorem V_alog : V m c main_v9 = pad S1x128 ![0, 0] ![0, 120] ![0, 0]
    (shapeCast S1x8 (m ((c : Thread nD τ).loc main_arg5)) shapeCasts_S8_S1x8)
    (sitofp .f32 (constantI S_ 32 0#32)) pads_S1x8_S1x128_000_01200 h_S_ := by
  sl_kernel_rfl

theorem V_dt : V m c main_v11 = pad S1x128 ![0, 0] ![0, 120] ![0, 0]
    (shapeCast S1x8 (m ((c : Thread nD τ).loc main_arg6)) shapeCasts_S8_S1x8)
    (sitofp .f32 (constantI S_ 32 0#32)) pads_S1x8_S1x128_000_01200 h_S_ := by
  sl_kernel_rfl

end

theorem zero_word : FloatOps.sitofp (F := Ideal) FTy.f32 0#32 = 0 := by
  show (((0#32 : BitVec 32).toInt : ℝ) : EReal) = 0
  simp

/-! ## The grid's points -/

theorem idx0 : ∀ t : Fin cfg0.N, win0_0.index t (0 : Fin 3) = t.val / 64 ∧ win0_0.index t (1 : Fin 3) = t.val % 64 ∧ win0_0.index t (2 : Fin 3) = 0 :=
  (by decide +kernel : ∀ t : Fin grid0.N, _)
theorem idx1 : ∀ t : Fin cfg0.N, win0_1.index t (0 : Fin 3) = t.val / 64 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 64 ∧ win0_7.index t (1 : Fin 3) = 0 ∧ win0_7.index t (2 : Fin 3) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

theorem lt_points (t : Fin cfg0.N) : t.val < 128 := lt_of_lt_of_eq t.isLt N_0

/-- The batch of a grid point. -/
def batch (t : Fin cfg0.N) : Fin 2 := ⟨t.val / 64, by have := lt_points t; omega⟩

/-- The number of the first token of a grid point. -/
def first (t : Fin cfg0.N) : ℕ := 256 * (t.val % 64)

/-- A token of a grid point. -/
def tokOf (t : Fin cfg0.N) (i : Fin 256) : Fin 16384 := ⟨first t + i.val, by unfold first; omega⟩

variable (m : (ℓ : Loc nD τ sig) → Buf (Elt Ideal) ℓ) (c : Dev nD)

/-- The arguments. -/
def args : Arr where
  x b t d := m ((c : Thread nD τ).loc main_arg0) (ix3 b t d)
  mod b j d := m ((c : Thread nD τ).loc main_arg1) (ix3 b j d)
  norm d := m ((c : Thread nD τ).loc main_arg2) (ix1 d)
  w d l := m ((c : Thread nD τ).loc main_arg3) (ix2 d l)
  conv j l := m ((c : Thread nD τ).loc main_arg4) (ix2 j l)
  alog h := m ((c : Thread nD τ).loc main_arg5) (ix1 h)
  dt h := m ((c : Thread nD τ).loc main_arg6) (ix1 h)
  hist b j l := m ((c : Thread nD τ).loc main_arg7) (ix3 b j l)

/-- The blocks of a grid point. -/
def ins (t : Fin cfg0.N) : Ins Ideal where
  x := iblk m c 0 t
  mod := iblk m c 1 t
  norm := iblk m c 2 t
  wq := iblk m c 3 t
  wz := iblk m c 4 t
  wab := iblk m c 5 t
  conv := iblk m c 6 t
  hist := iblk m c 7 t
  alog := iblk m c 8 t
  dt := iblk m c 9 t

theorem lx_apply (t : Fin cfg0.N) (i : Fin 256) (d : Fin 1024) :
    (ins m c t).lx (ix3 (0 : Fin 1) i d) = (args m c).x (batch t) (tokOf t i) d := by
  obtain ⟨e0, e1, e2⟩ := idx0 t
  unfold Ins.lx
  rw [View.ld_unit_lit _ _ (by decide)]
  show V m c main_arg0 (((cfg0.win 0).blk t).view.emb (ix3 (0 : Fin 1) i d)) = _
  rw [V_main_arg0]
  show _ = m ((c : Thread nD τ).loc main_arg0) (ix3 (batch t) (tokOf t i) d)
  congr 1
  funext a
  apply Fin.ext
  match a with
  | ⟨0, _⟩ => show win0_0.index t (0 : Fin 3) * 1 + 1 * 0 = t.val / 64; omega
  | ⟨1, _⟩ => show win0_0.index t (1 : Fin 3) * 256 + 1 * i.val = 256 * (t.val % 64) + i.val; omega
  | ⟨2, _⟩ => show win0_0.index t (2 : Fin 3) * 1024 + 1 * d.val = d.val; omega

theorem lmod_apply (t : Fin cfg0.N) (j : Fin 6) (d : Fin 1024) :
    (ins m c t).lmod (ix3 (0 : Fin 1) j d) = (args m c).mod (batch t) j d := by
  obtain ⟨e0, e1, e2⟩ := idx1 t
  unfold Ins.lmod
  rw [View.ld_unit_lit _ _ (by decide)]
  show V m c main_arg1 (((cfg0.win 1).blk t).view.emb (ix3 (0 : Fin 1) j d)) = _
  rw [V_main_arg1]
  show _ = m ((c : Thread nD τ).loc main_arg1) (ix3 (batch t) j d)
  congr 1
  funext a
  apply Fin.ext
  match a with
  | ⟨0, _⟩ => show win0_1.index t (0 : Fin 3) * 1 + 1 * 0 = t.val / 64; omega
  | ⟨1, _⟩ => show win0_1.index t (1 : Fin 3) * 6 + 1 * j.val = j.val; omega
  | ⟨2, _⟩ => show win0_1.index t (2 : Fin 3) * 1024 + 1 * d.val = d.val; omega

theorem lhist_apply (t : Fin cfg0.N) (j : Fin 3) (l : Fin 3072) :
    (ins m c t).lhist (ix3 (0 : Fin 1) j l) = (args m c).hist (batch t) j l := by
  obtain ⟨e0, e1, e2⟩ := idx7 t
  unfold Ins.lhist
  rw [View.ld_unit_lit _ _ (by decide)]
  show V m c main_arg7 (((cfg0.win 7).blk t).view.emb (ix3 (0 : Fin 1) j l)) = _
  rw [V_main_arg7]
  show _ = m ((c : Thread nD τ).loc main_arg7) (ix3 (batch t) j l)
  congr 1
  funext a
  apply Fin.ext
  match a with
  | ⟨0, _⟩ => show win0_7.index t (0 : Fin 3) * 1 + 1 * 0 = t.val / 64; omega
  | ⟨1, _⟩ => show win0_7.index t (1 : Fin 3) * 3 + 1 * j.val = j.val; omega
  | ⟨2, _⟩ => show win0_7.index t (2 : Fin 3) * 3072 + 1 * l.val = l.val; omega

theorem lnorm_apply (t : Fin cfg0.N) (d : Fin 1024) : (ins m c t).lnorm (ix2 (0 : Fin 1) d) = (args m c).norm d := by
  obtain ⟨e0, e1⟩ := idx2 t
  unfold Ins.lnorm
  rw [View.ld_unit_lit _ _ (by decide)]
  show V m c main_v2 (((cfg0.win 2).blk t).view.emb (ix2 (0 : Fin 1) d)) = _
  have he : ((cfg0.win 2).blk t).view.emb (ix2 (0 : Fin 1) d) = ix2 (0 : Fin 1) d := by
    funext a
    apply Fin.ext
    match a with
    | ⟨0, _⟩ => show win0_2.index t (0 : Fin 2) * 1 + 1 * 0 = 0; omega
    | ⟨1, _⟩ => show win0_2.index t (1 : Fin 2) * 1024 + 1 * d.val = d.val; omega
  rw [he, V_norm]
  show _ = m ((c : Thread nD τ).loc main_arg2) (ix1 d)
  pointwise []

theorem lwq_apply (t : Fin cfg0.N) (d : Fin 1024) (l : Fin 3072) :
    (ins m c t).lwq (ix2 d l) = (args m c).w d (l.castLE (by decide)) := by
  obtain ⟨e0, e1⟩ := idx3 t
  unfold Ins.lwq
  rw [View.ld_unit_lit _ _ (by decide)]
  show V m c main_v4 (((cfg0.win 3).blk t).view.emb (ix2 d l)) = _
  have he : ((cfg0.win 3).blk t).view.emb (ix2 d l) = ix2 d l := by
    funext a
    apply Fin.ext
    match a with
    | ⟨0, _⟩ => show win0_3.index t (0 : Fin 2) * 1024 + 1 * d.val = d.val; omega
    | ⟨1, _⟩ => show win0_3.index t (1 : Fin 2) * 3072 + 1 * l.val = l.val; omega
  rw [he, V_wq]
  show _ = m ((c : Thread nD τ).loc main_arg3) (ix2 d (l.castLE (by decide)))
  generalize m ((c : Thread nD τ).loc main_arg3) = w
  have hz : extractStridedSlice S1024x3072 ![0, 0] w slices_S1024x4112_S1024x3072_0_0 (ix2 d l) =
      w (ix2 d (⟨0 + l.val, by omega⟩ : Fin 4112)) := by
    pointwise []
  refine Eq.trans ?_ (hz.trans ?_)
  · pointwise []
  · congr 2
    exact Fin.ext (Nat.zero_add _)

theorem lwz_apply (t : Fin cfg0.N) (d : Fin 1024) (l : Fin 1024) :
    (ins m c t).lwz (ix2 d l) = (args m c).w d (⟨3072 + l.val, by omega⟩ : Fin 4112) := by
  obtain ⟨e0, e1⟩ := idx4 t
  unfold Ins.lwz
  rw [View.ld_unit_lit _ _ (by decide)]
  show V m c main_v6 (((cfg0.win 4).blk t).view.emb (ix2 d l)) = _
  have he : ((cfg0.win 4).blk t).view.emb (ix2 d l) = ix2 d l := by
    funext a
    apply Fin.ext
    match a with
    | ⟨0, _⟩ => show win0_4.index t (0 : Fin 2) * 1024 + 1 * d.val = d.val; omega
    | ⟨1, _⟩ => show win0_4.index t (1 : Fin 2) * 1024 + 1 * l.val = l.val; omega
  rw [he, V_wz]
  show _ = m ((c : Thread nD τ).loc main_arg3) (ix2 d (⟨3072 + l.val, by omega⟩ : Fin 4112))
  pointwise []

theorem lwab_apply (t : Fin cfg0.N) (d : Fin 1024) (l : Fin 128) :
    (ins m c t).lwab (ix2 d l) = if h : l.val < 16 then (args m c).w d (⟨4096 + l.val, by omega⟩ : Fin 4112) else 0 := by
  obtain ⟨e0, e1⟩ := idx5 t
  unfold Ins.lwab
  rw [View.ld_unit_lit _ _ (by decide)]
  show V m c main_v7 (((cfg0.win 5).blk t).view.emb (ix2 d l)) = _
  have he : ((cfg0.win 5).blk t).view.emb (ix2 d l) = ix2 d l := by
    funext a
    apply Fin.ext
    match a with
    | ⟨0, _⟩ => show win0_5.index t (0 : Fin 2) * 1024 + 1 * d.val = d.val; omega
    | ⟨1, _⟩ => show win0_5.index t (1 : Fin 2) * 128 + 1 * l.val = l.val; omega
  rw [he, V_wab]
  show _ = if h : l.val < 16 then (m ((c : Thread nD τ).loc main_arg3) (ix2 d (⟨4096 + l.val, by omega⟩ : Fin 4112)) : EReal) else (0 : EReal)
  generalize m ((c : Thread nD τ).loc main_arg3) = w
  pointwise []
  rw [zero_word]

theorem lconv_apply (t : Fin cfg0.N) (j : Fin 4) (l : Fin 3072) :
    (ins m c t).lconv (ix2 j l) = (args m c).conv j l := by
  obtain ⟨e0, e1⟩ := idx6 t
  unfold Ins.lconv
  rw [View.ld_unit_lit _ _ (by decide)]
  show V m c main_arg4 (((cfg0.win 6).blk t).view.emb (ix2 j l)) = _
  rw [V_main_arg4]
  show _ = m ((c : Thread nD τ).loc main_arg4) (ix2 j l)
  congr 1
  funext a
  apply Fin.ext
  match a with
  | ⟨0, _⟩ => show win0_6.index t (0 : Fin 2) * 4 + 1 * j.val = j.val; omega
  | ⟨1, _⟩ => show win0_6.index t (1 : Fin 2) * 3072 + 1 * l.val = l.val; omega

theorem lalog_apply (t : Fin cfg0.N) (h : Fin 8) :
    (ins m c t).lalog (ix2 (0 : Fin 1) (h.castLE (by decide) : Fin 128)) = (args m c).alog h := by
  obtain ⟨e0, e1⟩ := idx8 t
  unfold Ins.lalog
  rw [View.ld_unit_lit _ _ (by decide)]
  show V m c main_v9 (((cfg0.win 8).blk t).view.emb (ix2 (0 : Fin 1) (h.castLE (by decide) : Fin 128))) = _
  have he : ((cfg0.win 8).blk t).view.emb (ix2 (0 : Fin 1) (h.castLE (by decide) : Fin 128)) =
      ix2 (0 : Fin 1) (h.castLE (by decide) : Fin 128) := by
    funext a
    apply Fin.ext
    match a with
    | ⟨0, _⟩ => show win0_8.index t (0 : Fin 2) * 1 + 1 * 0 = 0; omega
    | ⟨1, _⟩ => show win0_8.index t (1 : Fin 2) * 128 + 1 * h.val = h.val; omega
  rw [he, V_alog]
  show _ = m ((c : Thread nD τ).loc main_arg5) (ix1 h)
  generalize m ((c : Thread nD τ).loc main_arg5) = w
  pointwise []
  exact dif_pos h.isLt

theorem ldt_apply (t : Fin cfg0.N) (h : Fin 8) :
    (ins m c t).ldt (ix2 (0 : Fin 1) (h.castLE (by decide) : Fin 128)) = (args m c).dt h := by
  obtain ⟨e0, e1⟩ := idx9 t
  unfold Ins.ldt
  rw [View.ld_unit_lit _ _ (by decide)]
  show V m c main_v11 (((cfg0.win 9).blk t).view.emb (ix2 (0 : Fin 1) (h.castLE (by decide) : Fin 128))) = _
  have he : ((cfg0.win 9).blk t).view.emb (ix2 (0 : Fin 1) (h.castLE (by decide) : Fin 128)) =
      ix2 (0 : Fin 1) (h.castLE (by decide) : Fin 128) := by
    funext a
    apply Fin.ext
    match a with
    | ⟨0, _⟩ => show win0_9.index t (0 : Fin 2) * 1 + 1 * 0 = 0; omega
    | ⟨1, _⟩ => show win0_9.index t (1 : Fin 2) * 128 + 1 * h.val = h.val; omega
  rw [he, V_dt]
  show _ = m ((c : Thread nD τ).loc main_arg6) (ix1 h)
  generalize m ((c : Thread nD τ).loc main_arg6) = w
  pointwise []
  exact dif_pos h.isLt

/-! ## What a point makes of its blocks -/

variable (t : Fin cfg0.N) (i : Fin 256)

theorem hn_apply (d : Fin 1024) : (ins m c t).hn (ix2 i d) = (args m c).hn (batch t) (tokOf t i) d := by
  unfold Ins.hn Arr.hn
  rw [pay4_apply]
  simp only [lx_apply, lmod_apply, lnorm_apply]

/-- The point's channels to convolve. -/
theorem proj_apply (l : Fin 3072) : k0_pay5 (ins m c t).lx (ins m c t).lmod (ins m c t).lnorm (ins m c t).lwq (ix2 i l) =
    (args m c).xp (batch t) (first t + i.val + 3) l := by
  have h : k0_pay5 (ins m c t).lx (ins m c t).lmod (ins m c t).lnorm (ins m c t).lwq (ix2 i l) =
      (args m c).proj (batch t) (tokOf t i) (l.castLE (by decide)) := by
    unfold Arr.proj
    rw [pay5_apply]
    refine Finset.sum_congr rfl fun d _ => ?_
    rw [lwq_apply]
    exact congrArg (· * _) (hn_apply m c t i d)
  rw [h, Arr.xp, dif_neg (by omega)]
  congr 1
  apply Fin.ext
  show first t + i.val = (first t + i.val + 3 - 3) % 16384
  have := (tokOf t i).isLt
  have hv : (tokOf t i).val = first t + i.val := rfl
  omega

/-- … the same, as stored in scratch. -/
theorem stored_apply (l : Fin 3072) : k0_pay6 (ins m c t).lx (ins m c t).lmod (ins m c t).lnorm (ins m c t).lwq (ix2 i l) =
    (args m c).xp (batch t) (first t + i.val + 3) l := by
  rw [← proj_apply]
  unfold k0_pay6
  generalize k0_pay5 (ins m c t).lx (ins m c t).lmod (ins m c t).lnorm (ins m c t).lwq = w
  pointwise []

/-- The convolved channels, of the three tokens before. -/
theorem act_apply (l : Fin 3072) (x y z : Vec Ideal S256x3072 .f32)
    (hx : x (ix2 i l) = (args m c).xp (batch t) (first t + i.val) l)
    (hy : y (ix2 i l) = (args m c).xp (batch t) (first t + i.val + 1) l)
    (hz : z (ix2 i l) = (args m c).xp (batch t) (first t + i.val + 2) l) :
    (ins m c t).act x y z (ix2 i l) = (args m c).act (batch t) (tokOf t i) l := by
  unfold Ins.act Arr.act
  rw [pay9_apply, hx, hy, hz, proj_apply]
  simp only [lconv_apply]
  rfl

/-- The gate. -/
theorem z_apply (l : Fin 1024) : k0_pay40 (ins m c t).hn (ins m c t).lwz (ix3 (0 : Fin 1) i l) =
    (args m c).z (batch t) (tokOf t i) l := by
  rw [pay40_apply]
  unfold Arr.z Arr.proj
  simp only [lwz_apply, hn_apply]

/-- The log-decays. -/
theorem decay_apply (h : Fin 8) : (ins m c t).decay (ix2 i (h.castLE (by decide) : Fin 128)) =
    (args m c).g (batch t) (tokOf t i) h := by
  unfold Ins.decay
  rw [pay42_apply, lalog_apply, ldt_apply]
  unfold Arr.g Arr.proj
  have hw (d : Fin 1024) : (ins m c t).lwab (ix2 d (h.castLE (by decide) : Fin 128)) =
      (args m c).w d (⟨4096 + h.val, by omega⟩ : Fin 4112) := by
    rw [lwab_apply, dif_pos (show (h.castLE (by decide) : Fin 128).val < 16 from lt_trans h.isLt (by decide))]
    rfl
  simp only [hw, hn_apply]

/-- The betas, and one half past them. -/
theorem beta_apply (l : Fin 128) (hl : ¬l.val < 8) : (ins m c t).beta (ix2 i l) =
    if h : l.val < 16 then (args m c).beta (batch t) (tokOf t i) (⟨l.val - 8, by omega⟩ : Fin 8) else word 0x3F000000#32 := by
  unfold Ins.beta
  rw [InMath.beta_apply]
  simp only [lwab_apply, hn_apply]
  by_cases h : l.val < 16
  · simp only [dif_pos h]
    unfold Arr.beta Arr.proj
    have hw : (⟨4104 + (l.val - 8), by omega⟩ : Fin 4112) = ⟨4096 + l.val, by omega⟩ := Fin.ext (by show 4104 + (l.val - 8) = 4096 + l.val; omega)
    simp only [hw]
  · simp only [dif_neg h, mul_zero, Finset.sum_const_zero]
    exact sigmoid_zero

/-- The packed columns, when the log-decays are finite. -/
theorem packed_apply (hg : ∀ b t h, (args m c).g b t h - (args m c).g b t h = 0) (l : Fin 128) :
    packed (ins m c t).decay (ins m c t).beta (ix2 i l) =
      if h : l.val < 16 then (args m c).gb (batch t) (tokOf t i) (⟨l.val, h⟩ : Fin 16) else word 0x3F000000#32 := by
  have hd (k : Fin 256) (hl : l.val < 8) : (ins m c t).decay (ix2 k l) = (args m c).g (batch t) (tokOf t k) ⟨l.val, hl⟩ :=
    decay_apply m c t k ⟨l.val, hl⟩
  rw [InMath.packed_apply _ _ _ _ fun hl j => by rw [hd j hl]; exact hg _ _ _]
  by_cases hl : l.val < 8
  · rw [if_pos hl, dif_pos (by omega), Arr.gb, dif_pos hl, Arr.gcum]
    refine Finset.sum_congr rfl fun j _ => ?_
    rw [hd _ hl]
    have hm : (tokOf t i).val % 64 = i.val % 64 := by
      show (256 * (t.val % 64) + i.val) % 64 = _
      omega
    rw [hm]
    congr 2
    apply Fin.ext
    show 256 * (t.val % 64) + (i.val / 64 * 64 + j.val) = (256 * (t.val % 64) + i.val) / 64 * 64 + j.val
    omega
  · rw [if_neg hl, beta_apply m c t i l hl]
    by_cases h : l.val < 16
    · rw [dif_pos h, dif_pos h, Arr.gb, dif_neg hl]
    · rw [dif_neg h, dif_neg h]

end Cert.InBlocks

end
-- ==== Proof.InPoints.lean ====
/- What every grid point of the projection leaves: its tokens' results, and the last rows in its scratch. -/
module

public import proofs.«01_k».proof.Proof.InBlocks

@[expose] public section

set_option maxRecDepth 16384

noncomputable section

namespace Cert.InBlocks

open Idealize.ShloMosaic Idealize.ShloMosaic.TcCoe Idealize.SL.Sem Cert.Kernel2Ideal Cert.Kernel2Ideal.Gen
open Cert.InPoint Cert.InMath Cert.InSpec

section

variable {F : FTy → Type} [FloatOps F]

/-- What a point's outputs hold after its stores, beside what its scratch holds. -/
def outsOf (s : Stores F) (r : Vec F S264x3072 .f32) :
    Vec F S1x256x1024 .f32 × Vec F S1x256x1024 .f32 × Vec F S1x256x1024 .f32 × Vec F S1x256x1024 .f32 ×
      Vec F S1x256x128 .f32 × Vec F S1x4x16x64 .f32 × Vec F S1x3x3072 .f32 × Vec F S264x3072 .f32 :=
  (View.canon s.1, View.canon s.2.1, View.canon s.2.2.1, View.canon s.2.2.2.1, View.canon s.2.2.2.2.1,
    View.canon s.2.2.2.2.2.1, View.canon s.2.2.2.2.2.2.1, r)

/-- The eight parts of a point's outputs and scratch. -/
theorem parts {o : Vec F S1x256x1024 .f32 × Vec F S1x256x1024 .f32 × Vec F S1x256x1024 .f32 × Vec F S1x256x1024 .f32 ×
      Vec F S1x256x128 .f32 × Vec F S1x4x16x64 .f32 × Vec F S1x3x3072 .f32 × Vec F S264x3072 .f32}
    {v : View sig .tc .vmem S264x3072 .f32} {X : Ins F} {y : FVec F S256x3072 .f32}
    {L : List (View.Piece (Elt F) S264x3072 .f32)} {r : Vec F S264x3072 .f32}
    (ho : o = outsOf (stores v X y L) r) :
    o.1 = View.canon (heads (query y)) ∧ o.2.1 = View.canon (heads (key y)) ∧ o.2.2.1 = k0_pay39 y ∧
      o.2.2.2.1 = k0_pay40 X.hn X.lwz ∧ o.2.2.2.2.1 = View.canon [columns (packed X.decay X.beta)] ∧
      o.2.2.2.2.2.1 = View.canon (chunkRows (turned (packed X.decay X.beta))) ∧
      o.2.2.2.2.2.2.1 = View.canon [newHist (lastOf v L)] ∧ o.2.2.2.2.2.2.2 = r := by
  subst ho
  unfold outsOf stores
  dsimp only
  rw [canon_whole, canon_whole]
  exact ⟨rfl, rfl, rfl, rfl, rfl, rfl, rfl, rfl⟩

variable (c : Dev nD) (i : grid0.Coords)
    (arg2 : Memref sig .tc .vmem S1x256x1024 .f32) (harg2 : arg2.IsWhole)
    (arg3 : Memref sig .tc .vmem S1x6x1024 .f32) (harg3 : arg3.IsWhole)
    (arg4 : Memref sig .tc .vmem S1x1024 .f32) (harg4 : arg4.IsWhole)
    (arg5 : Memref sig .tc .vmem S1024x3072 .bf16) (harg5 : arg5.IsWhole)
    (arg6 : Memref sig .tc .vmem S1024x1024 .bf16) (harg6 : arg6.IsWhole)
    (arg7 : Memref sig .tc .vmem S1024x128 .bf16) (harg7 : arg7.IsWhole)
    (arg8 : Memref sig .tc .vmem S4x3072 .f32) (harg8 : arg8.IsWhole)
    (arg9 : Memref sig .tc .vmem S1x3x3072 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x256x1024 .f32) (harg12 : arg12.IsWhole)
    (arg13 : Memref sig .tc .vmem S1x256x1024 .f32) (harg13 : arg13.IsWhole)
    (arg14 : Memref sig .tc .vmem S1x256x1024 .f32) (harg14 : arg14.IsWhole)
    (arg15 : Memref sig .tc .vmem S1x256x1024 .f32) (harg15 : arg15.IsWhole)
    (arg16 : Memref sig .tc .vmem S1x256x128 .f32) (harg16 : arg16.IsWhole)
    (arg17 : Memref sig .tc .vmem S1x4x16x64 .f32) (harg17 : arg17.IsWhole)
    (arg18 : Memref sig .tc .vmem S1x3x3072 .f32) (harg18 : arg18.IsWhole)
    (arg19 : Memref sig .tc .vmem S264x3072 .f32) (harg19 : arg19.IsWhole)
    (x0 : Vec F S1x256x1024 .f32) (x1 : Vec F S1x6x1024 .f32) (x2 : Vec F S1x1024 .f32) (x3 : Vec F S1024x3072 .bf16) (x4 : Vec F S1024x1024 .bf16) (x5 : Vec F S1024x128 .bf16) (x6 : Vec F S4x3072 .f32) (x7 : Vec F S1x3x3072 .f32) (x8 : Vec F S1x128 .f32) (x9 : Vec F S1x128 .f32)

theorem outs_A (hc0 : cond0_0 i) :
    (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9,
      sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9) =
      (fun X : Ins F => outsOf (stores arg19.view X (actA arg19.view X) X.begun)
        (View.canon (carried (lastOf arg19.view X.begun) :: X.begun))) ⟨x0, x1, x2, x3, x4, x5, x6, x7, x8, x9⟩ := by
  unfold out0_A_10 out0_A_11 out0_A_12 out0_A_13 out0_A_14 out0_A_15 out0_A_16 sout0_A_0
  simp only [View.read_writes_junk_eq_canon]
  exact congrArg (fun s : Stores F => outsOf s (View.canon s.2.2.2.2.2.2.2)) (stores_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0)

theorem outs_B (hc0 : ¬cond0_0 i) (xs0 : Vec F S264x3072 .f32) :
    (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0,
      sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0) =
      (fun X : Ins F => outsOf (stores arg19.view X (actB arg19 harg19 xs0 X) [X.proj])
        (held arg19 harg19 xs0 (carried (lastOf arg19.view [X.proj]) :: [X.proj]))) ⟨x0, x1, x2, x3, x4, x5, x6, x7, x8, x9⟩ := by
  unfold out0_B_10 out0_B_11 out0_B_12 out0_B_13 out0_B_14 out0_B_15 out0_B_16 sout0_B_0
  simp only [View.read_writes_junk_eq_canon]
  exact congrArg (fun s : Stores F => outsOf s (held arg19 harg19 xs0 s.2.2.2.2.2.2.2)) (stores_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 xs0)

end

variable (m : (ℓ : Loc nD τ sig) → Buf (Elt Ideal) ℓ) (c : Dev nD)

/-- A batch's first point's outputs and scratch. -/
theorem leaves_first (t : Fin cfg0.N) (h0 : t.val % 64 = 0) : outsAt0 m c t.val t.isLt =
    outsOf (stores scM0_0.view (ins m c t) (actA scM0_0.view (ins m c t)) (ins m c t).begun)
      (View.canon (carried (lastOf scM0_0.view (ins m c t).begun) :: (ins m c t).begun)) := by
  rw [outsAt0_A m c t h0, outs_A]
  rfl

/-- What any other point finds in its scratch. -/
def foundAt (t : Fin cfg0.N) : Vec Ideal S264x3072 .f32 :=
  (outsAt0 m c (t.val - 1) (Nat.lt_of_le_of_lt (Nat.sub_le _ _) t.isLt)).2.2.2.2.2.2.2

/-- Any other point's outputs and scratch. -/
theorem leaves_later (t : Fin cfg0.N) (h0 : ¬t.val % 64 = 0) (hw : scM0_0.IsWhole) : outsAt0 m c t.val t.isLt =
    outsOf (stores scM0_0.view (ins m c t) (actB scM0_0 hw (foundAt m c t) (ins m c t)) [(ins m c t).proj])
      (held scM0_0 hw (foundAt m c t) (carried (lastOf scM0_0.view [(ins m c t).proj]) :: [(ins m c t).proj])) := by
  rw [outsAt0_B m c t h0, outs_B]
  rfl

/-- A point's results and the rows it leaves. -/
structure Point (A : Arr) (t : Fin cfg0.N) : Prop where
  q : ∀ (h : Fin 8) (i : Fin 256) (d : Fin 128), (outsAt0 m c t.val t.isLt).1
    (ix3 (0 : Fin 1) i (⟨128 * h.val + d.val, by omega⟩ : Fin 1024)) = A.q (batch t) (tokOf t i) h d
  k : ∀ (h : Fin 8) (i : Fin 256) (d : Fin 128), (outsAt0 m c t.val t.isLt).2.1
    (ix3 (0 : Fin 1) i (⟨128 * h.val + d.val, by omega⟩ : Fin 1024)) = A.k (batch t) (tokOf t i) h d
  v : ∀ (i : Fin 256) (l : Fin 1024), (outsAt0 m c t.val t.isLt).2.2.1 (ix3 (0 : Fin 1) i l) =
    A.v (batch t) (tokOf t i) l
  z : ∀ (i : Fin 256) (l : Fin 1024), (outsAt0 m c t.val t.isLt).2.2.2.1 (ix3 (0 : Fin 1) i l) =
    A.z (batch t) (tokOf t i) l
  columns : A.Real → ∀ (i : Fin 256) (l : Fin 128), (outsAt0 m c t.val t.isLt).2.2.2.2.1 (ix3 (0 : Fin 1) i l) =
    if h : l.val < 16 then A.gb (batch t) (tokOf t i) (⟨l.val, h⟩ : Fin 16) else word 0x3F000000#32
  rows : A.Real → ∀ (n : Fin 4) (l : Fin 16) (r : Fin 64), (outsAt0 m c t.val t.isLt).2.2.2.2.2.1
    (ix4 (0 : Fin 1) n l r) = A.gb (batch t) (tokOf t (⟨64 * n.val + r.val, by omega⟩ : Fin 256)) l
  hist : ∀ (j : Fin 3) (l : Fin 3072), (outsAt0 m c t.val t.isLt).2.2.2.2.2.2.1 (ix3 (0 : Fin 1) j l) =
    A.xp (batch t) (first t + 256 + j.val) l
  scratch : ∀ (j : Fin 3) (l : Fin 3072) (r : Fin 264), r.val = 5 + j.val →
    (outsAt0 m c t.val t.isLt).2.2.2.2.2.2.2 (ix2 r l) = A.xp (batch t) (first t + 256 + j.val) l

/-- The scratch when a point convolves, when the three rows before its tokens are the right ones. -/
theorem rows_of (t : Fin cfg0.N) (v : View sig .tc .vmem S264x3072 .f32) (f : v.ty.Contents (Elt Ideal))
    (L : List (View.Piece (Elt Ideal) S264x3072 .f32))
    (hL : ∀ (j : Fin 3) (l : Fin 3072) (r : Fin 264), r.val = 5 + j.val →
      v.read (Elt Ideal) (v.writes (Elt Ideal) f ((ins m c t).proj :: L)) (ix2 r l) =
        (args m c).xp (batch t) (first t + j.val) l)
    (n : ℕ) (l : Fin 3072) (r : Fin 264) (hr : r.val = 5 + n) :
    v.read (Elt Ideal) (v.writes (Elt Ideal) f ((ins m c t).proj :: L)) (ix2 r l) =
      (args m c).xp (batch t) (first t + n) l := by
  by_cases hn : n < 3
  · exact hL ⟨n, hn⟩ l r hr
  · rw [read_proj v f (ins m c t) L (⟨n - 3, by omega⟩ : Fin 256) l r (by show r.val = 8 + (n - 3); omega), stored_apply]
    congr 1
    show first t + (n - 3) + 3 = first t + n
    omega

/-- The last three rows. -/
theorem last_of (t : Fin cfg0.N) (v : View sig .tc .vmem S264x3072 .f32)
    (L : List (View.Piece (Elt Ideal) S264x3072 .f32)) (j : Fin 3) (l : Fin 3072) :
    lastOf v ((ins m c t).proj :: L) (ix2 j l) = (args m c).xp (batch t) (first t + 256 + j.val) l := by
  unfold lastOf
  rw [View.readCov_eq_canon']
  refine (congrArg (View.canon ((ins m c t).proj :: L)) (last_idx j l)).trans ?_
  rw [← View.read_writes_junk_apply_eq_canon v,
    read_proj v _ (ins m c t) L (⟨253 + j.val, by omega⟩ : Fin 256) l _ (by show 261 + j.val = 8 + (253 + j.val); omega),
    stored_apply]
  congr 1
  show first t + (253 + j.val) + 3 = first t + 256 + j.val
  omega

variable {m c}

/-- A point's results, of its convolved channels, its last rows and its scratch. -/
theorem point (t : Fin cfg0.N) (y : FVec Ideal S256x3072 .f32) (L : List (View.Piece (Elt Ideal) S264x3072 .f32))
    (s : Vec Ideal S264x3072 .f32)
    (ho : outsAt0 m c t.val t.isLt = outsOf (stores scM0_0.view (ins m c t) y ((ins m c t).proj :: L)) s)
    (hy : ∀ (i : Fin 256) (l : Fin 3072), y (ix2 i l) = (args m c).act (batch t) (tokOf t i) l)
    (hs : ∀ (j : Fin 3) (l : Fin 3072) (r : Fin 264), r.val = 5 + j.val → s (ix2 r l) =
      lastOf scM0_0.view ((ins m c t).proj :: L) (ix2 j l)) :
    Point m c (args m c) t := by
  have hu (n : Fin 16) (i : Fin 256) (d : Fin 128) :
      unitRows y n (ix2 i d) = (args m c).head (batch t) (tokOf t i) n d := by
    rw [unitRows_apply]
    simp only [hy]
    rfl
  have hp (H : (args m c).Real) := packed_apply m c t (hg := fun b t h => (H.g b t h).sub_self)
  obtain ⟨o1, o2, o3, o4, o5, o6, o7, o8⟩ := parts ho
  refine ⟨fun h i d => ?_, fun h i d => ?_, fun i l => ?_, fun i l => ?_, fun H i l => ?_, fun H n l r => ?_,
    fun j l => ?_, fun j l r hr => ?_⟩
  · rw [o1]
    rw [canon_heads]
    refine Eq.trans ?_ (congrArg (· * word 0x3DB504F3#32) (hu (h.castLE (by decide)) i d))
    unfold query
    generalize unitRows y (h.castLE (by decide)) = u
    pointwise []
  · rw [o2]
    rw [canon_heads]
    exact hu _ i d
  · rw [o3]
    rw [pay39_apply, hy]
    rfl
  · rw [o4]
    rw [z_apply]
  · rw [o5]
    rw [canon_columns]
    exact hp H i l
  · rw [o6]
    rw [canon_chunks]
    have hw : packed (ins m c t).decay (ins m c t).beta (ix2 (⟨64 * n.val + r.val, by omega⟩ : Fin 256)
        (l.castLE (by decide) : Fin 128)) =
        (args m c).gb (batch t) (tokOf t (⟨64 * n.val + r.val, by omega⟩ : Fin 256)) l := by
      rw [hp H, dif_pos (show (l.castLE (by decide) : Fin 128).val < 16 from l.isLt)]
      rfl
    rw [turned_apply _ n l r (by rw [hw]; exact (H.gb _ _ _).sub_self), hw]
  · rw [o7]
    rw [canon_hist, last_of]
  · rw [o8]
    rw [hs j l r hr, last_of]

/-- A batch's first point's results. -/
theorem point_first (t : Fin cfg0.N) (h0 : t.val % 64 = 0) : Point m c (args m c) t := by
  have hf : first t = 0 := by unfold first; rw [h0]
  have hrow := rows_of m c t scM0_0.view scM0_0.view.junk (ins m c t).before
    (fun j l r hr => by
      refine (read_first scM0_0.view _ (ins m c t) j l r hr).trans ?_
      rw [lhist_apply, hf, Nat.zero_add, Arr.xp, dif_pos j.isLt])
  have htap (n : Fin 9) (k : ℕ) (hn : n.val = 5 + k) (i : Fin 256) (l : Fin 3072) :
      tapsA scM0_0.view (ins m c t) n (ix2 i l) = (args m c).xp (batch t) (first t + i.val + k) l := by
    unfold tapsA
    rw [View.readCov_eq_canon', begun_eq]
    refine (congrArg (View.canon ((ins m c t).proj :: (ins m c t).before)) (earlier_idx n i l)).trans ?_
    rw [← View.read_writes_junk_apply_eq_canon scM0_0.view]
    refine (hrow (i.val + k) l _ (by show n.val + i.val = 5 + (i.val + k); omega)).trans ?_
    rw [Nat.add_assoc]
  have ho := leaves_first m c t h0
  rw [begun_eq] at ho
  refine point t _ _ _ ho (fun i l => ?_) fun j l r hr => ?_
  · exact act_apply m c t i l _ _ _ (htap 5 0 rfl i l) (htap 6 1 rfl i l) (htap 7 2 rfl i l)
  · rw [← View.read_writes_junk_apply_eq_canon scM0_0.view]
    exact read_carried scM0_0.view _ _ _ j l r hr

/-- Any other point's results, when the point before it left the right rows. -/
theorem point_later (t : Fin cfg0.N) (h0 : ¬t.val % 64 = 0)
    (hfound : ∀ (j : Fin 3) (l : Fin 3072) (r : Fin 264), r.val = 5 + j.val → foundAt m c t (ix2 r l) =
      (args m c).xp (batch t) (first t + j.val) l) : Point m c (args m c) t := by
  have hw : scM0_0.IsWhole := Memref.isWhole_whole _
  have hrow := rows_of m c t scM0_0.view (hw.unread (foundAt m c t)) []
    (fun j l r hr => by
      rw [read_before scM0_0.view _ (ins m c t) [] l r (by omega)]
      refine Eq.trans ?_ (hfound j l r hr)
      exact congrFun (hw.read_unread (foundAt m c t)) _)
  have htap (n : Fin 9) (k : ℕ) (hn : n.val = 5 + k) (i : Fin 256) (l : Fin 3072) :
      View.ld (held scM0_0 hw (foundAt m c t) [(ins m c t).proj]) (earlier n) (ix2 i l) =
        (args m c).xp (batch t) (first t + i.val + k) l := by
    refine (congrArg (held scM0_0 hw (foundAt m c t) [(ins m c t).proj]) (earlier_idx n i l)).trans ?_
    refine (hrow (i.val + k) l _ (by show n.val + i.val = 5 + (i.val + k); omega)).trans ?_
    rw [Nat.add_assoc]
  refine point t _ _ _ (leaves_later m c t h0 hw) (fun i l => ?_) fun j l r hr => ?_
  · exact act_apply m c t i l _ _ _ (htap 5 0 rfl i l) (htap 6 1 rfl i l) (htap 7 2 rfl i l)
  · exact read_carried scM0_0.view _ _ _ j l r hr

/-- Every point's results. -/
theorem points : ∀ (n : ℕ) (hn : n < cfg0.N), Point m c (args m c) ⟨n, hn⟩ := by
  intro n
  induction n with
  | zero =>
    intro hn
    exact point_first ⟨0, hn⟩ rfl
  | succ n ih =>
    intro hn
    by_cases h0 : (n + 1) % 64 = 0
    · exact point_first ⟨n + 1, hn⟩ h0
    · refine point_later ⟨n + 1, hn⟩ h0 fun j l r hr => ?_
      refine ((ih (Nat.lt_of_succ_lt hn)).scratch j l r hr).trans ?_
      have hb : batch ⟨n, Nat.lt_of_succ_lt hn⟩ = batch ⟨n + 1, hn⟩ :=
        Fin.ext (by show n / 64 = (n + 1) / 64; omega)
      have hf : first ⟨n, Nat.lt_of_succ_lt hn⟩ + 256 = first ⟨n + 1, hn⟩ := by
        show 256 * (n % 64) + 256 = 256 * ((n + 1) % 64)
        omega
      rw [hb, hf]

end Cert.InBlocks

end
-- ==== Proof.InFinite.lean ====
/- The second call's arguments are real: what its precondition says of them. -/
module

public import proofs.«01_k».proof.Defs
public import proofs.«01_k».proof.Proof.Finite
public import proofs.«01_k».proof.Proof.InBlocks
public import proofs.«01_k».proof.Proof.InReal
public import proofs.«01_k».proof.Proof.Gen.Pre_finite2

@[expose] public section

noncomputable section

namespace Cert.InFinite

open Idealize.ShloMosaic Idealize.ShloMosaic.TcCoe Idealize.SL.Sem Cert.InSpec

section

open Cert.Pre_finite2 Cert.Pre_finite2.Facts

/-- Every element of an array of which the precondition's conjunct holds is real. -/
theorem real_of_all {s : Shape} {axes : List (Fin s.rank)} (hb : S_.BroadcastsInDim s ![]) (hr : s.ReducesTo axes S_)
    (x : FVec Ideal s .f32)
    (h : Host.reduce IntOp.andi
      (andi (cmpf .olt x (broadcastInDim s ![] hb (constant (F := Ideal) S_ .f32 0x7F800000#32)))
        (cmpf .ogt x (broadcastInDim s ![] hb (constant (F := Ideal) S_ .f32 0xFF800000#32))))
      (constantI S_ 1 1#1) hr (by decide : 0 < S_.numel) (fun a => nomatch a) = 1#1) (i : s.Idx) : IsReal (x i) :=
  ⟨_, Finite.real_of_all hb hr x h i⟩

variable [Facts]

/-- Under the precondition every element of the arguments the log-decays and the betas are made of is real. -/
theorem real_of_fn (x : FVec Ideal S2x16384x1024 .f32) (md : FVec Ideal S2x6x1024 .f32) (nm : FVec Ideal S1024 .f32)
    (w : FVec Ideal S1024x4112 .f32) (cw : FVec Ideal S4x3072 .f32) (al dt : FVec Ideal S8 .f32)
    (hi : FVec Ideal S2x3x3072 .f32) (h : fn (F := Ideal) x md nm w cw al dt hi = fun _ => 1#1) :
    (∀ i, IsReal (x i)) ∧ (∀ i, IsReal (md i)) ∧ (∀ i, IsReal (nm i)) ∧ (∀ i, IsReal (w i)) ∧
    (∀ i, IsReal (al i)) ∧ (∀ i, IsReal (dt i)) := by
  have h0 := congrFun h (fun a => nomatch a)
  unfold fn fn_part1 fn_part2 at h0
  dsimp only at h0
  obtain ⟨h0, hdt⟩ := IntOp.andi_eq_one.1 h0
  obtain ⟨h0, hal⟩ := IntOp.andi_eq_one.1 h0
  obtain ⟨h0, hw⟩ := IntOp.andi_eq_one.1 h0
  obtain ⟨h0, hnm⟩ := IntOp.andi_eq_one.1 h0
  obtain ⟨hx, hmd⟩ := IntOp.andi_eq_one.1 h0
  exact ⟨real_of_all _ _ x hx, real_of_all _ _ md hmd, real_of_all _ _ nm hnm, real_of_all _ _ w hw,
    real_of_all _ _ al hal, real_of_all _ _ dt hdt⟩

end

open Cert.Kernel2Ideal

/-- Under the precondition the kernel's arguments are real. -/
theorem given {m : (ℓ : Loc nD τ sig) → Buf (Elt Ideal) ℓ} (hpre : Cert.Pre_Kernel2Ideal_finite2 m) (c : Dev nD) :
    (InBlocks.args m c).Real := by
  obtain ⟨hx, hmd, hnm, hw, hal, hdt⟩ := real_of_fn _ _ _ _ _ _ _ _ (hpre c)
  exact ⟨fun _ _ _ => hx _, fun _ _ _ => hmd _, fun _ => hnm _, fun _ _ => hw _, fun _ => hal _, fun _ => hdt _⟩

end Cert.InFinite

end
-- ==== Proof.InReference.lean ====
/- What the reference program of the input projection computes, at one index. -/
module

public import proofs.«01_k».proof.Proof.Gen.Reference2Ideal.Run
public import proofs.«01_k».proof.Proof.InSpec
public import proofs.«01_k».proof.Proof.Masks

@[expose] public section

set_option maxRecDepth 16384

noncomputable section

namespace Cert.InReference

open Cert.Reference2Ideal Cert.Reference2Ideal.Gen Cert.Reference2Ideal.Value Cert.InSpec
open Idealize.ShloMosaic Idealize.ShloMosaic.StableHlo Idealize.SL.Sem

/-- The arguments' arrays, number by number. -/
def arr (x : FVec Ideal S2x16384x1024 .f32) (md : FVec Ideal S2x6x1024 .f32) (nm : FVec Ideal S1024 .f32)
    (w : FVec Ideal S1024x4112 .f32) (cw : FVec Ideal S4x3072 .f32) (al dt : FVec Ideal S8 .f32)
    (hi : FVec Ideal S2x3x3072 .f32) : Arr where
  x b t d := x (ix3 b t d)
  mod b r d := md (ix3 b r d)
  norm d := nm (ix1 d)
  w d l := w (ix2 d l)
  conv j l := cw (ix2 j l)
  alog h := al (ix1 h)
  dt h := dt (ix1 h)
  hist b j l := hi (ix3 b j l)

section

variable (x : FVec Ideal S2x16384x1024 .f32) (md : FVec Ideal S2x6x1024 .f32) (nm : FVec Ideal S1024 .f32)
    (w : FVec Ideal S1024x4112 .f32) (cw : FVec Ideal S4x3072 .f32) (al dt : FVec Ideal S8 .f32)
    (hi : FVec Ideal S2x3x3072 .f32)

/-- The normalised and modulated tokens. -/
def hnV : FVec Ideal S2x16384x1024 .f32 :=
  addf (mulf (mulf (mulf x (broadcastInDim S2x16384x1024 ![0, 1, 2] bcast_S2x16384x1_S2x16384x1024_0_1_2
    (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 nm)))
    (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 1, 0] md slices_S2x6x1024_S2x1x1024_0_1_0))))
    (broadcastInDim S2x16384x1024 ![0, 1, 2] bcast_S2x1x1024_S2x16384x1024_0_1_2
      (extractStridedSlice S2x1x1024 ![0, 0, 0] md slices_S2x6x1024_S2x1x1024_0_0_0))

/-- The projections. -/
def projV : FVec Ideal S2x16384x4112 .f32 :=
  Host.dotGeneral dot_S2x16384x1024_S1024x4112_S2x16384x4112_2_0_01_1_n_n none (hnV x md nm) w

end

section

variable (p : FVec Ideal S2x16384x4112 .f32) (cw : FVec Ideal S4x3072 .f32) (al dt : FVec Ideal S8 .f32)
    (hi : FVec Ideal S2x3x3072 .f32)

/-- The channels to convolve, three earlier tokens first. -/
def xpV : FVec Ideal S2x16387x3072 .f32 :=
  concatenate S2x16387x3072 1 [⟨S2x3x3072, hi⟩, ⟨S2x16384x3072, extractStridedSlice S2x16384x3072 ![0, 0, 0] p
    slices_S2x16384x4112_S2x16384x3072_0_0_0⟩] concatenates_S2x3x3072_S2x16384x3072_S2x16387x3072_d1

/-- One tap, along the tokens. -/
def tapV (c : FVec Ideal S1x3072 .f32) : FVec Ideal S2x16384x3072 .f32 :=
  broadcastInDim S2x16384x3072 ![0, 1, 2] bcast_S1x1x3072_S2x16384x3072_0_1_2
    (broadcastInDim S1x1x3072 ![2] bcast_S3072_S1x1x3072_2 (shapeCast _ c shapeCasts_S1x3072_S3072))

/-- The four taps' sum. -/
def convV (y : FVec Ideal S2x16387x3072 .f32) : FVec Ideal S2x16384x3072 .f32 :=
  addf (addf (addf
    (mulf (extractStridedSlice S2x16384x3072 ![0, 0, 0] y slices_S2x16387x3072_S2x16384x3072_0_0_0)
      (tapV (extractStridedSlice S1x3072 ![0, 0] cw slices_S4x3072_S1x3072_0_0)))
    (mulf (extractStridedSlice S2x16384x3072 ![0, 1, 0] y slices_S2x16387x3072_S2x16384x3072_0_1_0)
      (tapV (extractStridedSlice S1x3072 ![1, 0] cw slices_S4x3072_S1x3072_1_0))))
    (mulf (extractStridedSlice S2x16384x3072 ![0, 2, 0] y slices_S2x16387x3072_S2x16384x3072_0_2_0)
      (tapV (extractStridedSlice S1x3072 ![2, 0] cw slices_S4x3072_S1x3072_2_0))))
    (mulf (extractStridedSlice S2x16384x3072 ![0, 3, 0] y slices_S2x16387x3072_S2x16384x3072_0_3_0)
      (tapV (extractStridedSlice S1x3072 ![3, 0] cw slices_S4x3072_S1x3072_3_0)))

/-- The convolved channels times their logistic. -/
def actV (y : FVec Ideal S2x16384x3072 .f32) : FVec Ideal S2x16384x3072 .f32 :=
  mulf y (Host.divf (broadcastInDim S2x16384x3072 ![] bcast_S_S2x16384x3072 (constant S_ .f32 0x3F800000#32))
    (addf (broadcastInDim S2x16384x3072 ![] bcast_S_S2x16384x3072 (constant S_ .f32 0x3F800000#32)) (Host.exp (Host.negf y))))

/-- Heads at unit length. -/
def unitV (r : FVec Ideal S2x16384x8x128 .f32) : FVec Ideal S2x16384x8x128 .f32 :=
  mulf r (broadcastInDim S2x16384x8x128 ![0, 1, 2, 3] bcast_S2x16384x8x1_S2x16384x8x128_0_1_2_3
    (Host.rsqrt (addf (broadcastInDim S2x16384x8x1 ![0, 1, 2] bcast_S2x16384x8_S2x16384x8x1_0_1_2
        (Host.reduceAdd (mulf r r) (constant S_ .f32 0x00000000#32) reducesTo_S2x16384x8x128_S2x16384x8_d3 h_S_))
      (broadcastInDim S2x16384x8x1 ![] bcast_S_S2x16384x8x1 (constant S_ .f32 0x358637BD#32)))))

/-- The queries. -/
def qV (y : FVec Ideal S2x16384x3072 .f32) : FVec Ideal S2x16384x1024 .f32 :=
  shapeCast _ (mulf (unitV (shapeCast _ (extractStridedSlice S2x16384x1024 ![0, 0, 0] y
      slices_S2x16384x3072_S2x16384x1024_0_0_0) shapeCasts_S2x16384x1024_S2x16384x8x128))
    (broadcastInDim S2x16384x8x128 ![] bcast_S_S2x16384x8x128 (constant S_ .f32 0x3DB504F3#32)))
    shapeCasts_S2x16384x8x128_S2x16384x1024

/-- The keys. -/
def kV (y : FVec Ideal S2x16384x3072 .f32) : FVec Ideal S2x16384x1024 .f32 :=
  shapeCast _ (unitV (shapeCast _ (extractStridedSlice S2x16384x1024 ![0, 0, 1024] y
      slices_S2x16384x3072_S2x16384x1024_0_0_1024) shapeCasts_S2x16384x1024_S2x16384x8x128))
    shapeCasts_S2x16384x8x128_S2x16384x1024

/-- The heads' steps before their logarithms and exponentials. -/
def stepV : FVec Ideal S2x16384x8 .f32 :=
  addf (extractStridedSlice S2x16384x8 ![0, 0, 4096] p slices_S2x16384x4112_S2x16384x8_0_0_4096)
    (broadcastInDim S2x16384x8 ![0, 1, 2] bcast_S1x1x8_S2x16384x8_0_1_2 (broadcastInDim S1x1x8 ![2] bcast_S8_S1x1x8_2 dt))

/-- Zeros. -/
def zeroV : FVec Ideal S2x16384x8 .f32 := broadcastInDim S2x16384x8 ![] bcast_S_S2x16384x8 (constant S_ .f32 0x00000000#32)

/-- The logarithm of one plus the exponential. -/
def softplusV (y : FVec Ideal S2x16384x8 .f32) : FVec Ideal S2x16384x8 .f32 :=
  select (cmpf .une (subf y zeroV) (subf y zeroV)) (addf y zeroV)
    (addf (maximumf y zeroV) (Host.log1p (Host.exp (Host.negf (Host.absf (subf y zeroV))))))

/-- The log-decays. -/
def gV : FVec Ideal S2x16384x8 .f32 :=
  mulf (broadcastInDim S2x16384x8 ![0, 1, 2] bcast_S1x1x8_S2x16384x8_0_1_2
    (broadcastInDim S1x1x8 ![2] bcast_S8_S1x1x8_2 (Host.negf (Host.exp al)))) (softplusV (stepV p dt))

/-- The betas. -/
def betaV : FVec Ideal S2x16384x8 .f32 :=
  Host.divf (broadcastInDim S2x16384x8 ![] bcast_S_S2x16384x8 (constant S_ .f32 0x3F800000#32))
    (addf (broadcastInDim S2x16384x8 ![] bcast_S_S2x16384x8 (constant S_ .f32 0x3F800000#32))
      (Host.exp (Host.negf (extractStridedSlice S2x16384x8 ![0, 0, 4104] p slices_S2x16384x4112_S2x16384x8_0_0_4104))))

/-- Sums from the start of each chunk. -/
def cumV (y : FVec Ideal S2x256x64x8 .f32) : FVec Ideal S2x256x64x8 .f32 :=
  Host.reduceWindowAdd ![1, 1, 64, 1] ![1, 1, 1, 1] ![0, 0, 63, 0] ![0, 0, 0, 0] y
    (broadcastInDim S_ ![] bcast_S_S_ (constant S_ .f32 0x00000000#32))
    reduceWindows_S2x256x64x8_S2x256x64x8_w1s1p0_0_w1s1p0_0_w64s1p63_0_w1s1p0_0 h_S_

/-- The summed log-decays and the betas. -/
def gbV (g b : FVec Ideal S2x16384x8 .f32) : FVec Ideal S2x16384x16 .f32 :=
  concatenate S2x16384x16 2 [⟨S2x16384x8, shapeCast _ (cumV (shapeCast _ g shapeCasts_S2x16384x8_S2x256x64x8))
    shapeCasts_S2x256x64x8_S2x16384x8⟩, ⟨S2x16384x8, b⟩] concatenates_S2x16384x8_S2x16384x8_S2x16384x16_d2

end

section

variable (m : (ℓ : Loc nD τ sig) → Buf (Elt Ideal) ℓ) (c : Dev nD)

/-- The arguments' numbers. -/
def args : Arr := arr (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- The projections of the arguments. -/
def projM : FVec Ideal S2x16384x4112 .f32 := projV (m ((c.tc : Thread nD τ).loc main_arg0)) (m ((c.tc : Thread nD τ).loc main_arg1))
  (m ((c.tc : Thread nD τ).loc main_arg2)) (m ((c.tc : Thread nD τ).loc main_arg3))

/-- The channels to convolve, of the arguments. -/
def xpM : FVec Ideal S2x16387x3072 .f32 := xpV (projM m c) (m ((c.tc : Thread nD τ).loc main_arg7))

/-- The convolved channels of the arguments. -/
def actM : FVec Ideal S2x16384x3072 .f32 := actV (convV (m ((c.tc : Thread nD τ).loc main_arg4)) (xpM m c))

/-- The summed log-decays and the betas of the arguments. -/
def gbM : FVec Ideal S2x16384x16 .f32 :=
  gbV (gV (projM m c) (m ((c.tc : Thread nD τ).loc main_arg5)) (m ((c.tc : Thread nD τ).loc main_arg6))) (betaV (projM m c))

theorem q_eq : res_out0 m c = qV (actM m c) := rfl
theorem k_eq : res_out1 m c = kV (actM m c) := rfl
theorem v_eq : res_out2 m c = extractStridedSlice S2x16384x1024 ![0, 0, 2048] (actM m c) slices_S2x16384x3072_S2x16384x1024_0_0_2048 := rfl
theorem gbc_eq : res_out4 m c = pad S2x16384x128 ![0, 0, 0] ![0, 0, 112] ![0, 0, 0] (gbM m c) (id (constant S_ .f32 0x3F000000#32))
  pads_S2x16384x16_S2x16384x128_000_000_01120 h_S_ := rfl
theorem gbr_eq : res_out5 m c = transpose S2x256x16x64 [0, 1, 3, 2] (shapeCast _ (gbM m c) shapeCasts_S2x16384x16_S2x256x64x16)
  transposes_S2x256x64x16_S2x256x16x64_0_1_3_2 := rfl

/-- The normalised tokens at an index. -/
theorem hn_apply (x : FVec Ideal S2x16384x1024 .f32) (md : FVec Ideal S2x6x1024 .f32) (nm : FVec Ideal S1024 .f32)
    (b : Fin 2) (t : Fin 16384) (d : Fin 1024) : hnV x md nm (ix3 b t d) =
    normed (fun e => x (ix3 b t e)) (fun e => nm (ix1 e)) (fun e => md (ix3 b (1 : Fin 6) e)) (fun e => md (ix3 b (0 : Fin 6) e)) d := by
  unfold hnV normed
  pointwise []

theorem proj_apply (b : Fin 2) (t : Fin 16384) (l : Fin 4112) : projM m c (ix3 b t l) = (args m c).proj b t l := by
  have h (x : FVec Ideal S2x16384x1024 .f32) (w : FVec Ideal S1024x4112 .f32) :
      Host.dotGeneral dot_S2x16384x1024_S1024x4112_S2x16384x4112_2_0_01_1_n_n none x w (ix3 b t l) =
        ∑ d : Fin 1024, x (ix3 b t d) * w (ix2 d l) := by
    pointwise []
  unfold projM projV
  rw [h]
  simp only [hn_apply]
  rfl

theorem xp_apply (b : Fin 2) (n : Fin 16387) (l : Fin 3072) : xpM m c (ix3 b n l) = (args m c).xp b n.val l := by
  have h (p : FVec Ideal S2x16384x4112 .f32) (hi : FVec Ideal S2x3x3072 .f32) : xpV p hi (ix3 b n l) =
      if h : n.val < 3 then hi (ix3 b (⟨n.val, h⟩ : Fin 3) l)
      else p (ix3 b (⟨n.val - 3, by omega⟩ : Fin 16384) (l.castLE (by decide) : Fin 4112)) := by
    unfold xpV
    pointwise []
    rfl
  unfold xpM
  rw [h, Arr.xp]
  split_ifs with hn
  · rfl
  · rw [proj_apply]
    congr 1
    exact Fin.ext (Nat.mod_eq_of_lt (by omega)).symm

theorem conv_apply (cw : FVec Ideal S4x3072 .f32) (y : FVec Ideal S2x16387x3072 .f32) (b : Fin 2) (t : Fin 16384) (l : Fin 3072) :
    convV cw y (ix3 b t l) =
      InSpec.conv (fun j => y (ix3 b (⟨t.val + j.val, by omega⟩ : Fin 16387) l)) fun j => cw (ix2 j l) := by
  have h1 (k : ℕ) (h : k + t.val < 16387) (h' : t.val + k < 16387) :
      y (ix3 b (⟨k + t.val, h⟩ : Fin 16387) l) = y (ix3 b (⟨t.val + k, h'⟩ : Fin 16387) l) := by
    simp only [Nat.add_comm]
  unfold convV tapV InSpec.conv
  pointwise []
  rw [h1 1, h1 2, h1 3]

theorem act_apply (b : Fin 2) (t : Fin 16384) (l : Fin 3072) : actM m c (ix3 b t l) = (args m c).act b t l := by
  have h (y : FVec Ideal S2x16384x3072 .f32) : actV y (ix3 b t l) = silu (y (ix3 b t l)) := by
    unfold actV silu sigmoid
    pointwise []
  unfold actM
  rw [h, conv_apply, Arr.act]
  simp only [xp_apply]
  rfl

theorem unit_apply (r : FVec Ideal S2x16384x8x128 .f32) (b : Fin 2) (t : Fin 16384) (h : Fin 8) (d : Fin 128) :
    unitV r (ix4 b t h d) = InSpec.unit (fun e => r (ix4 b t h e)) d := by
  unfold unitV InSpec.unit
  pointwise []

theorem q_apply (b : Fin 2) (t : Fin 16384) (h : Fin 8) (d : Fin 128) :
    res_out0 m c (ix3 b t (⟨128 * h.val + d.val, by omega⟩ : Fin 1024)) = (args m c).q b t h d := by
  have hs (u : FVec Ideal S2x16384x8x128 .f32) : shapeCast S2x16384x1024 (mulf u
      (broadcastInDim S2x16384x8x128 ![] bcast_S_S2x16384x8x128 (constant S_ .f32 0x3DB504F3#32)))
      shapeCasts_S2x16384x8x128_S2x16384x1024 (ix3 b t (⟨128 * h.val + d.val, by omega⟩ : Fin 1024)) =
        u (ix4 b t h d) * word 0x3DB504F3#32 := by
    pointwise []
  have hr (y : FVec Ideal S2x16384x3072 .f32) (e : Fin 128) : shapeCast S2x16384x8x128
      (extractStridedSlice S2x16384x1024 ![0, 0, 0] y slices_S2x16384x3072_S2x16384x1024_0_0_0)
      shapeCasts_S2x16384x1024_S2x16384x8x128 (ix4 b t h e) = y (ix3 b t (⟨128 * h.val + e.val, by omega⟩ : Fin 3072)) := by
    pointwise []
    congr 2
    apply Fin.ext
    show h.val * 128 + e.val = 128 * h.val + e.val
    omega
  rw [q_eq, qV, hs, unit_apply]
  simp only [hr, act_apply]
  rfl

theorem k_apply (b : Fin 2) (t : Fin 16384) (h : Fin 8) (d : Fin 128) :
    res_out1 m c (ix3 b t (⟨128 * h.val + d.val, by omega⟩ : Fin 1024)) = (args m c).k b t h d := by
  have hs (u : FVec Ideal S2x16384x8x128 .f32) : shapeCast S2x16384x1024 u
      shapeCasts_S2x16384x8x128_S2x16384x1024 (ix3 b t (⟨128 * h.val + d.val, by omega⟩ : Fin 1024)) = u (ix4 b t h d) := by
    pointwise []
  have hr (y : FVec Ideal S2x16384x3072 .f32) (e : Fin 128) : shapeCast S2x16384x8x128
      (extractStridedSlice S2x16384x1024 ![0, 0, 1024] y slices_S2x16384x3072_S2x16384x1024_0_0_1024)
      shapeCasts_S2x16384x1024_S2x16384x8x128 (ix4 b t h e) =
        y (ix3 b t (⟨128 * (h.natAdd 8).val + e.val, by simp only [Fin.val_natAdd]; omega⟩ : Fin 3072)) := by
    pointwise []
    congr 2
    apply Fin.ext
    show 1024 + (h.val * 128 + e.val) = 128 * (8 + h.val) + e.val
    omega
  rw [k_eq, kV, hs, unit_apply]
  simp only [hr, act_apply]
  rfl

theorem v_apply (b : Fin 2) (t : Fin 16384) (l : Fin 1024) : res_out2 m c (ix3 b t l) = (args m c).v b t l := by
  rw [v_eq]
  have h (y : FVec Ideal S2x16384x3072 .f32) : extractStridedSlice S2x16384x1024 ![0, 0, 2048] y
      slices_S2x16384x3072_S2x16384x1024_0_0_2048 (ix3 b t l) = y (ix3 b t (⟨2048 + l.val, by omega⟩ : Fin 3072)) := by
    pointwise []
  rw [h, act_apply]
  rfl

theorem z_apply (b : Fin 2) (t : Fin 16384) (l : Fin 1024) : extractStridedSlice S2x16384x1024 ![0, 0, 3072] (projM m c)
      slices_S2x16384x4112_S2x16384x1024_0_0_3072 (ix3 b t l) = (args m c).z b t l := by
  have h (y : FVec Ideal S2x16384x4112 .f32) : extractStridedSlice S2x16384x1024 ![0, 0, 3072] y
      slices_S2x16384x4112_S2x16384x1024_0_0_3072 (ix3 b t l) = y (ix3 b t (⟨3072 + l.val, by omega⟩ : Fin 4112)) := by
    pointwise []
  rw [h, proj_apply]
  rfl

theorem hist_apply (b : Fin 2) (j : Fin 3) (l : Fin 3072) : extractStridedSlice S2x3x3072 ![0, 16384, 0] (xpM m c)
      slices_S2x16387x3072_S2x3x3072_0_16384_0 (ix3 b j l) = (args m c).xp b (16384 + j.val) l := by
  have h (y : FVec Ideal S2x16387x3072 .f32) : extractStridedSlice S2x3x3072 ![0, 16384, 0] y
      slices_S2x16387x3072_S2x3x3072_0_16384_0 (ix3 b j l) = y (ix3 b (⟨16384 + j.val, by omega⟩ : Fin 16387) l) := by
    pointwise []
  rw [h, xp_apply]

theorem g_apply (b : Fin 2) (t : Fin 16384) (h : Fin 8) :
    gV (projM m c) (m ((c.tc : Thread nD τ).loc main_arg5)) (m ((c.tc : Thread nD τ).loc main_arg6)) (ix3 b t h) = (args m c).g b t h := by
  have hs (y : FVec Ideal S2x16384x8 .f32) : softplusV y (ix3 b t h) = softplus (y (ix3 b t h)) := by
    unfold softplusV zeroV softplus
    pointwise []
    rw [if_neg (fun h => h rfl)]
    rfl
  have hp (p : FVec Ideal S2x16384x4112 .f32) (dt : FVec Ideal S8 .f32) : stepV p dt (ix3 b t h) =
      p (ix3 b t (⟨4096 + h.val, by omega⟩ : Fin 4112)) + dt (ix1 h) := by
    unfold stepV
    pointwise []
  have hg (p : FVec Ideal S2x16384x4112 .f32) (al dt : FVec Ideal S8 .f32) : gV p al dt (ix3 b t h) =
      -Ideal.exp (al (ix1 h)) * softplusV (stepV p dt) (ix3 b t h) := by
    unfold gV
    generalize softplusV (stepV p dt) = s
    pointwise []
  rw [hg, hs, hp, proj_apply]
  rfl

theorem beta_apply (b : Fin 2) (t : Fin 16384) (h : Fin 8) : betaV (projM m c) (ix3 b t h) = (args m c).beta b t h := by
  have hb (p : FVec Ideal S2x16384x4112 .f32) : betaV p (ix3 b t h) = sigmoid (p (ix3 b t (⟨4104 + h.val, by omega⟩ : Fin 4112))) := by
    unfold betaV sigmoid
    pointwise []
  rw [hb, proj_apply]
  rfl

/-- A window's sum, as a sum over the window's indices. -/
theorem window_sum {s t : Shape} (window strides lo hi : Fin s.rank → ℕ) (h : s.ReduceWindows window strides lo hi t)
    (x : FVec Ideal s .f32) (v : EReal) (j : t.Idx) :
    FloatOps.hostReduceWindowAdd (F := Ideal) (φ := .f32) window strides lo hi h .single x v j =
      v + ∑ w : (⟨s.rank, window⟩ : Shape).Idx,
        (if hin : ∀ a, lo a ≤ (j (a.cast h.1.symm)).val * strides a + (w a).val ∧
          (j (a.cast h.1.symm)).val * strides a + (w a).val - lo a < s.size a
        then x (fun a => ⟨(j (a.cast h.1.symm)).val * strides a + (w a).val - lo a, (hin a).2⟩) else v) := by
  have hf (N : ℕ) (f : Fin N → EReal) : (List.finRange N).foldl (fun r n => r + f n) v = v + ∑ n, f n := by
    have hl (l : List (Fin N)) (u : EReal) : l.foldl (fun r n => r + f n) u = u + (l.map f).sum := by
      induction l generalizing u with
      | nil => simp only [List.foldl_nil, List.map_nil, List.sum_nil, add_zero]
      | cons a l ih => rw [List.foldl_cons, ih, List.map_cons, List.sum_cons, add_assoc]
    rw [hl, Fin.sum_univ_def]
  let f : (⟨s.rank, window⟩ : Shape).Idx → EReal := fun w =>
    if hin : ∀ a, lo a ≤ (j (a.cast h.1.symm)).val * strides a + (w a).val ∧
      (j (a.cast h.1.symm)).val * strides a + (w a).val - lo a < s.size a
    then x (fun a => ⟨(j (a.cast h.1.symm)).val * strides a + (w a).val - lo a, (hin a).2⟩) else v
  show _ = v + ∑ w, f w
  rw [← Equiv.sum_comp (Shape.rowMajor ⟨s.rank, window⟩).symm f]
  rw [Ideal.hostReduceWindowAdd_def]
  unfold Ideal.hostReduceWindowAdd Host.reduceWindow
  refine Eq.trans ?_ (hf _ (fun n => f ((Shape.rowMajor ⟨s.rank, window⟩).symm n)))
  dsimp only [f]
  congr 1
  funext r n
  congr 1
  congr 1

/-- A chunk's tokens as a window's indices. -/
def along : Fin 64 ≃ (⟨4, ![1, 1, 64, 1]⟩ : Shape).Idx where
  toFun k := ix4 (0 : Fin 1) (0 : Fin 1) k (0 : Fin 1)
  invFun w := w 2
  left_inv _ := rfl
  right_inv w := by
    funext a
    fin_cases a
    · exact Subsingleton.elim (α := Fin 1) _ _
    · exact Subsingleton.elim (α := Fin 1) _ _
    · rfl
    · exact Subsingleton.elim (α := Fin 1) _ _

/-- A window's sum is the sum over the chunk up to a token. -/
theorem cum_apply (y : FVec Ideal S2x256x64x8 .f32) (b : Fin 2) (n : Fin 256) (r : Fin 64) (h : Fin 8) :
    cumV y (ix4 b n r h) = ∑ j : Fin 64, if j.val ≤ r.val then y (ix4 b n j h) else 0 := by
  have hz : broadcastInDim S_ ![] bcast_S_S_ (constant (F := Ideal) S_ .f32 0x00000000#32) (Shape.Idx.first h_S_) = 0 := by
    pointwise []
  unfold cumV Host.reduceWindowAdd
  rw [hz, window_sum, zero_add, ← Equiv.sum_comp along]
  have hk (k : Fin 64) (f : S2x256x64x8.Idx → EReal) (hf : f = y) :
      (if hin : ∀ a : Fin 4, (![0, 0, 63, 0] : Fin 4 → ℕ) a ≤
          (ix4 b n r h (a.cast rfl)).val * (![1, 1, 1, 1] : Fin 4 → ℕ) a + (along k a).val ∧
          (ix4 b n r h (a.cast rfl)).val * (![1, 1, 1, 1] : Fin 4 → ℕ) a + (along k a).val - (![0, 0, 63, 0] : Fin 4 → ℕ) a
            < S2x256x64x8.size a
        then f (fun a => ⟨(ix4 b n r h (a.cast rfl)).val * (![1, 1, 1, 1] : Fin 4 → ℕ) a + (along k a).val -
          (![0, 0, 63, 0] : Fin 4 → ℕ) a, (hin a).2⟩) else 0) =
      if hk : 63 ≤ r.val + k.val then y (ix4 b n (⟨r.val + k.val - 63, by omega⟩ : Fin 64) h) else 0 := by
    by_cases hk : 63 ≤ r.val + k.val
    · rw [dif_pos (fun a => by
        match a with
        | ⟨0, _⟩ => exact ⟨Nat.zero_le _, by show b.val * 1 + 0 - 0 < 2; omega⟩
        | ⟨1, _⟩ => exact ⟨Nat.zero_le _, by show n.val * 1 + 0 - 0 < 256; omega⟩
        | ⟨2, _⟩ => exact ⟨by show 63 ≤ r.val * 1 + k.val; omega, by show r.val * 1 + k.val - 63 < 64; omega⟩
        | ⟨3, _⟩ => exact ⟨Nat.zero_le _, by show h.val * 1 + 0 - 0 < 8; omega⟩), dif_pos hk, hf]
      congr 1
      funext a
      apply Fin.ext
      match a with
      | ⟨0, _⟩ => show b.val * 1 + 0 - 0 = b.val; omega
      | ⟨1, _⟩ => show n.val * 1 + 0 - 0 = n.val; omega
      | ⟨2, _⟩ => show r.val * 1 + k.val - 63 = r.val + k.val - 63; omega
      | ⟨3, _⟩ => show h.val * 1 + 0 - 0 = h.val; omega
    · rw [dif_neg hk, dif_neg]
      intro hin
      have h2 : 63 ≤ r.val * 1 + k.val := (hin 2).1
      omega
  refine (Finset.sum_congr rfl fun k _ => hk k y rfl).trans ?_
  rw [Finset.sum_dite, Finset.sum_const_zero, add_zero, ← Finset.sum_filter]
  refine Finset.sum_bij' (fun k _ => (⟨r.val + k.1.val - 63, by have := k.1.isLt; omega⟩ : Fin 64))
    (fun j hj => ⟨(⟨63 + j.val - r.val, by have := (Finset.mem_filter.mp hj).2; omega⟩ : Fin 64), by
      have := (Finset.mem_filter.mp hj).2
      simp only [Finset.mem_filter, Finset.mem_univ, true_and]
      omega⟩) ?_ ?_ ?_ ?_ ?_
  · intro k _
    simp only [Finset.mem_filter, Finset.mem_univ, true_and]
    omega
  · intro j _
    exact Finset.mem_attach _ _
  · intro k _
    have := (Finset.mem_filter.mp k.2).2
    apply Subtype.ext
    apply Fin.ext
    show 63 + (r.val + k.1.val - 63) - r.val = k.1.val
    omega
  · intro j hj
    have := (Finset.mem_filter.mp hj).2
    apply Fin.ext
    show r.val + (63 + j.val - r.val) - 63 = j.val
    omega
  · intro k _
    rfl

theorem gb_apply (b : Fin 2) (t : Fin 16384) (l : Fin 16) : gbM m c (ix3 b t l) = (args m c).gb b t l := by
  have h (g v : FVec Ideal S2x16384x8 .f32) : gbV g v (ix3 b t l) = if h : l.val < 8 then
      cumV (shapeCast _ g shapeCasts_S2x16384x8_S2x256x64x8) (ix4 b (⟨t.val / 64, by omega⟩ : Fin 256) (⟨t.val % 64, by omega⟩ : Fin 64) (⟨l.val, h⟩ : Fin 8))
      else v (ix3 b t (⟨l.val - 8, by omega⟩ : Fin 8)) := by
    unfold gbV
    generalize cumV (shapeCast _ g shapeCasts_S2x16384x8_S2x256x64x8) = u
    pointwise []
  have hg (g : FVec Ideal S2x16384x8 .f32) (n : Fin 256) (j : Fin 64) (h : Fin 8) :
      shapeCast S2x256x64x8 g shapeCasts_S2x16384x8_S2x256x64x8 (ix4 b n j h) =
        g (ix3 b (⟨n.val * 64 + j.val, by omega⟩ : Fin 16384) h) := by
    pointwise []
  unfold gbM
  rw [h, Arr.gb]
  split_ifs with hl
  · rw [cum_apply, Arr.gcum]
    simp only [hg, g_apply]
  · rw [beta_apply]

theorem gbc_apply (b : Fin 2) (t : Fin 16384) (l : Fin 128) : res_out4 m c (ix3 b t l) =
    if h : l.val < 16 then (args m c).gb b t ⟨l.val, h⟩ else word 0x3F000000#32 := by
  have h (g : FVec Ideal S2x16384x16 .f32) : pad S2x16384x128 ![0, 0, 0] ![0, 0, 112] ![0, 0, 0] g (id (constant S_ .f32 0x3F000000#32))
      pads_S2x16384x16_S2x16384x128_000_000_01120 h_S_ (ix3 b t l) =
      if h : l.val < 16 then g (ix3 b t (⟨l.val, h⟩ : Fin 16)) else word 0x3F000000#32 := by
    pointwise []
    rfl
  rw [gbc_eq, h]
  simp only [gb_apply]

theorem gbr_apply (b : Fin 2) (n : Fin 256) (l : Fin 16) (r : Fin 64) : res_out5 m c (ix4 b n l r) =
    (args m c).gb b (⟨n.val * 64 + r.val, by omega⟩ : Fin 16384) l := by
  have h (g : FVec Ideal S2x16384x16 .f32) : transpose S2x256x16x64 [0, 1, 3, 2] (shapeCast _ g shapeCasts_S2x16384x16_S2x256x64x16)
      transposes_S2x256x64x16_S2x256x16x64_0_1_3_2 (ix4 b n l r) = g (ix3 b (⟨n.val * 64 + r.val, by omega⟩ : Fin 16384) l) := by
    pointwise []
  rw [gbr_eq, h, gb_apply]

end

end Cert.InReference

end
-- ==== Proof.InFinal.lean ====
/- The second call's arrays and its reference's are one: queries, keys, values, gates, packed columns and the history. -/
module

public import proofs.«01_k».proof.Defs
public import proofs.«01_k».proof.Proof.InPoints
public import proofs.«01_k».proof.Proof.InFinite
public import proofs.«01_k».proof.Proof.InReference
public import proofs.«01_k».proof.Proof.Gen.Kernel2Ideal.Value

@[expose] public section

set_option maxRecDepth 16384

noncomputable section

namespace Cert.InFinal

open Idealize.ShloMosaic Idealize.ShloMosaic.TcCoe Idealize.SL.Sem Cert.Kernel2Ideal Cert.Kernel2Ideal.Gen Cert.InBlocks
open Cert.InSpec
open Cert.Kernel2Ideal.Value (G10 G11 G12 G13 G14 G15 G16 stAt0 junk0 outsAt0_sweep)

/-- The grid point of a batch's token. -/
def pointOf (b : Fin 2) (t : Fin 16384) : Fin cfg0.N := ⟨64 * b.val + t.val / 256, lt_of_lt_of_eq (by omega) N_0.symm⟩

/-- A token's place among its point's. -/
def placeOf (t : Fin 16384) : Fin 256 := ⟨t.val % 256, by omega⟩

theorem batch_pointOf (b : Fin 2) (t : Fin 16384) : batch (pointOf b t) = b :=
  Fin.ext (show (64 * b.val + t.val / 256) / 64 = b.val by omega)

theorem tokOf_pointOf (b : Fin 2) (t : Fin 16384) : tokOf (pointOf b t) (placeOf t) = t :=
  Fin.ext (show 256 * ((64 * b.val + t.val / 256) % 64) + t.val % 256 = t.val by omega)

variable (m : (ℓ : Loc nD τ sig) → Buf (Elt Ideal) ℓ) (c : Dev nD)

/-- The point the write-backs name and the point itself leave the same blocks. -/
theorem swept {k : ℕ} (hk : 0 + k < cfg0.N) (t : Fin cfg0.N) (h : k = t.val) :
    Pipeline.accAt (fun n h => stAt0 m c n h junk0) (stAt0 m c) 0 k hk = outsAt0 m c t.val t.isLt := by
  subst h
  exact (outsAt0_sweep m c _ t.isLt).symm

/-- An array of tokens and lanes in blocks of 256 tokens: an index's place in its block. -/
theorem place_ix3 {N : ℕ} (j : (⟨3, ![1, 256, N]⟩ : Shape).Idx) (b : Fin 2) (t : Fin 16384) (l : Fin N)
    (h0 : (j 0).val = b.val % 1) (h1 : (j 1).val = t.val % 256) (h2 : (j 2).val = l.val % N) :
    j = ix3 (0 : Fin 1) (placeOf t) l := by
  funext a
  apply Fin.ext
  match a with
  | ⟨0, _⟩ => exact h0.trans (by show b.val % 1 = 0; omega)
  | ⟨1, _⟩ => exact h1
  | ⟨2, _⟩ => exact h2.trans (Nat.mod_eq_of_lt l.isLt)

variable {m c}

/-- The kernel's queries. -/
theorem q_eq (b : Fin 2) (t : Fin 16384) (h : Fin 8) (d : Fin 128) :
    G10 m c (ix3 b t (⟨128 * h.val + d.val, by omega⟩ : Fin 1024)) = (args m c).q b t h d := by
  have hp : Value.pt10Of (ix3 b t (⟨128 * h.val + d.val, by omega⟩ : Fin 1024)) = (pointOf b t).val := by
    show 64 * (b.val / 1 - 0) + 1 * (t.val / 256 - 0) + 1 * ((128 * h.val + d.val) / 1024 - 0) = 64 * b.val + t.val / 256
    omega
  unfold G10
  rw [dif_pos (by rw [hp]; exact (pointOf b t).isLt), swept m c _ (pointOf b t) hp]
  have hl : Value.loc10Of (ix3 b t (⟨128 * h.val + d.val, by omega⟩ : Fin 1024)) = _ := place_ix3 _ b t _ rfl rfl rfl
  rw [hl]
  refine ((points _ (pointOf b t).isLt).q h (placeOf t) d).trans ?_
  rw [Fin.eta, batch_pointOf, tokOf_pointOf]

/-- The kernel's keys. -/
theorem k_eq (b : Fin 2) (t : Fin 16384) (h : Fin 8) (d : Fin 128) :
    G11 m c (ix3 b t (⟨128 * h.val + d.val, by omega⟩ : Fin 1024)) = (args m c).k b t h d := by
  have hp : Value.pt11Of (ix3 b t (⟨128 * h.val + d.val, by omega⟩ : Fin 1024)) = (pointOf b t).val := by
    show 64 * (b.val / 1 - 0) + 1 * (t.val / 256 - 0) + 1 * ((128 * h.val + d.val) / 1024 - 0) = 64 * b.val + t.val / 256
    omega
  unfold G11
  rw [dif_pos (by rw [hp]; exact (pointOf b t).isLt), swept m c _ (pointOf b t) hp]
  have hl : Value.loc11Of (ix3 b t (⟨128 * h.val + d.val, by omega⟩ : Fin 1024)) = _ := place_ix3 _ b t _ rfl rfl rfl
  rw [hl]
  refine ((points _ (pointOf b t).isLt).k h (placeOf t) d).trans ?_
  rw [Fin.eta, batch_pointOf, tokOf_pointOf]

/-- The kernel's values. -/
theorem v_eq (b : Fin 2) (t : Fin 16384) (l : Fin 1024) : G12 m c (ix3 b t l) = (args m c).v b t l := by
  have hp : Value.pt12Of (ix3 b t l) = (pointOf b t).val := by
    show 64 * (b.val / 1 - 0) + 1 * (t.val / 256 - 0) + 1 * (l.val / 1024 - 0) = 64 * b.val + t.val / 256
    omega
  unfold G12
  rw [dif_pos (by rw [hp]; exact (pointOf b t).isLt), swept m c _ (pointOf b t) hp]
  have hl : Value.loc12Of (ix3 b t l) = _ := place_ix3 _ b t l rfl rfl rfl
  rw [hl]
  refine ((points _ (pointOf b t).isLt).v (placeOf t) l).trans ?_
  rw [Fin.eta, batch_pointOf, tokOf_pointOf]

/-- The kernel's output gates. -/
theorem z_eq (b : Fin 2) (t : Fin 16384) (l : Fin 1024) : G13 m c (ix3 b t l) = (args m c).z b t l := by
  have hp : Value.pt13Of (ix3 b t l) = (pointOf b t).val := by
    show 64 * (b.val / 1 - 0) + 1 * (t.val / 256 - 0) + 1 * (l.val / 1024 - 0) = 64 * b.val + t.val / 256
    omega
  unfold G13
  rw [dif_pos (by rw [hp]; exact (pointOf b t).isLt), swept m c _ (pointOf b t) hp]
  have hl : Value.loc13Of (ix3 b t l) = _ := place_ix3 _ b t l rfl rfl rfl
  rw [hl]
  refine ((points _ (pointOf b t).isLt).z (placeOf t) l).trans ?_
  rw [Fin.eta, batch_pointOf, tokOf_pointOf]

/-- The kernel's packed log-decays and betas, a column each, when its arguments are real. -/
theorem columns_eq (R : (args m c).Real) (b : Fin 2) (t : Fin 16384) (l : Fin 128) : G14 m c (ix3 b t l) =
    if h : l.val < 16 then (args m c).gb b t (⟨l.val, h⟩ : Fin 16) else word 0x3F000000#32 := by
  have hp : Value.pt14Of (ix3 b t l) = (pointOf b t).val := by
    show 64 * (b.val / 1 - 0) + 1 * (t.val / 256 - 0) + 1 * (l.val / 128 - 0) = 64 * b.val + t.val / 256
    omega
  unfold G14
  rw [dif_pos (by rw [hp]; exact (pointOf b t).isLt), swept m c _ (pointOf b t) hp]
  have hl : Value.loc14Of (ix3 b t l) = _ := place_ix3 _ b t l rfl rfl rfl
  rw [hl]
  refine ((points _ (pointOf b t).isLt).columns R (placeOf t) l).trans ?_
  rw [Fin.eta, batch_pointOf, tokOf_pointOf]

/-- The kernel's packed log-decays and betas, a row of 64 tokens each, when its arguments are real. -/
theorem rows_eq (R : (args m c).Real) (b : Fin 2) (n : Fin 256) (l : Fin 16) (r : Fin 64) : G15 m c (ix4 b n l r) =
    (args m c).gb b (⟨n.val * 64 + r.val, by omega⟩ : Fin 16384) l := by
  have hp : Value.pt15Of (ix4 b n l r) = (pointOf b (⟨n.val * 64 + r.val, by omega⟩ : Fin 16384)).val := by
    show 64 * (b.val / 1 - 0) + 1 * (n.val / 4 - 0) + 1 * (l.val / 16 - 0) + 1 * (r.val / 64 - 0) =
      64 * b.val + (n.val * 64 + r.val) / 256
    omega
  unfold G15
  rw [dif_pos (by rw [hp]; exact (pointOf b _).isLt), swept m c _ (pointOf b _) hp]
  have hl : Value.loc15Of (ix4 b n l r) = ix4 (0 : Fin 1) (⟨n.val % 4, by omega⟩ : Fin 4) l r := by
    funext a
    apply Fin.ext
    match a with
    | ⟨0, _⟩ => show b.val % 1 = 0; omega
    | ⟨1, _⟩ => show n.val % 4 = n.val % 4; rfl
    | ⟨2, _⟩ => show l.val % 16 = l.val; omega
    | ⟨3, _⟩ => show r.val % 64 = r.val; omega
  rw [hl]
  refine ((points _ (pointOf b _).isLt).rows R (⟨n.val % 4, by omega⟩ : Fin 4) l r).trans ?_
  have ht : (⟨64 * (n.val % 4) + r.val, by omega⟩ : Fin 256) = placeOf (⟨n.val * 64 + r.val, by omega⟩ : Fin 16384) :=
    Fin.ext (show 64 * (n.val % 4) + r.val = (n.val * 64 + r.val) % 256 by omega)
  rw [Fin.eta, batch_pointOf]
  show (args m c).gb b (tokOf _ (⟨64 * (n.val % 4) + r.val, by omega⟩ : Fin 256)) l = _
  rw [ht, tokOf_pointOf]

/-- The kernel's last three channels before the convolution. -/
theorem hist_eq (b : Fin 2) (j : Fin 3) (l : Fin 3072) : G16 m c (ix3 b j l) = (args m c).xp b (16384 + j.val) l := by
  have hp : Value.pt16Of (ix3 b j l) = (pointOf b (⟨16383, by decide⟩ : Fin 16384)).val := by
    show 64 * (1 * (b.val / 1 - 0) + 1 * (j.val / 3 - 0) + 1 * (l.val / 3072 - 0)) + 63 = 64 * b.val + 16383 / 256
    omega
  unfold G16
  rw [dif_pos (by rw [hp]; exact (pointOf b _).isLt), swept m c _ (pointOf b _) hp]
  have hl : Value.loc16Of (ix3 b j l) = ix3 (0 : Fin 1) j l := by
    funext a
    apply Fin.ext
    match a with
    | ⟨0, _⟩ => show b.val % 1 = 0; omega
    | ⟨1, _⟩ => show j.val % 3 = j.val; omega
    | ⟨2, _⟩ => show l.val % 3072 = l.val; omega
  rw [hl]
  refine ((points _ (pointOf b _).isLt).hist j l).trans ?_
  have ht : first (pointOf b (⟨16383, by decide⟩ : Fin 16384)) + 256 = 16384 := by
    show 256 * ((64 * b.val + 16383 / 256) % 64) + 256 = 16384
    omega
  rw [Fin.eta, batch_pointOf, ht]

end Cert.InFinal

end
-- ==== Proof.MoeRun.lean ====
/- One block of the expert layer: what the body leaves when the block's expert is new, and when it is the last block's. -/
module

public import proofs.«01_k».proof.Proof.Gen.Kernel3.Launch
public import proofs.«01_k».proof.Proof.Gen.Kernel3.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3 Cert.Kernel3.Gen

variable {F : FTy → Type} [FloatOps F]

/-- What a core's assertions speak of. -/
abbrev World (F : FTy → Type) [FloatOps F] : Type := MT nD τ sig Unit (Elt F) ℕ (UR sig nD τ) ℕ

/-- The table of the blocks' experts, as the body is handed it. -/
abbrev experts : Memref sig .tc .smem S544 .i32 := Memref.whole main_arg1

/-- The contents of the table on a core. -/
abbrev Table (F : FTy → Type) (c : Dev nD) {S : Shape} {e : EltTy} (M : Memref sig .tc .smem S e) : Type :=
  Buf (Elt F) (M.view.loc (c : Thread nD τ))

/-- The body's half of the table, at contents `f`. -/
abbrev half (c : Dev nD) {S : Shape} {e : EltTy} (M : Memref sig .tc .smem S e) (f : Table F c M) : sProp (World F) :=
  M.view.loc (c : Thread nD τ) ↦{fullShare.right} f

/-- The expert of the block before (of the first block, for the first). -/
abbrev before (c : Dev nD) (i : grid0.Coords) (f : Table F c experts) : BitVec 32 :=
  experts.view.readAt (Elt F) (Rect.unit (s := S544) (k0_off2 i) S1.size (k0_off2_inb i)).toLoadRect f
    (Shape.Idx.first (numel1_S1.symm ▸ Nat.one_pos))

/-- The block's expert. -/
abbrev here (c : Dev nD) (i : grid0.Coords) (f : Table F c experts) : BitVec 32 :=
  experts.view.readAt (Elt F) (Rect.unit (s := S544) (k0_off1 i) S1.size (k0_off1_inb i)).toLoadRect f
    (Shape.Idx.first (numel1_S1.symm ▸ Nat.one_pos))

/-- The body's test for fetching the expert's weights: the first block, or another expert than the last block's. -/
abbrev Fresh (c : Dev nD) (i : grid0.Coords) (f : Table F c experts) : Prop :=
  Scalar.cmpi .ne (Scalar.extui (Scalar.ori (Scalar.cmpi .eq (BitVec.ofNat 32 (i 0).val) 0#32)
    (Scalar.cmpi .ne (here c i f) (before c i f)))) 0#32 = 1#1

/-- Equal arguments give equal values, for three. -/
theorem congrArg₃ {A B C D : Type} (g : A → B → C → D) {a a' : A} {b b' : B} {c c' : C} (ha : a = a') (hb : b = b')
    (hc : c = c') : g a b c = g a' b' c' := by
  rw [ha, hb, hc]

section

variable (c : Dev nD) (i : grid0.Coords)
    (arg2 : Memref sig .tc .vmem S128x1024 .f32) (harg2 : arg2.IsWhole)
    (arg3 : Memref sig .tc .vmem S1x1024x512 .f32) (harg3 : arg3.IsWhole)
    (arg4 : Memref sig .tc .vmem S1x1024x512 .f32) (harg4 : arg4.IsWhole)
    (arg5 : Memref sig .tc .vmem S1x512x1024 .f32) (harg5 : arg5.IsWhole)
    (arg6 : Memref sig .tc .vmem S128x1024 .f32) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S512x1024 .bf16) (harg9 : arg9.IsWhole)
    (x : Vec F S128x1024 .f32) (a b : Vec F S1x1024x512 .f32) (d : Vec F S1x512x1024 .f32) (f : Table F c experts)

/-- The staged inputs and the table, which the body only reads. -/
abbrev Reads : sProp (World F) :=
  iprop(owns (c : Thread nD τ) arg2 fullShare x ∗ owns (c : Thread nD τ) arg3 fullShare a
    ∗ owns (c : Thread nD τ) arg4 fullShare b ∗ owns (c : Thread nD τ) arg5 fullShare d ∗ half c experts f)

/-- The output block and the three scratches of weights at given contents. -/
abbrev Holds (o : Vec F S128x1024 .f32) (p q : Vec F S1024x512 .bf16) (r : Vec F S512x1024 .bf16) : sProp (World F) :=
  iprop(owns (c : Thread nD τ) arg6 fullShare o ∗ owns (c : Thread nD τ) arg7 fullShare p
    ∗ owns (c : Thread nD τ) arg8 fullShare q ∗ owns (c : Thread nD τ) arg9 fullShare r)

set_option maxHeartbeats 1200000 in
/-- A block whose expert is the last block's uses the weights the scratches hold. -/
theorem run_keep (h : ¬Fresh c i f) (p q : Vec F S1024x512 .bf16) (r : Vec F S512x1024 .bf16) (E : Set ℕ)
    (K : PUnit → sProp (World F)) :
    iprop(Reads c arg2 arg3 arg4 arg5 x a b d f ∗ (∃ o, Holds c arg6 arg7 arg8 arg9 o p q r)
        ∗ (iprop(Reads c arg2 arg3 arg4 arg5 x a b d f ∗ Holds c arg6 arg7 arg8 arg9 (k0_pay4 x p q r) p q r) -∗ K ⟨⟩))
      ⊢ wp frame (wpE (defs₀ (F := F)) Variants.none c none) E
          (cc0_moe_blocks i experts (Memref.isWhole_whole _) arg2 harg2 arg3 harg3 arg4 harg4 arg5 harg5 arg6 harg6
            arg7 harg7 arg8 harg8 arg9 harg9) K := by
  simp only [cc0_moe_blocks_eq_skeleton]
  unfold cc0_moe_blocks_skel Reads Holds owns
  iintro ⟨⟨⟨%f2, %h2, H2⟩, ⟨%f3, %h3, H3⟩, ⟨%f4, %h4, H4⟩, ⟨%f5, %h5, H5⟩, HT⟩,
    ⟨%o, ⟨%f6, -, H6⟩, ⟨%f7, %h7, H7⟩, ⟨%f8, %h8, H8⟩, ⟨%f9, %h9, H9⟩⟩, Hk⟩
  obtain rfl := harg2.eq_unread h2; obtain rfl := harg3.eq_unread h3; obtain rfl := harg4.eq_unread h4
  obtain rfl := harg5.eq_unread h5; obtain rfl := harg7.eq_unread h7; obtain rfl := harg8.eq_unread h8
  obtain rfl := harg9.eq_unread h9
  sl_exec (disch := sl_exact h)
  sl_step
  iapply Hk
  isplitl [H2 H3 H4 H5 HT]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HT
  isplitl [H6]
  · iexists _; isplitr
    swap; · iexact H6
    ipureintro
    refine (View.read_writes_full _ _ _ _ _).trans ?_
    rw [View.readAt_full, View.readAt_full, View.readAt_full, View.readAt_full]
    rw [h2, h7, h8, h9]
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 1200000 in
/-- A block with a new expert fetches the expert's weights into the scratches and uses those. -/
theorem run_load (h : Fresh c i f) (E : Set ℕ) (K : PUnit → sProp (World F)) :
    iprop(Reads c arg2 arg3 arg4 arg5 x a b d f ∗ (∃ o p q r, Holds c arg6 arg7 arg8 arg9 o p q r)
        ∗ (iprop(Reads c arg2 arg3 arg4 arg5 x a b d f
          ∗ Holds c arg6 arg7 arg8 arg9 (k0_pay4 x (k0_pay1 a) (k0_pay2 b) (k0_pay3 d)) (k0_pay1 a) (k0_pay2 b)
            (k0_pay3 d)) -∗ K ⟨⟩))
      ⊢ wp frame (wpE (defs₀ (F := F)) Variants.none c none) E
          (cc0_moe_blocks i experts (Memref.isWhole_whole _) arg2 harg2 arg3 harg3 arg4 harg4 arg5 harg5 arg6 harg6
            arg7 harg7 arg8 harg8 arg9 harg9) K := by
  simp only [cc0_moe_blocks_eq_skeleton]
  unfold cc0_moe_blocks_skel Reads Holds owns
  iintro ⟨⟨⟨%f2, %h2, H2⟩, ⟨%f3, %h3, H3⟩, ⟨%f4, %h4, H4⟩, ⟨%f5, %h5, H5⟩, HT⟩,
    ⟨%o, %p, %q, %r, ⟨%f6, -, H6⟩, ⟨%f7, -, H7⟩, ⟨%f8, -, H8⟩, ⟨%f9, -, H9⟩⟩, Hk⟩
  obtain rfl := harg2.eq_unread h2; obtain rfl := harg3.eq_unread h3; obtain rfl := harg4.eq_unread h4
  obtain rfl := harg5.eq_unread h5
  sl_exec (disch := sl_exact h)
  sl_step
  iapply Hk
  isplitl [H2 H3 H4 H5 HT]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexact HT
  isplitl [H6]
  · iexists _; isplitr
    swap; · iexact H6
    ipureintro
    refine (View.read_writes_full _ _ _ _ _).trans ?_
    have e2 : ∀ g, arg2.view.readAt (Elt F) (Rect.unit ![0, 0] S128x1024.size inb_S128x1024_S128x1024_0_0).toLoadRect g
        = arg2.view.read (Elt F) g := fun g => View.readAt_full _ _ _
    rw [e2, h2]
    refine congrArg₃ (k0_pay4 x) ?_ ?_ ?_
    · refine (View.readCov_full _ _ _ _ _).trans (congrArg k0_pay1 ((View.readAt_full _ _ _).trans h3))
    · refine (View.readCov_full _ _ _ _ _).trans (congrArg k0_pay2 ((View.readAt_full _ _ _).trans h4))
    · refine (View.readCov_full _ _ _ _ _).trans (congrArg k0_pay3 ((View.readAt_full _ _ _).trans h5))
  isplitl [H7]
  · iexists _; isplitr
    swap; · iexact H7
    ipureintro
    exact (View.read_writes_full _ _ _ _ _).trans (congrArg k0_pay1 ((View.readAt_full _ _ _).trans h3))
  isplitl [H8]
  · iexists _; isplitr
    swap; · iexact H8
    ipureintro
    exact (View.read_writes_full _ _ _ _ _).trans (congrArg k0_pay2 ((View.readAt_full _ _ _).trans h4))
  iexists _; isplitr
  swap; · iexact H9
  ipureintro
  exact (View.read_writes_full _ _ _ _ _).trans (congrArg k0_pay3 ((View.readAt_full _ _ _).trans h5))

end

end Cert.Moe

end
-- ==== Proof.MoeFrame.lean ====
/- The expert layer's call: its run under a table of experts that lie in range, and what it leaves. -/
module

public import proofs.«01_k».proof.Proof.MoeRun
public import Idealize.ShloMosaic.Lib.Pipeline.Kit
public import Idealize.ShloMosaic.Lib.Pipeline.Value
public import Idealize.ShloMosaic.Lib.Pointwise

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel3 Cert.Kernel3.Gen

variable {F : FTy → Type} [FloatOps F]

variable (m : (ℓ : Loc nD τ sig) → Buf (Elt F) ℓ) (ρ : Dev nD → PrngReg)

/-! ## What the region finds -/

/-- A core's arrays as the region finds them: as launched, for nothing runs before it. -/
abbrev V (c : Dev nD) (b : Ref sig .tc) : Buf (Elt F) ((c : Thread nD τ).loc b) := m ((c : Thread nD τ).loc b)

theorem host (𝒱 : Variants) : Pipeline.HMainP (Ix := Unit) (Name := ℕ) (U := UR sig nD τ) (Lvl := ℕ) pcfgs 0 defs₀ 𝒱 m
    (main (F := F)) (V m) :=
  Pipeline.hmainP_region pcfgs 0 defs₀ 𝒱 m main fun c => (main_chain c).trans rfl

/-- The table's contents. -/
def table : pre0.Contents (Elt F) := fun j => V m (0 : Dev nD) (pre0.ref j)

theorem table_eq (c : Dev nD) (j : Fin 1) : V m c (pre0.ref j) = table m j := by
  obtain rfl : c = 0 := Subsingleton.elim _ _
  rfl

/-- The expert of a block. -/
def word (n : Fin 544) : BitVec 32 := m (((0 : Dev nD) : Thread nD τ).loc main_arg1) (ix1 n)

/-- Every block the table asks for lies inside its array. -/
abbrev Ok : Prop := ok0 (F := F) (table m)

theorem entry (off : Fin 1 → ℕ) (inb : ∀ a, off a + S1.size a ≤ S544.size a) (n : Fin 544) (h : off = ![n.val]) :
    (table m).at 0 (Rect.unit (s := S544) off S1.size inb) numel1_S1 = word m n := by
  subst h
  refine congrArg (m (((0 : Dev nD) : Thread nD τ).loc main_arg1)) ?_
  funext a
  apply Fin.ext
  match a with
  | ⟨0, _⟩ => exact (Nat.add_zero _ : n.val + 1 * 0 = n.val)

theorem entry_read (c : Dev nD) (off : Fin 1 → ℕ) (inb : ∀ a, off a + S1.size a ≤ S544.size a) (n : Fin 544)
    (h : off = ![n.val]) :
    experts.view.readAt (Elt F) (Rect.unit (s := S544) off S1.size inb).toLoadRect (table m 0)
      (Shape.Idx.first (numel1_S1.symm ▸ Nat.one_pos)) = word m n := by
  subst h
  refine congrArg (m (((0 : Dev nD) : Thread nD τ).loc main_arg1)) ?_
  funext a
  apply Fin.ext
  match a with
  | ⟨0, _⟩ => exact (Nat.add_zero _ : n.val + 1 * 0 = n.val)

/-- The offset of the entry the body compares with: the point before's, and the first's for the first. -/
theorem off2_eq (i : grid0.Coords) : k0_off2 i = ![(i 0).val - 1] := by
  have hi : (i 0).val < 544 := (i 0).isLt
  have h0 : Affine.IsInt (BitVec.ofNat 32 (i 0).val) ((i 0).val : Int) := Affine.ofNat _ (by omega)
  have h1 : Affine.IsInt 1#32 1 := Affine.ofNat _ (by omega)
  have h2 : Affine.IsInt _ (((i 0).val : Int) - 1) := Affine.subi h0 h1 (by omega)
  have h3 : Affine.IsInt 0#32 0 := Affine.ofNat _ (by omega)
  have h4 : Affine.IsInt _ (max (((i 0).val : Int) - 1) 0) := Affine.maxsi h2 h3 (by omega)
  exact Affine.vec_cons (Affine.indexCast h4) (by omega) <| Affine.vec_nil

section

variable (hO : Ok m)

abbrev adm : (pcfg0 (F := F)).Adm := ⟨table m, hO⟩
abbrev cfgM : Pipeline.Cfg sig Λ₀ := cfg0 (adm m hO)

theorem lt_points (t : Fin (cfgM m hO).N) : t.val < 544 := lt_of_lt_of_eq t.isLt N_0

/-- The number of a point. -/
def num (t : Fin (cfgM m hO).N) : Fin 544 := ⟨t.val, lt_points m hO t⟩

theorem coords_eq (t : Fin (cfgM m hO).N) : (grid0.coords t 0).val = t.val := by
  have h := lt_points m hO t
  rw [Pipeline.Grid.coords_val (G := grid0) t 0 (S := 1) (B := 544) (by decide) rfl]
  omega

/-- A point's block of each window. -/
def blockAt (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev rows (c : Dev nD) (t : Fin (cfgM m hO).N) : Vec F S128x1024 .f32 := blockAt m hO c 0 t
abbrev gate (c : Dev nD) (t : Fin (cfgM m hO).N) : Vec F S1x1024x512 .f32 := blockAt m hO c 1 t
abbrev up (c : Dev nD) (t : Fin (cfgM m hO).N) : Vec F S1x1024x512 .f32 := blockAt m hO c 2 t
abbrev down (c : Dev nD) (t : Fin (cfgM m hO).N) : Vec F S1x512x1024 .f32 := blockAt m hO c 3 t

theorem here_eq (c : Dev nD) (t : Fin (cfgM m hO).N) : here c (grid0.coords t) (table m 0) = word m (num m hO t) :=
  entry_read m c _ _ _ ((k0_off1_eq _).trans (by rw [coords_eq m hO]; rfl))

theorem before_eq (c : Dev nD) (t : Fin (cfgM m hO).N) (n : Fin 544) (h : n.val = t.val - 1) :
    before c (grid0.coords t) (table m 0) = word m n :=
  entry_read m c _ _ _ ((off2_eq _).trans (by rw [coords_eq m hO, h]))

theorem index1 (t : Fin (cfgM m hO).N) : ((cfgM m hO).win 1).index t = ![(word m (num m hO t)).toNat, 0, 0] := by
  exact congrArg (fun w : BitVec 32 => (![w.toNat, 0, 0] : Fin 3 → ℕ))
    (entry m _ (k0_off1_inb (grid0.coords t)) (num m hO t) ((k0_off1_eq (grid0.coords t)).trans (by rw [coords_eq m hO]; rfl)))

theorem index2 (t : Fin (cfgM m hO).N) : ((cfgM m hO).win 2).index t = ![(word m (num m hO t)).toNat, 0, 0] := by
  exact congrArg (fun w : BitVec 32 => (![w.toNat, 0, 0] : Fin 3 → ℕ))
    (entry m _ (k0_off1_inb (grid0.coords t)) (num m hO t) ((k0_off1_eq (grid0.coords t)).trans (by rw [coords_eq m hO]; rfl)))

theorem index3 (t : Fin (cfgM m hO).N) : ((cfgM m hO).win 3).index t = ![(word m (num m hO t)).toNat, 0, 0] := by
  exact congrArg (fun w : BitVec 32 => (![w.toNat, 0, 0] : Fin 3 → ℕ))
    (entry m _ (k0_off1_inb (grid0.coords t)) (num m hO t) ((k0_off1_eq (grid0.coords t)).trans (by rw [coords_eq m hO]; rfl)))

/-- Points with one expert find the same weights in their windows. -/
theorem same_gate (c : Dev nD) (t t' : Fin (cfgM m hO).N) (h : word m (num m hO t) = word m (num m hO t')) :
    gate m hO c t = gate m hO c t' := by
  funext y
  refine congrArg (V m c main_arg2) (funext fun a => Fin.ext ?_)
  show ((cfgM m hO).win 1).index t a * _ + 1 * (y a).val = ((cfgM m hO).win 1).index t' a * _ + 1 * (y a).val
  rw [index1, index1, h]

theorem same_up (c : Dev nD) (t t' : Fin (cfgM m hO).N) (h : word m (num m hO t) = word m (num m hO t')) :
    up m hO c t = up m hO c t' := by
  funext y
  refine congrArg (V m c main_arg3) (funext fun a => Fin.ext ?_)
  show ((cfgM m hO).win 2).index t a * _ + 1 * (y a).val = ((cfgM m hO).win 2).index t' a * _ + 1 * (y a).val
  rw [index2, index2, h]

theorem same_down (c : Dev nD) (t t' : Fin (cfgM m hO).N) (h : word m (num m hO t) = word m (num m hO t')) :
    down m hO c t = down m hO c t' := by
  funext y
  refine congrArg (V m c main_arg4) (funext fun a => Fin.ext ?_)
  show ((cfgM m hO).win 3).index t a * _ + 1 * (y a).val = ((cfgM m hO).win 3).index t' a * _ + 1 * (y a).val
  rw [index3, index3, h]

/-- A block whose weights are not fetched anew comes after one with the same expert. -/
theorem of_not_fresh (p : BitVec 1) (x y : BitVec 32)
    (h : ¬Scalar.cmpi .ne (Scalar.extui (Scalar.ori p (Scalar.cmpi .ne x y)) : BitVec 32) 0#32 = 1#1) :
    p ≠ 1#1 ∧ x = y := by
  by_cases hxy : x = y
  · refine ⟨fun hp => h ?_, hxy⟩
    subst hp hxy
    have e : Scalar.cmpi .ne x x = 0#1 := by simp [Scalar.cmpi, IntOp.cmpi]
    rw [e]
    decide
  · refine absurd ?_ h
    have hb : (x != y) = true := by simpa using hxy
    have e : Scalar.cmpi .ne x y = 1#1 := congrArg BitVec.ofBool hb
    rw [e]
    clear h e hb hxy
    revert p
    decide

theorem kept (c : Dev nD) (t : Fin (cfgM m hO).N) (h : ¬Fresh c (grid0.coords t) (table m 0)) :
    ∃ n, ∃ hn : n + 1 = t.val, word m (num m hO t) = word m (num m hO ⟨n, by have := t.isLt; omega⟩) := by
  obtain ⟨h0, h1⟩ := of_not_fresh (Scalar.cmpi .eq (BitVec.ofNat 32 (grid0.coords t 0).val) 0#32)
    (here c (grid0.coords t) (table m 0)) (before c (grid0.coords t) (table m 0)) h
  have hlt := lt_points m hO t
  have hz : t.val ≠ 0 := by
    intro hz
    refine h0 ?_
    rw [coords_eq m hO, hz]
    decide
  refine ⟨t.val - 1, by omega, ?_⟩
  exact (here_eq m hO c t).symm.trans (h1.trans (before_eq m hO c t _ rfl))

/-! ## The pipeline's data -/

abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

theorem PhiT_eq (c : Dev nD) : (Pipeline.ΦT pre0 (table m) c : sProp (World F)) = iprop(half c experts (table m 0)) := by
  unfold Pipeline.ΦT Pipeline.prefHeld
  rw [show (Finset.univ : Finset (Fin 1)) = {(0 : Fin 1)} from by decide, bigSep_singleton]
  rfl

theorem PhiA_eq (c : Dev nD) : (Pipeline.ΦA spec0 c : sProp (World F))
    = iprop(iprop((∃ d, owns (c : Thread nD τ) sc0 fullShare d) ∗ (∃ d, owns (c : Thread nD τ) sc1 fullShare d)
      ∗ (∃ d, owns (c : Thread nD τ) sc2 fullShare d)) ∗ (∃ r, prngReg c r)) := by
  unfold Pipeline.ΦA
  rw [scopedRest0_eq]
  simp only [owns_whole]
  rfl

/-- The invariant: after a point the scratches hold the weights of its expert. -/
def Inv (c : Dev nD) : (n : ℕ) → n ≤ (cfgM m hO).N → sProp (World F)
  | 0, _ => iprop(Pipeline.ΦA spec0 c ∗ Pipeline.ΦT pre0 (table m) c)
  | n + 1, hn => iprop(iprop(iprop(owns (c : Thread nD τ) sc0 fullShare (k0_pay1 (gate m hO c ⟨n, hn⟩))
      ∗ owns (c : Thread nD τ) sc1 fullShare (k0_pay2 (up m hO c ⟨n, hn⟩))
      ∗ owns (c : Thread nD τ) sc2 fullShare (k0_pay3 (down m hO c ⟨n, hn⟩)))
      ∗ (∃ r, prngReg c r)) ∗ Pipeline.ΦT pre0 (table m) c)

/-- What the scratches hold may be forgotten. -/
theorem Inv_forget (c : Dev nD) (n : ℕ) (h : n ≤ (cfgM m hO).N) :
    Inv m hO c n h ⊢ iprop(Pipeline.ΦA spec0 c ∗ Pipeline.ΦT pre0 (table m) c) := by
  cases n with
  | zero => exact Idealize.SL.BI.Entails.refl _
  | succ n =>
    unfold Inv
    rw [PhiA_eq]
    iintro ⟨⟨⟨H0, H1, H2⟩, Hg⟩, HT⟩
    isplitr [HT]
    · isplitr [Hg]
      · isplitl [H0]
        · iexists _; iexact H0
        isplitl [H1]
        · iexists _; iexact H1
        iexists _; iexact H2
      iexact Hg
    iexact HT

/-- A point's block of the result. -/
abbrev made (c : Dev nD) (t : Fin (cfgM m hO).N) : Vec F S128x1024 .f32 :=
  k0_pay4 (rows m hO c t) (k0_pay1 (gate m hO c t)) (k0_pay2 (up m hO c t)) (k0_pay3 (down m hO c t))

def dats (_ : Fin 1) (c : Dev nD) : Dat τ (Elt F) Unit ℕ (UR sig nD τ) ℕ (cfgM m hO) c where
  A w := V m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => made m hO c t
  Φ t := Inv m hO c t.val (Nat.le_of_lt_succ t.isLt)
  q _ := fullShare
  owed _ := 0

theorem A_eq (c : Dev nD) (w : Fin (cfgM m hO).W) : (dats m hO 0 c).A w = V m c (Pipeline.arrRef spec0 w) := by
  dsimp only [dats]

theorem Phi_start (c : Dev nD) (t : Fin (cfgM m hO).N) :
    (dats m hO 0 c).Φ t.castSucc = Inv m hO c t.val (Nat.le_of_lt t.isLt) := by
  dsimp only [dats]
  exact Pipeline.Dat.Φ_castSucc (Inv m hO c) t

theorem after0 (c : Dev nD) (t : Fin (cfgM m hO).N) : (dats m hO 0 c).after 0 t = blockAt m hO c 0 t := by dsimp only [dats]; try rfl
theorem after1 (c : Dev nD) (t : Fin (cfgM m hO).N) : (dats m hO 0 c).after 1 t = blockAt m hO c 1 t := by dsimp only [dats]; try rfl
theorem after2 (c : Dev nD) (t : Fin (cfgM m hO).N) : (dats m hO 0 c).after 2 t = blockAt m hO c 2 t := by dsimp only [dats]; try rfl
theorem after3 (c : Dev nD) (t : Fin (cfgM m hO).N) : (dats m hO 0 c).after 3 t = blockAt m hO c 3 t := by dsimp only [dats]; try rfl
theorem after4 (c : Dev nD) (t : Fin (cfgM m hO).N) : (dats m hO 0 c).after 4 t = made m hO c t := by dsimp only [dats]; try rfl

/-- An input's staging buffer holds the point's block, whether it was fetched there or at an earlier point. -/
theorem staged0 (c : Dev nD) (t : Fin (cfgM m hO).N) (d) : (dats m hO 0 c).before 0 t d = blockAt m hO c 0 t :=
  ((dats m hO 0 c).before_in_eq_fetched 0 rfl (fun _ => rfl) (fun _ _ _ => rfl)
    (fun t => by rw [after0]; unfold Dat.blockOf blockAt; rw [A_eq]; try rfl) t d).trans
    (by unfold Dat.fetched Dat.blockOf blockAt; rw [A_eq]; try rfl)
theorem staged1 (c : Dev nD) (t : Fin (cfgM m hO).N) (d) : (dats m hO 0 c).before 1 t d = blockAt m hO c 1 t :=
  ((dats m hO 0 c).before_in_eq_fetched 1 rfl (fun _ => rfl) (fun _ _ _ => rfl)
    (fun t => by rw [after1]; unfold Dat.blockOf blockAt; rw [A_eq]; try rfl) t d).trans
    (by unfold Dat.fetched Dat.blockOf blockAt; rw [A_eq]; try rfl)
theorem staged2 (c : Dev nD) (t : Fin (cfgM m hO).N) (d) : (dats m hO 0 c).before 2 t d = blockAt m hO c 2 t :=
  ((dats m hO 0 c).before_in_eq_fetched 2 rfl (fun _ => rfl) (fun _ _ _ => rfl)
    (fun t => by rw [after2]; unfold Dat.blockOf blockAt; rw [A_eq]; try rfl) t d).trans
    (by unfold Dat.fetched Dat.blockOf blockAt; rw [A_eq]; try rfl)
theorem staged3 (c : Dev nD) (t : Fin (cfgM m hO).N) (d) : (dats m hO 0 c).before 3 t d = blockAt m hO c 3 t :=
  ((dats m hO 0 c).before_in_eq_fetched 3 rfl (fun _ => rfl) (fun _ _ _ => rfl)
    (fun t => by rw [after3]; unfold Dat.blockOf blockAt; rw [A_eq]; try rfl) t d).trans
    (by unfold Dat.fetched Dat.blockOf blockAt; rw [A_eq]; try rfl)

/-! ## The body at a point -/

abbrev st0 (t : Fin (cfgM m hO).N) : Memref sig .tc .vmem S128x1024 .f32 := spec0_0.stage ((cfgM m hO).slots t 0)
abbrev st1 (t : Fin (cfgM m hO).N) : Memref sig .tc .vmem S1x1024x512 .f32 := spec0_1.stage ((cfgM m hO).slots t 1)
abbrev st2 (t : Fin (cfgM m hO).N) : Memref sig .tc .vmem S1x1024x512 .f32 := spec0_2.stage ((cfgM m hO).slots t 2)
abbrev st3 (t : Fin (cfgM m hO).N) : Memref sig .tc .vmem S1x512x1024 .f32 := spec0_3.stage ((cfgM m hO).slots t 3)
abbrev st4 (t : Fin (cfgM m hO).N) : Memref sig .tc .vmem S128x1024 .f32 := spec0_4.stage ((cfgM m hO).slots t 4)

/-- The body at a point's staging buffers. -/
abbrev bodyAt (t : Fin (cfgM m hO).N) : Prog (TpuEff nD τ sig (Elt F) Λ₀ .tc) PUnit :=
  cc0_moe_blocks (grid0.coords t) experts (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4))
    sc0 (Memref.isWhole_whole _) sc1 (Memref.isWhole_whole _) sc2 (Memref.isWhole_whole _)

theorem defs_row (t : Fin (cfgM m hO).N) :
    defs₀ (F := F) .tc (cfgM m hO).body ((cfgM m hO).bodyArgs t ((cfgM m hO).slots t)) = bodyAt m hO t := by
  unfold defs₀
  rw [Defs.onTc_tc]

def bodyPre (c : Dev nD) (t : Fin (cfgM m hO).N) : sProp (World F) :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

def bodyPost (c : Dev nD) (t : Fin (cfgM m hO).N) : sProp (World F) :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t))

theorem Inv_succ (c : Dev nD) (n : ℕ) (hn : n < (cfgM m hO).N) :
    Inv m hO c (n + 1) hn = iprop(iprop(iprop(owns (c : Thread nD τ) sc0 fullShare (k0_pay1 (gate m hO c ⟨n, hn⟩))
      ∗ owns (c : Thread nD τ) sc1 fullShare (k0_pay2 (up m hO c ⟨n, hn⟩))
      ∗ owns (c : Thread nD τ) sc2 fullShare (k0_pay3 (down m hO c ⟨n, hn⟩)))
      ∗ (∃ r, prngReg c r)) ∗ Pipeline.ΦT pre0 (table m) c) := rfl

/-- The invariant before a point that keeps the weights: they are already this point's. -/
theorem Inv_kept (c : Dev nD) (t : Fin (cfgM m hO).N) (h : ¬Fresh c (grid0.coords t) (table m 0)) :
    Inv m hO c t.val (Nat.le_of_lt t.isLt)
      = iprop(iprop(iprop(owns (c : Thread nD τ) sc0 fullShare (k0_pay1 (gate m hO c t))
      ∗ owns (c : Thread nD τ) sc1 fullShare (k0_pay2 (up m hO c t))
      ∗ owns (c : Thread nD τ) sc2 fullShare (k0_pay3 (down m hO c t)))
      ∗ (∃ r, prngReg c r)) ∗ Pipeline.ΦT pre0 (table m) c) := by
  obtain ⟨n, hn, e⟩ := kept m hO c t h
  rw [same_gate m hO c _ _ e, same_up m hO c _ _ e, same_down m hO c _ _ e]
  obtain ⟨v, hv⟩ := t
  dsimp only at hn
  subst hn
  rfl

set_option maxHeartbeats 3200000 in
theorem sound_body (c : Dev nD) (t : Fin (cfgM m hO).N) :
    bodyPre m hO c t ⊢ wp frame (wpE (defs₀ (F := F)) Variants.none c none) Set.univ (bodyAt m hO t)
      (fun _ => bodyPost m hO c t) := by
  unfold bodyPre bodyPost bodyAt
  simp only [staged0, staged1, staged2, staged3]
  rw [show (dats m hO 0 c).owesAt () t.succ = (dats m hO 0 c).owesAt () t.castSucc from rfl,
    after0, after1, after2, after3, after4]
  rw [show (dats m hO 0 c).Φ t.succ = Inv m hO c (t.val + 1) t.isLt from rfl, Inv_succ, PhiT_eq, Phi_start]
  by_cases hf : Fresh c (grid0.coords t) (table m 0)
  · refine (sep_mono_left (Inv_forget m hO c t.val (Nat.le_of_lt t.isLt))).trans ?_
    rw [PhiA_eq, PhiT_eq]
    iintro ⟨⟨⟨⟨⟨%p, HS0⟩, ⟨%q, HS1⟩, ⟨%r, HS2⟩⟩, Hg⟩, HT⟩, Ho, ⟨%d0, H0⟩, ⟨%d1, H1⟩, ⟨%d2, H2⟩, ⟨%d3, H3⟩, ⟨%d4, H4⟩⟩
    iapply (run_load c (grid0.coords t) _ _ _ _ _ _ _ _ _ _ _ _ _ _ _ _ (rows m hO c t) (gate m hO c t) (up m hO c t)
      (down m hO c t) (table m 0) hf Set.univ _)
    unfold Reads Holds
    isplitl [H0 H1 H2 H3 HT]
    · isplitl [H0]; · iexact H0
      isplitl [H1]; · iexact H1
      isplitl [H2]; · iexact H2
      isplitl [H3]; · iexact H3
      iexact HT
    isplitl [H4 HS0 HS1 HS2]
    · iexists _; iexists _; iexists _; iexists _
      isplitl [H4]; · iexact H4
      isplitl [HS0]; · iexact HS0
      isplitl [HS1]; · iexact HS1
      iexact HS2
    iintro ⟨⟨H0, H1, H2, H3, HT⟩, H4, HS0, HS1, HS2⟩
    isplitl [HS0 HS1 HS2 Hg HT]
    · isplitl [HS0 HS1 HS2 Hg]
      · isplitl [HS0 HS1 HS2]
        · isplitl [HS0]; · iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    iexact H4
  · rw [Inv_kept m hO c t hf, PhiT_eq]
    iintro ⟨⟨⟨⟨HS0, HS1, HS2⟩, Hg⟩, HT⟩, Ho, ⟨%d0, H0⟩, ⟨%d1, H1⟩, ⟨%d2, H2⟩, ⟨%d3, H3⟩, ⟨%d4, H4⟩⟩
    iapply (run_keep c (grid0.coords t) _ _ _ _ _ _ _ _ _ _ _ _ _ _ _ _ (rows m hO c t) (gate m hO c t) (up m hO c t)
      (down m hO c t) (table m 0) hf (k0_pay1 (gate m hO c t)) (k0_pay2 (up m hO c t)) (k0_pay3 (down m hO c t))
      Set.univ _)
    unfold Reads Holds
    isplitl [H0 H1 H2 H3 HT]
    · isplitl [H0]; · iexact H0
      isplitl [H1]; · iexact H1
      isplitl [H2]; · iexact H2
      isplitl [H3]; · iexact H3
      iexact HT
    isplitl [H4 HS0 HS1 HS2]
    · iexists _
      isplitl [H4]; · iexact H4
      isplitl [HS0]; · iexact HS0
      isplitl [HS1]; · iexact HS1
      iexact HS2
    iintro ⟨⟨H0, H1, H2, H3, HT⟩, H4, HS0, HS1, HS2⟩
    isplitl [HS0 HS1 HS2 Hg HT]
    · isplitl [HS0 HS1 HS2 Hg]
      · isplitl [HS0 HS1 HS2]
        · isplitl [HS0]; · iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    iexact H4

theorem obligation (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

theorem hin (c : Dev nD) : iprop(Pipeline.ΦA spec0 c ∗ Pipeline.ΦT pre0 (table m) c) ⊢ (dats m hO 0 c).Φ 0 :=
  Idealize.SL.BI.Entails.refl _

theorem hout (c : Dev nD) : (dats m hO 0 c).Φ (Fin.last (cfgM m hO).N) ⊢ Pipeline.ΦA spec0 c := by
  refine (Inv_forget m hO c (Fin.last (cfgM m hO).N).val (Nat.le_of_lt_succ (Fin.last (cfgM m hO).N).isLt)).trans ?_
  iintro ⟨H, -⟩
  iexact H

-- the launch theorem's implicit arguments are found by unfolding definitions in their types
set_option backward.isDefEq.respectTransparency.types false in
/-- The call runs to its end; every array of its windows is then as computed point by point, every other as found. -/
theorem run : θ_run defs (onTc (τ := τ) (main (F := F))) ⟨m, fun _ => 0, ρ⟩ (fun r =>
    (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := host m Variants.none) (hA := A_eq m hO) (hpf := table_eq m)
    (hin := hin m hO) (hout := hout m hO)

include hO in
/-- The arguments end as they were. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m hO 0 c).arrAt_in 0 rfl _).trans (A_eq m hO c 0)),
    (h.1 c).2 main_arg1 (by decide : main_arg1 ∈ Pipeline.restRefs sig spec0),
    ((h.1 c).1 1).trans (((dats m hO 0 c).arrAt_in 1 rfl _).trans (A_eq m hO c 1)),
    ((h.1 c).1 2).trans (((dats m hO 0 c).arrAt_in 2 rfl _).trans (A_eq m hO c 2)),
    ((h.1 c).1 3).trans (((dats m hO 0 c).arrAt_in 3 rfl _).trans (A_eq m hO c 3))⟩, h.2⟩) (run m ρ hO)

end

end Cert.Moe

end
-- ==== Proof.MoeMath.lean ====
/- What one expert does to one row, and that the call's body does it to every row of its block. -/
module

public import proofs.«01_k».proof.Proof.Gen.Kernel3.Skeleton
public import proofs.«01_k».proof.Proof.InSpec
public import Idealize.ShloMosaic.Lib.Pointwise

@[expose] public section

set_option maxRecDepth 16384

noncomputable section

namespace Cert.Moe

open Idealize.ShloMosaic Cert.Kernel3 Cert.Kernel3.Gen Cert.InSpec

/-- A row of a block, by its number among the rows of all blocks. -/
abbrev rowOf (n : Fin 544) (r : Fin 128) : Fin 69632 := ⟨n.val * 128 + r.val, by omega⟩

/-- A row's gated channel: the first projection through its logistic, times the second projection. -/
def channel (x : Fin 1024 → EReal) (a b : Fin 1024 → Fin 512 → EReal) (k : Fin 512) : EReal :=
  silu (∑ d : Fin 1024, x d * a d k) * ∑ d : Fin 1024, x d * b d k

/-- A row through an expert: its gated channels, projected back. -/
def expert (x : Fin 1024 → EReal) (a b : Fin 1024 → Fin 512 → EReal) (p : Fin 512 → Fin 1024 → EReal) (j : Fin 1024) : EReal :=
  ∑ k : Fin 512, channel x a b k * p k j

theorem pay1_apply (w : Vec Ideal S1x1024x512 .f32) (d : Fin 1024) (k : Fin 512) :
    k0_pay1 (F := Ideal) w (ix2 d k) = w (ix3 (0 : Fin 1) d k) := by
  unfold k0_pay1
  pointwise []

theorem pay2_apply (w : Vec Ideal S1x1024x512 .f32) (d : Fin 1024) (k : Fin 512) :
    k0_pay2 (F := Ideal) w (ix2 d k) = w (ix3 (0 : Fin 1) d k) := by
  unfold k0_pay2
  pointwise []

theorem pay3_apply (w : Vec Ideal S1x512x1024 .f32) (k : Fin 512) (j : Fin 1024) :
    k0_pay3 (F := Ideal) w (ix2 k j) = w (ix3 (0 : Fin 1) k j) := by
  unfold k0_pay3
  pointwise []

/-- The body's block, row by row. -/
theorem pay4_apply (x : Vec Ideal S128x1024 .f32) (a b : Vec Ideal S1024x512 .bf16) (p : Vec Ideal S512x1024 .bf16)
    (r : Fin 128) (j : Fin 1024) : k0_pay4 (F := Ideal) x a b p (ix2 r j) =
      expert (fun d => x (ix2 r d)) (fun d k => a (ix2 d k)) (fun d k => b (ix2 d k)) (fun k j => p (ix2 k j)) j := by
  unfold k0_pay4 expert channel silu sigmoid
  pointwise []
  simp only [zero_sub]

end Cert.Moe

end
-- ==== Proof.MoeValue.lean ====
/- What the expert layer's call leaves in its result, at real arithmetic. -/
module

public import proofs.«01_k».proof.Proof.MoeFrame
public import proofs.«01_k».proof.Proof.MoeMath

@[expose] public section

set_option maxRecDepth 16384

noncomputable section

namespace Cert.Moe

open Idealize.ShloMosaic Idealize.ShloMosaic.TcCoe Idealize.SL.Sem
open Cert.Kernel3 Cert.Kernel3.Gen

section

variable {F : FTy → Type} [FloatOps F] (m : (ℓ : Loc nD τ sig) → Buf (Elt F) ℓ)

/-- A table of numbers below 32 asks only for blocks inside the arrays. -/
theorem ok_of_lt (h : ∀ n, (word m n).toNat < 32) : Ok m := by
  have at1 (i : grid0.Coords) : (table m).at 0 (Rect.unit (s := S544) (k0_off1 i) S1.size (k0_off1_inb i)) numel1_S1
      = word m ⟨(i 0).val, (i 0).isLt⟩ := entry m _ (k0_off1_inb i) ⟨(i 0).val, (i 0).isLt⟩ (k0_off1_eq i)
  have e1 (i : grid0.Coords) : cc0_transform_1 k0_off1_inb numel1_S1 (table m) i = ![(word m ⟨(i 0).val, (i 0).isLt⟩).toNat, 0, 0] :=
    congrArg (fun w : BitVec 32 => (![w.toNat, 0, 0] : Fin 3 → ℕ)) (at1 i)
  have e2 (i : grid0.Coords) : cc0_transform_2 k0_off1_inb numel1_S1 (table m) i = ![(word m ⟨(i 0).val, (i 0).isLt⟩).toNat, 0, 0] :=
    congrArg (fun w : BitVec 32 => (![w.toNat, 0, 0] : Fin 3 → ℕ)) (at1 i)
  have e3 (i : grid0.Coords) : cc0_transform_3 k0_off1_inb numel1_S1 (table m) i = ![(word m ⟨(i 0).val, (i 0).isLt⟩).toNat, 0, 0] :=
    congrArg (fun w : BitVec 32 => (![w.toNat, 0, 0] : Fin 3 → ℕ)) (at1 i)
  refine ⟨fun i => ⟨fun a => ?_, .inl rfl⟩, fun i => ⟨fun a => ?_, .inl rfl⟩, fun i => ⟨fun a => ?_, .inl rfl⟩⟩
  · have := h ⟨(i 0).val, (i 0).isLt⟩
    rw [e1]
    match a with
    | ⟨0, _⟩ => show ((word m _).toNat + 1) * 1 ≤ 32; omega
    | ⟨1, _⟩ => show (0 + 1) * 1024 ≤ 1024; omega
    | ⟨2, _⟩ => show (0 + 1) * 512 ≤ 512; omega
  · have := h ⟨(i 0).val, (i 0).isLt⟩
    rw [e2]
    match a with
    | ⟨0, _⟩ => show ((word m _).toNat + 1) * 1 ≤ 32; omega
    | ⟨1, _⟩ => show (0 + 1) * 1024 ≤ 1024; omega
    | ⟨2, _⟩ => show (0 + 1) * 512 ≤ 512; omega
  · have := h ⟨(i 0).val, (i 0).isLt⟩
    rw [e3]
    match a with
    | ⟨0, _⟩ => show ((word m _).toNat + 1) * 1 ≤ 32; omega
    | ⟨1, _⟩ => show (0 + 1) * 512 ≤ 512; omega
    | ⟨2, _⟩ => show (0 + 1) * 1024 ≤ 1024; omega

end

variable (m : (ℓ : Loc nD τ sig) → Buf (Elt Ideal) ℓ) (hO : Ok m)

/-! ## The blocks of a point -/

theorem number_word (n : ℕ) (h : n < 544) : (BitVec.ofNat 32 n).toNat = n := by
  rw [BitVec.toNat_ofNat]
  omega

theorem index0 (t : Fin (cfgM m hO).N) : ((cfgM m hO).win 0).index t = ![t.val, 0] := by
  show (![(BitVec.ofNat 32 (grid0.coords t 0).val).toNat, 0] : Fin 2 → ℕ) = _
  rw [coords_eq m hO, number_word _ (lt_points m hO t)]

theorem index4 (t : Fin (cfgM m hO).N) : ((cfgM m hO).win 4).index t = ![t.val, 0] := by
  show (![(BitVec.ofNat 32 (grid0.coords t 0).val).toNat, 0] : Fin 2 → ℕ) = _
  rw [coords_eq m hO, number_word _ (lt_points m hO t)]

variable (c : Dev nD) (t : Fin (cfgM m hO).N)

theorem rows_apply (r : Fin 128) (d : Fin 1024) :
    rows m hO c t (ix2 r d) = m ((c : Thread nD τ).loc main_arg0) (ix2 (rowOf (num m hO t) r) d) := by
  refine congrArg (m ((c : Thread nD τ).loc main_arg0)) (funext fun a => Fin.ext ?_)
  show ((cfgM m hO).win 0).index t a * _ + 1 * (ix2 r d a).val = _
  rw [index0]
  match a with
  | ⟨0, _⟩ => show t.val * 128 + 1 * r.val = t.val * 128 + r.val; omega
  | ⟨1, _⟩ => show 0 * 1024 + 1 * d.val = d.val; omega

section

variable (e : Fin 32) (he : (word m (num m hO t)).toNat = e.val)

include he

theorem gate_apply (d : Fin 1024) (k : Fin 512) :
    gate m hO c t (ix3 (0 : Fin 1) d k) = m ((c : Thread nD τ).loc main_arg2) (ix3 e d k) := by
  refine congrArg (m ((c : Thread nD τ).loc main_arg2)) (funext fun a => Fin.ext ?_)
  show ((cfgM m hO).win 1).index t a * _ + 1 * (ix3 (0 : Fin 1) d k a).val = _
  rw [index1, he]
  match a with
  | ⟨0, _⟩ => show e.val * 1 + 1 * 0 = e.val; omega
  | ⟨1, _⟩ => show 0 * 1024 + 1 * d.val = d.val; omega
  | ⟨2, _⟩ => show 0 * 512 + 1 * k.val = k.val; omega

theorem up_apply (d : Fin 1024) (k : Fin 512) :
    up m hO c t (ix3 (0 : Fin 1) d k) = m ((c : Thread nD τ).loc main_arg3) (ix3 e d k) := by
  refine congrArg (m ((c : Thread nD τ).loc main_arg3)) (funext fun a => Fin.ext ?_)
  show ((cfgM m hO).win 2).index t a * _ + 1 * (ix3 (0 : Fin 1) d k a).val = _
  rw [index2, he]
  match a with
  | ⟨0, _⟩ => show e.val * 1 + 1 * 0 = e.val; omega
  | ⟨1, _⟩ => show 0 * 1024 + 1 * d.val = d.val; omega
  | ⟨2, _⟩ => show 0 * 512 + 1 * k.val = k.val; omega

theorem down_apply (k : Fin 512) (j : Fin 1024) :
    down m hO c t (ix3 (0 : Fin 1) k j) = m ((c : Thread nD τ).loc main_arg4) (ix3 e k j) := by
  refine congrArg (m ((c : Thread nD τ).loc main_arg4)) (funext fun a => Fin.ext ?_)
  show ((cfgM m hO).win 3).index t a * _ + 1 * (ix3 (0 : Fin 1) k j a).val = _
  rw [index3, he]
  match a with
  | ⟨0, _⟩ => show e.val * 1 + 1 * 0 = e.val; omega
  | ⟨1, _⟩ => show 0 * 512 + 1 * k.val = k.val; omega
  | ⟨2, _⟩ => show 0 * 1024 + 1 * j.val = j.val; omega

/-- What a point makes: its rows through its expert. -/
theorem made_apply (r : Fin 128) (j : Fin 1024) : made m hO c t (ix2 r j) =
    expert (fun d => m ((c : Thread nD τ).loc main_arg0) (ix2 (rowOf (num m hO t) r) d))
      (fun d k => m ((c : Thread nD τ).loc main_arg2) (ix3 e d k))
      (fun d k => m ((c : Thread nD τ).loc main_arg3) (ix3 e d k))
      (fun k j => m ((c : Thread nD τ).loc main_arg4) (ix3 e k j)) j := by
  refine (pay4_apply _ _ _ _ r j).trans ?_
  simp only [pay1_apply, pay2_apply, pay3_apply, rows_apply m hO c t, gate_apply m hO c t e he, up_apply m hO c t e he,
    down_apply m hO c t e he]

end

/-! ## The result -/

theorem index4_inj (t t' : Fin (cfgM m hO).N) (h : ((cfgM m hO).win 4).index t = ((cfgM m hO).win 4).index t') : t = t' := by
  rw [index4, index4] at h
  exact Fin.ext (congrFun h 0)

theorem flush4 : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr
    (Nat.mod_one _) : ∀ t : Fin grid0.N, Pipeline.Window.flushOf grid0 true cc0_transform_4 t = true) t

/-- The result's array after the last point. -/
def final (c : Dev nD) : FVec Ideal S69632x1024 .f32 := (dats m hO 0 c).arrAt 4 (cfgM m hO).N

theorem final_block (r : Fin 128) (j : Fin 1024) : final m hO c (ix2 (rowOf (num m hO t) r) j) = made m hO c t (ix2 r j) := by
  have h := (dats m hO 0 c).arrAt_emb_eq_flushed 4
    (fun t t' _ _ hne => ((cfgM m hO).win 4).disjoint_blk fun h => hne (index4_inj m hO t t' h)) t
    (flush4 m hO t) (ix2 r j)
  have hl : (((cfgM m hO).win 4).blk t).view.emb (ix2 r j) = (ix2 (rowOf (num m hO t) r) j : S69632x1024.Idx) := by
    refine funext fun a => Fin.ext ?_
    show ((cfgM m hO).win 4).index t a * _ + 1 * (ix2 r j a).val = _
    rw [index4]
    match a with
    | ⟨0, _⟩ => show t.val * 128 + 1 * r.val = t.val * 128 + r.val; omega
    | ⟨1, _⟩ => show 0 * 1024 + 1 * j.val = j.val; omega
  rw [hl] at h
  refine h.trans ((cast_eq _ _).trans ?_)
  show ((cfgM m hO).win 4).cut (grid0.coords t) ((dats m hO 0 c).after 4 t) _ = _
  rw [after4]
  rfl

/-- A row of the result: the row through its block's expert. -/
theorem final_apply (n : Fin 544) (e : Fin 32) (he : (word m n).toNat = e.val) (r : Fin 128) (j : Fin 1024) :
    final m hO c (ix2 (rowOf n r) j) =
    expert (fun d => m ((c : Thread nD τ).loc main_arg0) (ix2 (rowOf n r) d))
      (fun d k => m ((c : Thread nD τ).loc main_arg2) (ix3 e d k))
      (fun d k => m ((c : Thread nD τ).loc main_arg3) (ix3 e d k))
      (fun k j => m ((c : Thread nD τ).loc main_arg4) (ix3 e k j)) j := by
  have hN : n.val < (cfgM m hO).N := lt_of_lt_of_eq n.isLt N_0.symm
  have := final_block m hO c ⟨n.val, hN⟩ r j
  exact this.trans (made_apply m hO c ⟨n.val, hN⟩ e he r j)

/-- The call runs to its end, with that result and its arguments as they were. -/
theorem value (ρ : Dev nD → PrngReg) : θ_run defs (onTc (τ := τ) (main (F := Ideal))) ⟨m, fun _ => 0, ρ⟩ (fun r => ∀ c : Dev nD,
      r.2.mem ((c.tc : Thread nD τ).loc main_v0) = final m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4,
    ((h.1 c).1 0).trans (((dats m hO 0 c).arrAt_in 0 rfl _).trans (A_eq m hO c 0)),
    (h.1 c).2 main_arg1 (by decide : main_arg1 ∈ Pipeline.restRefs sig spec0),
    ((h.1 c).1 1).trans (((dats m hO 0 c).arrAt_in 1 rfl _).trans (A_eq m hO c 1)),
    ((h.1 c).1 2).trans (((dats m hO 0 c).arrAt_in 2 rfl _).trans (A_eq m hO c 2)),
    ((h.1 c).1 3).trans (((dats m hO 0 c).arrAt_in 3 rfl _).trans (A_eq m hO c 3))⟩) (run m ρ hO)

end Cert.Moe

end
-- ==== Proof.MoeReference.lean ====
/- What the reference program of the expert layer computes, at one index. -/
module

public import proofs.«01_k».proof.Proof.Gen.Reference3Ideal.Run
public import proofs.«01_k».proof.Proof.MoeMath

@[expose] public section

set_option maxRecDepth 16384

noncomputable section

namespace Cert.MoeReference

open Cert.Reference3Ideal Cert.Reference3Ideal.Gen Cert.InSpec Cert.Moe
open Idealize.ShloMosaic Idealize.ShloMosaic.StableHlo Idealize.SL.Sem

/-! ## A matrix per block, taken from a stack -/

section

variable {α : Type} {a b : ℕ}

/-- Of a stack of 32 matrices, the ones a column of 544 numbers names. -/
def stack (a b : ℕ) (wf : GatherDims.WF ⟨3, ![32, a, b]⟩ ⟨2, ![544, 1]⟩ ⟨3, ![544, a, b]⟩ [1, 2] [0] [] [0] [] 1 ![1, a, b]) :
    GatherDims ⟨3, ![32, a, b]⟩ ⟨2, ![544, 1]⟩ ⟨3, ![544, a, b]⟩ where
  offsetDims := [1, 2]
  collapsedSliceDims := [0]
  operandBatchingDims := []
  startIndicesBatchingDims := []
  startIndexMap := [0]
  indexVectorDim := 1
  sliceSizes := ![1, a, b]
  wf := wf

/-- The matrix of a block is the one whose number its entry holds, if there is one. -/
theorem stack_apply (wf : GatherDims.WF ⟨3, ![32, a, b]⟩ ⟨2, ![544, 1]⟩ ⟨3, ![544, a, b]⟩ [1, 2] [0] [] [0] [] 1 ![1, a, b])
    (x : (⟨3, ![32, a, b]⟩ : Shape).Idx → α) (idx : IVec ⟨2, ![544, 1]⟩ 32) (n : Fin 544) (i : Fin a) (j : Fin b)
    (e : Fin 32) (he : (idx (ix2 n (0 : Fin 1))).toInt.toNat = e.val) :
    Host.gather (stack a b wf) x idx (ix3 n i j) = x (ix3 e i j) := by
  refine congrArg x (funext fun c => Fin.ext ?_)
  show (stack a b wf).start (ix3 n i j) idx c + (stack a b wf).batchCoord (ix3 n i j) c
    + (stack a b wf).offCoord (ix3 n i j) c = _
  rw [GatherDims.batchCoord_eq_zero _ _ _ (fun h => List.not_mem_nil h), Nat.add_zero]
  have named (c : Fin 3) : c ∈ (stack a b wf).startIndexMap ↔ c = 0 := List.mem_singleton
  have axes : c = 0 ∨ c = 1 ∨ c = 2 := by
    match c with
    | ⟨0, _⟩ => exact .inl rfl
    | ⟨1, _⟩ => exact .inr (.inl rfl)
    | ⟨2, _⟩ => exact .inr (.inr rfl)
  rcases axes with rfl | rfl | rfl
  · rw [GatherDims.offCoord_eq_zero _ _ _ fun h => ((GatherDims.mem_sKept _ _).mp h).1 (List.mem_singleton.mpr rfl)]
    unfold GatherDims.start
    rw [dif_pos ((named 0).mpr rfl)]
    have hat : (stack a b wf).siIdx (ix3 n i j) ⟨List.idxOf (0 : Fin 3) (stack a b wf).startIndexMap,
        List.idxOf_lt_length_iff.2 ((named 0).mpr rfl)⟩ = ix2 n (0 : Fin 1) := by
      funext c
      match c with
      | ⟨0, _⟩ => rfl
      | ⟨1, _⟩ => rfl
    show min (idx _).toInt.toNat 31 + 0 = e.val
    have := e.isLt
    rw [hat, he]
    omega
  · unfold GatherDims.start
    rw [dif_neg fun h => absurd ((named 1).mp h) (by decide)]
    exact Nat.zero_add _
  · unfold GatherDims.start
    rw [dif_neg fun h => absurd ((named 2).mp h) (by decide)]
    exact Nat.zero_add _

end

section

variable (x : FVec Ideal S69632x1024 .f32) (t : IVec S544 32) (p q : FVec Ideal S32x1024x512 .f32)
    (o : FVec Ideal S32x512x1024 .f32)

/-- The table with a negative entry counted from the end, as a column. -/
def colV : IVec S544x1 32 :=
  broadcastInDim S544x1 ![0] bcast_S544_S544x1_0
    (select (cmpi .slt t (broadcastInDim S544 ![] bcast_S_S544 (constantI S_ 32 0#32)))
      (addi t (broadcastInDim S544 ![] bcast_S_S544 (constantI S_ 32 32#32))) t)

/-- The rows of each block against its expert's matrix. -/
def projV (w : FVec Ideal S32x1024x512 .f32) : FVec Ideal S544x128x512 .f32 :=
  Host.dotGeneral dot_S544x128x1024_S544x1024x512_S544x128x512_2_1_1_2_0_0 none
    (shapeCast S544x128x1024 x shapeCasts_S69632x1024_S544x128x1024)
    (Host.gather gather_S32x1024x512_S544x1_S544x1024x512_12_0_n_n_0_1_11024512 w (colV t))

/-- The gated channels. -/
def hidV : FVec Ideal S544x128x512 .f32 :=
  mulf (mulf (projV x t p) (Host.divf (broadcastInDim S544x128x512 ![] bcast_S_S544x128x512 (constant S_ .f32 0x3F800000#32))
    (addf (broadcastInDim S544x128x512 ![] bcast_S_S544x128x512 (constant S_ .f32 0x3F800000#32))
      (Host.exp (Host.negf (projV x t p)))))) (projV x t q)

/-- The result. -/
def outV : FVec Ideal S69632x1024 .f32 :=
  shapeCast _ (Host.dotGeneral dot_S544x128x512_S544x512x1024_S544x128x1024_2_1_1_2_0_0 none
    (hidV x t p q) (Host.gather gather_S32x512x1024_S544x1_S544x512x1024_12_0_n_n_0_1_15121024 o (colV t)))
    shapeCasts_S544x128x1024_S69632x1024

/-- A number from 0 up is its own column entry. -/
theorem colV_apply (n : Fin 544) (h : ¬(t (ix1 n)).slt 0#32 = true) : colV t (ix2 n (0 : Fin 1)) = t (ix1 n) := by
  have e : IntOp.cmpi .slt (t (ix1 n)) 0#32 = 0#1 := congrArg BitVec.ofBool (Bool.eq_false_iff.mpr h)
  unfold colV
  pointwise []
  rw [e]
  rfl

variable (n : Fin 544) (e : Fin 32) (hn : ¬(t (ix1 n)).slt 0#32 = true) (he : (t (ix1 n)).toInt.toNat = e.val)

include hn he

theorem take_apply (w : FVec Ideal S32x1024x512 .f32) (d : Fin 1024) (k : Fin 512) :
    Host.gather gather_S32x1024x512_S544x1_S544x1024x512_12_0_n_n_0_1_11024512 w (colV t) (ix3 n d k) = w (ix3 e d k) :=
  stack_apply gather_S32x1024x512_S544x1_S544x1024x512_12_0_n_n_0_1_11024512.wf w (colV t) n d k e
    (by rw [colV_apply t n hn, he])

theorem take_back_apply (k : Fin 512) (j : Fin 1024) :
    Host.gather gather_S32x512x1024_S544x1_S544x512x1024_12_0_n_n_0_1_15121024 o (colV t) (ix3 n k j) = o (ix3 e k j) :=
  stack_apply gather_S32x512x1024_S544x1_S544x512x1024_12_0_n_n_0_1_15121024.wf o (colV t) n k j e
    (by rw [colV_apply t n hn, he])

theorem projV_apply (w : FVec Ideal S32x1024x512 .f32) (r : Fin 128) (k : Fin 512) : projV x t w (ix3 n r k) =
    ∑ d : Fin 1024, x (ix2 (rowOf n r) d) * w (ix3 e d k) := by
  unfold projV
  pointwise []
  refine Finset.sum_congr rfl fun d _ => ?_
  rw [take_apply t n e hn he]

theorem hidV_apply (r : Fin 128) (k : Fin 512) : hidV x t p q (ix3 n r k) =
    channel (fun d => x (ix2 (rowOf n r) d)) (fun d k => p (ix3 e d k))
      (fun d k => q (ix3 e d k)) k := by
  unfold hidV channel silu sigmoid
  pointwise []
  rw [projV_apply x t n e hn he p, projV_apply x t n e hn he q]

/-- A row of a block goes through the block's expert. -/
theorem outV_apply (r : Fin 128) (j : Fin 1024) : outV x t p q o (ix2 (rowOf n r) j) =
    expert (fun d => x (ix2 (rowOf n r) d)) (fun d k => p (ix3 e d k))
      (fun d k => q (ix3 e d k)) (fun k j => o (ix3 e k j)) j := by
  have e0 (h : (n.val * 128 + r.val) / 128 < 544) : (⟨(n.val * 128 + r.val) / 128, h⟩ : Fin 544) = n := Fin.ext (by simp only; omega)
  have e1 (h : (n.val * 128 + r.val) % 128 < 128) : (⟨(n.val * 128 + r.val) % 128, h⟩ : Fin 128) = r := Fin.ext (by simp only; omega)
  unfold outV expert
  pointwise []
  simp only [e0, e1]
  exact Finset.sum_congr rfl fun k _ => by rw [hidV_apply x t p q n e hn he, take_back_apply t o n e hn he]

end

end Cert.MoeReference

end
-- ==== Proof.MoeFinal.lean ====
/- The expert layer's call under its precondition: it runs, at real arithmetic too, and its result is the reference's. -/
module

public import proofs.«01_k».proof.Defs
public import proofs.«01_k».proof.Proof.MoeValue
public import proofs.«01_k».proof.Proof.MoeReference
public import proofs.«01_k».proof.Proof.Gen.Kernel3Ideal
public import proofs.«01_k».proof.Proof.Gen.Pre_routed
public import Idealize.ShloMosaic.Lib.ReduceAll

@[expose] public section

set_option maxRecDepth 16384

noncomputable section

namespace Cert.MoeFinal

open Idealize.ShloMosaic Idealize.ShloMosaic.TcCoe Idealize.ShloMosaic.StableHlo Idealize.SL.Sem Cert.Moe

/-! ## What the precondition says -/

/-- A number of an expert: not negative, and below 32, read either way. -/
structure IsExpert (w : BitVec 32) : Prop where
  nonneg : ¬w.slt 0#32 = true
  lt : w.toNat < 32
  signed : w.toInt.toNat = w.toNat

theorem of_bit {b : Bool} (h : BitVec.ofBool b = 1#1) : b = true := by
  revert h
  cases b <;> decide

theorem isExpert_of_compares {w : BitVec 32}
    (h : IntOp.andi (IntOp.cmpi .sge w 0#32) (IntOp.cmpi .slt w 32#32) = 1#1) : IsExpert w := by
  obtain ⟨h0, h1⟩ := IntOp.andi_eq_one.1 h
  have e0 : 0 ≤ w.toInt := by
    have : (0#32).sle w = true := of_bit h0
    simpa [BitVec.sle] using this
  have e1 : w.toInt < 32 := by
    have : w.slt 32#32 = true := of_bit h1
    simpa [BitVec.slt] using this
  have hw := w.isLt
  have e := BitVec.toInt_eq_toNat_cond w
  refine ⟨fun hs => ?_, ?_, ?_⟩
  · have : w.toInt < 0 := by simpa [BitVec.slt] using hs
    omega
  all_goals
    split at e <;> omega

section

open Cert.Pre_routed Cert.Pre_routed.Facts

variable [Facts] {F : FTy → Type} [FloatOps F]

/-- Under the precondition every entry of the table is an expert's number. -/
theorem isExpert_of_fn (x : FVec F S69632x1024 .f32) (t : IVec S544 32) (p q : FVec F S32x1024x512 .f32)
    (o : FVec F S32x512x1024 .f32) (h : fn x t p q o = fun _ => 1#1) (n : Fin 544) : IsExpert (t (ix1 n)) := by
  have h0 := congrFun h (fun a => nomatch a)
  unfold fn at h0
  dsimp only at h0
  exact isExpert_of_compares (Host.reduce_andi_all _ _ reducesTo_S544_S_d0 _ _ h0 (ix1 n))

end

/-! ## The call runs -/

theorem kernel_frame : Cert.quiescent_Kernel3 := fun m ρ hpre =>
  frame_claim m ρ (ok_of_lt m fun n => (isExpert_of_fn _ _ _ _ _ (hpre 0) n).lt)

/-- The call printed a second time is the call. -/
theorem main_eq : @Cert.Kernel3Ideal.main Ideal _ Cert.Kernel3Ideal.Gen.facts = @Cert.Kernel3.main Ideal _ Cert.Kernel3.Gen.facts :=
  rfl

theorem defs_eq : @Cert.Kernel3Ideal.defs Ideal _ Cert.Kernel3Ideal.Gen.facts = @Cert.Kernel3.defs Ideal _ Cert.Kernel3.Gen.facts := by
  sl_kernel_rfl

section

open Cert.Kernel3Ideal

variable (m : (ℓ : Loc nD τ sig) → Buf (Elt Ideal) ℓ) (hpre : Cert.Pre_Kernel3Ideal m)

include hpre

theorem isExpert (n : Fin 544) : IsExpert (word (F := Ideal) m n) := isExpert_of_fn _ _ _ _ _ (hpre 0) n

theorem ok : Moe.Ok (F := Ideal) m := ok_of_lt (F := Ideal) m fun n => (isExpert m hpre n).lt

end

theorem kernel_ideal_frame : Cert.quiescent_Kernel3Ideal := fun m ρ hpre => by
  have h := frame_claim (F := Ideal) m ρ (ok m hpre)
  rw [← defs_eq] at h
  exact h

theorem reference_frame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-! ## The results -/

/-- Every row is some block's. -/
theorem exists_row (i : Fin 69632) : ∃ (n : Fin 544) (r : Fin 128), i = rowOf n r :=
  ⟨⟨i.val / 128, by omega⟩, ⟨i.val % 128, by omega⟩, Fin.ext (by show i.val = i.val / 128 * 128 + i.val % 128; omega)⟩

/-- The call's result is the reference's of the same arguments. -/
theorem final_eq (m : (ℓ : Loc Cert.Kernel3.nD Cert.Kernel3.τ Cert.Kernel3.sig) → Buf (Elt Ideal) ℓ) (hO : Moe.Ok m)
    (h : ∀ n, IsExpert (word m n)) (c : Dev Cert.Kernel3.nD) : Cert.MoeReference.outV
      (m ((c : Thread Cert.Kernel3.nD Cert.Kernel3.τ).loc Cert.Kernel3.main_arg0))
      (m ((c : Thread Cert.Kernel3.nD Cert.Kernel3.τ).loc Cert.Kernel3.main_arg1))
      (m ((c : Thread Cert.Kernel3.nD Cert.Kernel3.τ).loc Cert.Kernel3.main_arg2))
      (m ((c : Thread Cert.Kernel3.nD Cert.Kernel3.τ).loc Cert.Kernel3.main_arg3))
      (m ((c : Thread Cert.Kernel3.nD Cert.Kernel3.τ).loc Cert.Kernel3.main_arg4)) = final m hO c := by
  obtain rfl : c = 0 := Subsingleton.elim _ _
  funext i
  rw [eq_ix2 i]
  obtain ⟨n, r, hi⟩ := exists_row (i 0)
  rw [hi]
  refine (Cert.MoeReference.outV_apply _ _ _ _ _ n ⟨_, (h n).lt⟩ (h n).nonneg (h n).signed r _).trans ?_
  exact (final_apply m hO 0 n ⟨_, (h n).lt⟩ rfl r _).symm

/-- From agreeing arguments, every block's expert being one of the experts, the call and its reference end with the
    same rows. -/
theorem algebraic : Cert.algebraic_Kernel3Ideal_Reference3Ideal := fun m g m' g' hpre hargs => by
  refine ⟨fun c => final m (ok m hpre) c, ?_, ?_⟩
  · have h := value m (ok m hpre) g
    rw [← defs_eq] at h
    exact h
  · refine (θ_run Cert.Reference3Ideal.defs _ _).mono (fun r h c => ?_) (Cert.Reference3Ideal.Value.run m' g')
    obtain ⟨e0, e1, e2, e3, e4⟩ := hargs c
    refine ⟨(h c).1.trans ?_, (h c).2⟩
    rw [e0, e1, e2, e3, e4]
    exact final_eq m (ok m hpre) (isExpert m hpre) c

end Cert.MoeFinal

end
-- ==== Proof.OutPoint.lean ====
/- What the output gate's body stores at a grid point, in a short vocabulary. -/
module

public import proofs.«01_k».proof.Proof.Gen.Kernel4Ideal.Frame

@[expose] public section

set_option maxRecDepth 16384

noncomputable section

/-! # One grid point of the gated output

The body normalises 256 tokens head by head, gates them, projects them back, adds the residual, and stores the sum and
its norm, the norm's channels eight groups of 128. -/

namespace Cert.OutPoint

open Idealize.ShloMosaic Cert.Kernel4Ideal Cert.Kernel4Ideal.Gen

variable {F : FTy → Type} [FloatOps F]

/-- The blocks a grid point reads. -/
structure Ins (F : FTy → Type) where
  o : Vec F S1x256x1024 .f32
  z : Vec F S1x256x1024 .f32
  x : Vec F S1x256x1024 .f32
  mod : Vec F S1x6x1024 .f32
  gain : Vec F S1x128 .f32
  w : Vec F S1024x1024 .bf16
  norm : Vec F S1x1024 .f32
  wr : Vec F S1024x128 .bf16
  br : Vec F S1x128 .f32

theorem slices_head (n : Fin 8) : S256x1024.Slices ![0, 128 * n.val] S256x128 := by
  revert n; decide

theorem inb_group (n : Fin 8) :
    ∀ a, (![0, 0, n.val, 0] : Fin 4 → ℕ) a + S1x256x1x128.size a ≤ S1x256x8x128.size a := by
  revert n; decide

/-- One head's channels. -/
def lanes (y : FVec F S256x1024 .f32) (n : Fin 8) : FVec F S256x128 .f32 :=
  extractStridedSlice S256x128 ![0, 128 * n.val] y (slices_head n)

/-- One head, over its root mean square, with the gain. -/
def headNorm (o : FVec F S256x128 .f32) (g : FVec F S1x128 .f32) : FVec F S256x128 .f32 :=
  mulf (mulf o (broadcastTo S256x128 (rsqrt (addf (divf (shapeCast S256x1 (multiReduction .add [1] S256 (mulf o o)
        0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 g broadcasts_S1x128_S256x128)

/-- The channels times their logistic. -/
def gate (z : FVec F S256x128 .f32) : FVec F S256x128 .f32 :=
  mulf z (divf (broadcast S256x128 (Scalar.ofBits .f32 0x3F800000#32))
    (addf (broadcast S256x128 (Scalar.ofBits .f32 0x3F800000#32))
      (exp (subf (broadcast S256x128 (Scalar.ofBits .f32 0x00000000#32)) z))))

/-- One head, normalised and gated. -/
def gatedHead (o z : FVec F S256x1024 .f32) (g : FVec F S1x128 .f32) (n : Fin 8) : FVec F S256x128 .f32 :=
  mulf (headNorm (lanes o n) g) (gate (lanes z n))

/-- Eight heads side by side. -/
def joined (h : Fin 8 → FVec F S256x128 .f32) : FVec F S256x1024 .f32 :=
  concatenate S256x1024 1 [⟨S256x128, h 0⟩, ⟨S256x128, h 1⟩, ⟨S256x128, h 2⟩, ⟨S256x128, h 3⟩, ⟨S256x128, h 4⟩,
    ⟨S256x128, h 5⟩, ⟨S256x128, h 6⟩, ⟨S256x128, h 7⟩]
    concatenates_S256x128_S256x128_S256x128_S256x128_S256x128_S256x128_S256x128_S256x128_S256x1024_d1

namespace Ins

variable (X : Ins F)

/-- The heads as loaded. -/
def lo := View.ld X.o (Rect.unit ![0, 0, 0] S1x256x1024.size inb_S1x256x1024_S1x256x1024_0_0_0)
/-- The gates as loaded. -/
def lz := View.ld X.z (Rect.unit ![0, 0, 0] S1x256x1024.size inb_S1x256x1024_S1x256x1024_0_0_0)
/-- The tokens as loaded. -/
def lx := View.ld X.x (Rect.unit ![0, 0, 0] S1x256x1024.size inb_S1x256x1024_S1x256x1024_0_0_0)
/-- The modulations as loaded. -/
def lmod := View.ld X.mod (Rect.unit ![0, 0, 0] S1x6x1024.size inb_S1x6x1024_S1x6x1024_0_0_0)
/-- The heads' gains as loaded. -/
def lgain := View.ld X.gain (Rect.unit ![0, 0] S1x128.size inb_S1x128_S1x128_0_0)
/-- The weights as loaded. -/
def lw := View.ld X.w (Rect.unit ![0, 0] S1024x1024.size inb_S1024x1024_S1024x1024_0_0)
/-- The norm's gains as loaded. -/
def lnorm := View.ld X.norm (Rect.unit ![0, 0] S1x1024.size inb_S1x1024_S1x1024_0_0)

/-- The heads, normalised and gated. -/
def gated : FVec F S256x1024 .f32 := joined (gatedHead (k0_pay3 X.lo) (k0_pay4 X.lz) (k0_pay5 X.lgain))

end Ins

/-- The tokens plus the projected heads. -/
def summed (h : FVec F S256x1024 .f32) (w : Vec F S1024x1024 .bf16) (x : Vec F S1x256x1024 .f32) (md : Vec F S1x6x1024 .f32) :
    FVec F S256x1024 .f32 :=
  addf (shapeCast S256x1024 x shapeCasts_S1x256x1024_S256x1024)
    (mulf (broadcastTo S256x1024 (extractStridedSlice S1x1024 ![2, 0] (k0_pay22 md) slices_S6x1024_o2_0_S1x1024)
        broadcasts_S1x1024_S256x1024)
      (matmul dot_S256x1024_S1024x1024_S256x1024_1_0_0_1_n_n none (truncf .bf16 h bitsLt_bf16_f32)
        (shapeCast S1024x1024 w shapeCasts_S1024x1024_S1024x1024) (constant S256x1024 .f32 0x00000000#32)))

/-- The sums, normalised and modulated. -/
def normedRows (y : FVec F S256x1024 .f32) (g : Vec F S1x1024 .f32) (md : Vec F S1x6x1024 .f32) : FVec F S256x1024 .f32 :=
  k0_pay30 (k0_pay23 g) (k0_pay26 md) (k0_pay27 md) y
    (divf (shapeCast S256x1 (multiReduction .add [1] S256 (mulf y y) 0x00000000#32 reduces_S256x1024_S256 (.inl rfl) rfl)
      shapeCasts_S256_S256x1) (broadcast S256x1 (Scalar.ofBits .f32 0x44800000#32)))

/-- The rectangle of a group of channels. -/
def groupOf (n : Fin 8) : Rect S1x256x8x128 := Rect.unit ![0, 0, n.val, 0] S1x256x1x128.size (inb_group n)

/-- One group of channels, stored. -/
def groupPiece (n : Fin 8) (y : FVec F S256x128 .f32) : View.Piece (Elt F) S1x256x8x128 .f32 :=
  ⟨groupOf n, shapeCast S1x256x1x128 y shapeCasts_S256x128_S1x256x1x128⟩

/-- The eight groups, stored, the last first. -/
def groups (y : Fin 8 → FVec F S256x128 .f32) : List (View.Piece (Elt F) S1x256x8x128 .f32) :=
  [groupPiece 7 (y 7), groupPiece 6 (y 6), groupPiece 5 (y 5), groupPiece 4 (y 4), groupPiece 3 (y 3), groupPiece 2 (y 2),
    groupPiece 1 (y 1), groupPiece 0 (y 0)]

/-- The sums of a point of inputs `X`. -/
def Ins.sum (X : Ins F) : FVec F S256x1024 .f32 := summed X.gated X.lw X.lx X.lmod

/-- The norm of a point's sums. -/
def Ins.hn (X : Ins F) : FVec F S256x1024 .f32 := normedRows X.sum X.lnorm X.lmod

/-- A point's stores of sums and of their norm. -/
def stores (X : Ins F) : List (View.Piece (Elt F) S1x256x1024 .f32) × List (View.Piece (Elt F) S1x256x8x128 .f32) :=
  ([⟨Rect.unit ![0, 0, 0] S1x256x1024.size inb_S1x256x1024_S1x256x1024_0_0_0,
    shapeCast S1x256x1024 X.sum shapeCasts_S256x1024_S1x256x1024⟩], groups (lanes X.hn))

section

variable (c : Dev nD) (i : grid0.Coords)
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole)
    (arg5 : Memref sig .tc .vmem S1x6x1024 .f32) (harg5 : arg5.IsWhole)
    (arg6 : Memref sig .tc .vmem S1x128 .f32) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1024x128 .bf16) (harg9 : arg9.IsWhole)
    (arg10 : Memref sig .tc .vmem S1x128 .f32) (harg10 : arg10.IsWhole)
    (arg11 : Memref sig .tc .vmem S1x256x1024 .f32) (harg11 : arg11.IsWhole)
    (arg12 : Memref sig .tc .vmem S1x256x8x128 .f32) (harg12 : arg12.IsWhole)
    (arg13 : Memref sig .tc .vmem S1x256x128 .f32) (harg13 : arg13.IsWhole)
    (arg14 : Memref sig .tc .vmem S1x128 .f32) (harg14 : arg14.IsWhole)
    (x0 : Vec F S1x256x1024 .f32) (x1 : Vec F S1x256x1024 .f32) (x2 : Vec F S1x256x1024 .f32) (x3 : Vec F S1x6x1024 .f32) (x4 : Vec F S1x128 .f32) (x5 : Vec F S1024x1024 .bf16) (x6 : Vec F S1x1024 .f32) (x7 : Vec F S1024x128 .bf16) (x8 : Vec F S1x128 .f32)

/-- The first point's stores. -/
theorem stores_A (hc0 : cond0_0 i) :
    (fun r => (r.1, r.2.1)) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8) = stores ⟨x0, x1, x2, x3, x4, x5, x6, x7, x8⟩ := by
  have h : (fun r => (r.1, r.2.1)) (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8) =
      stores ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8)⟩ := by
    sl_kernel_rfl
  rw [h, harg2.read_unread, harg3.read_unread, harg4.read_unread, harg5.read_unread, harg6.read_unread, harg7.read_unread, harg8.read_unread, harg9.read_unread, harg10.read_unread]

/-- Any other point's stores. -/
theorem stores_B (hc0 : ¬cond0_0 i) (x12 : Vec F S1x128 .f32) :
    (fun r => (r.1, r.2.1)) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x12) = stores ⟨x0, x1, x2, x3, x4, x5, x6, x7, x8⟩ := by
  have h : (fun r => (r.1, r.2.1)) (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x12) =
      stores ⟨arg2.view.read (Elt F) (harg2.unread x0), arg3.view.read (Elt F) (harg3.unread x1), arg4.view.read (Elt F) (harg4.unread x2), arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8)⟩ := by
    sl_kernel_rfl
  rw [h, harg2.read_unread, harg3.read_unread, harg4.read_unread, harg5.read_unread, harg6.read_unread, harg7.read_unread, harg8.read_unread, harg9.read_unread, harg10.read_unread]

end

end Cert.OutPoint

end
-- ==== Proof.OutSpec.lean ====
/- The gated output's mathematics, number by number: one head's norm and gate, one token's sum and its norm. -/
module

public import proofs.«01_k».proof.Proof.InSpec

@[expose] public section

noncomputable section

namespace Cert.OutSpec

open Idealize.ShloMosaic Cert.InSpec

/-- A head's channels over their root mean square, with the gain, times the gate and its logistic. -/
def gatedUnit (o z g : Fin 128 → EReal) (d : Fin 128) : EReal :=
  o d * Ideal.rsqrt (Ideal.div (∑ e, o e * o e) (word 0x43000000#32) + word 0x358637BD#32) * g d * silu (z d)

/-- A channel of a head, among all channels. -/
def laneOf (h : Fin 8) (d : Fin 128) : Fin 1024 := ⟨128 * h.val + d.val, by omega⟩

/-- The head of a channel. -/
def headOf (l : Fin 1024) : Fin 8 := ⟨l.val / 128, by omega⟩

/-- A channel's place in its head. -/
def inHead (l : Fin 1024) : Fin 128 := ⟨l.val % 128, by omega⟩

/-- The arguments: the heads, their gates, the tokens' channels, the modulations' rows, the heads' gain, the weights and
    the norm's gain. -/
structure Arr where
  o : Fin 2 → Fin 16384 → Fin 1024 → EReal
  z : Fin 2 → Fin 16384 → Fin 1024 → EReal
  x : Fin 2 → Fin 16384 → Fin 1024 → EReal
  mod : Fin 2 → Fin 6 → Fin 1024 → EReal
  gain : Fin 128 → EReal
  w : Fin 1024 → Fin 1024 → EReal
  norm : Fin 1024 → EReal

namespace Arr

variable (A : Arr) (b : Fin 2) (t : Fin 16384)

/-- The heads, normalised and gated. -/
def gated (l : Fin 1024) : EReal :=
  gatedUnit (fun e => A.o b t (laneOf (headOf l) e)) (fun e => A.z b t (laneOf (headOf l) e)) A.gain (inHead l)

/-- The tokens plus the projected heads. -/
def sum (d : Fin 1024) : EReal := A.x b t d + A.mod b 2 d * ∑ l, A.gated b t l * A.w l d

/-- The sums, normalised and modulated. -/
def hn : Fin 1024 → EReal := normed (A.sum b t) A.norm (A.mod b 4) (A.mod b 3)

end Arr

end Cert.OutSpec

end
-- ==== Proof.OutMath.lean ====
/- What the gated output's body computes at one index. -/
module

public import Idealize.ShloMosaic.Lib.Pipeline.ValueKit
public import Idealize.ShloMosaic.Lib.WritesUnit
public import proofs.«01_k».proof.Proof.OutPoint
public import proofs.«01_k».proof.Proof.OutSpec

@[expose] public section

set_option maxRecDepth 16384

noncomputable section

namespace Cert.OutMath

open Idealize.ShloMosaic Cert.Kernel4Ideal Cert.Kernel4Ideal.Gen Cert.OutPoint Cert.InSpec Cert.OutSpec

theorem lanes_apply (y : FVec Ideal S256x1024 .f32) (n : Fin 8) (i : Fin 256) (d : Fin 128) :
    lanes y n (ix2 i d) = y (ix2 i (laneOf n d)) := by
  unfold lanes
  pointwise []
  rfl

theorem headNorm_apply (o : FVec Ideal S256x128 .f32) (g : FVec Ideal S1x128 .f32) (i : Fin 256) (d : Fin 128) :
    headNorm o g (ix2 i d) = o (ix2 i d) * Ideal.rsqrt (Ideal.div (∑ e : Fin 128, o (ix2 i e) * o (ix2 i e))
      (word 0x43000000#32) + word 0x358637BD#32) * g (ix2 (0 : Fin 1) d) := by
  unfold headNorm
  pointwise []

theorem gate_apply (z : FVec Ideal S256x128 .f32) (i : Fin 256) (d : Fin 128) : gate z (ix2 i d) = silu (z (ix2 i d)) := by
  unfold gate silu sigmoid
  pointwise []
  rw [zero_sub]

theorem gatedHead_apply (o z : FVec Ideal S256x1024 .f32) (g : FVec Ideal S1x128 .f32) (n : Fin 8) (i : Fin 256)
    (d : Fin 128) : gatedHead o z g n (ix2 i d) = gatedUnit (fun e => o (ix2 i (laneOf n e)))
      (fun e => z (ix2 i (laneOf n e))) (fun e => g (ix2 (0 : Fin 1) e)) d := by
  have h (a b : FVec Ideal S256x128 .f32) : mulf a b (ix2 i d) = a (ix2 i d) * b (ix2 i d) := rfl
  unfold gatedHead gatedUnit
  rw [h, headNorm_apply, gate_apply]
  simp only [lanes_apply]

/-- Eight heads side by side, at a channel. -/
theorem joined_apply (y : Fin 8 → FVec Ideal S256x128 .f32) (i : Fin 256) (l : Fin 1024) :
    joined y (ix2 i l) = y (headOf l) (ix2 i (inHead l)) := by
  have key (k : Fin 8) (j : Fin 128) (h : l.val = 128 * k.val + j.val) :
      y k (ix2 i j) = y (headOf l) (ix2 i (inHead l)) := by
    obtain rfl : k = headOf l := Fin.ext (by show k.val = l.val / 128; omega)
    obtain rfl : j = inHead l := Fin.ext (by show j.val = l.val % 128; omega)
    rfl
  unfold joined
  pointwise []
  split_ifs <;> exact key _ _ (by simp <;> omega)

theorem summed_apply (h : FVec Ideal S256x1024 .f32) (w : Vec Ideal S1024x1024 .bf16) (x : Vec Ideal S1x256x1024 .f32)
    (md : Vec Ideal S1x6x1024 .f32) (i : Fin 256) (d : Fin 1024) : summed h w x md (ix2 i d) =
      x (ix3 (0 : Fin 1) i d) + md (ix3 (0 : Fin 1) (2 : Fin 6) d) * ∑ l : Fin 1024, h (ix2 i l) * w (ix2 l d) := by
  unfold summed k0_pay22
  pointwise []

theorem normedRows_apply (y : FVec Ideal S256x1024 .f32) (g : Vec Ideal S1x1024 .f32) (md : Vec Ideal S1x6x1024 .f32)
    (i : Fin 256) (d : Fin 1024) : normedRows y g md (ix2 i d) =
      normed (fun e => y (ix2 i e)) (fun e => g (ix2 (0 : Fin 1) e)) (fun e => md (ix3 (0 : Fin 1) (4 : Fin 6) e))
        (fun e => md (ix3 (0 : Fin 1) (3 : Fin 6) e)) d := by
  unfold normedRows k0_pay30 k0_pay23 k0_pay26 k0_pay27 k0_pay22 normed
  pointwise []

/-! ## A point's groups of channels, stored -/

theorem groupOf_idx (n : Fin 8) (i : Fin 256) (d : Fin 128) : (groupOf n).idx (ix4 (0 : Fin 1) i (0 : Fin 1) d) =
    ix4 (0 : Fin 1) i n d := by
  funext a
  apply Fin.ext
  unfold groupOf
  rw [Rect.idx_unit_val]
  fin_cases a <;> simp [ix4]

theorem canon_group (n : Fin 8) (w : FVec Ideal S256x128 .f32) (L : List (View.Piece (Elt Ideal) S1x256x8x128 .f32))
    (i : Fin 256) (d : Fin 128) : View.canon (groupPiece n w :: L) (ix4 (0 : Fin 1) i n d) = w (ix2 i d) := by
  rw [← groupOf_idx n i d]
  refine (View.canon_cons_emb (groupOf n) _ L (ix4 (0 : Fin 1) i (0 : Fin 1) d)).trans ?_
  pointwise []

theorem canon_group_ne (n n' : Fin 8) (hne : n ≠ n') (w : FVec Ideal S256x128 .f32)
    (L : List (View.Piece (Elt Ideal) S1x256x8x128 .f32)) (i : Fin 256) (d : Fin 128) :
    View.canon (groupPiece n' w :: L) (ix4 (0 : Fin 1) i n d) = View.canon L (ix4 (0 : Fin 1) i n d) := by
  apply View.canon_cons_of_not_mem
  intro hm
  have h2 := (Rect.mem_set_unit (inb := inb_group n')).mp hm 2
  simp [ix4] at h2
  exact hne (Fin.ext (by omega))

/-- After the groups' stores their block holds them. -/
theorem canon_groups (y : Fin 8 → FVec Ideal S256x128 .f32) (n : Fin 8) (i : Fin 256) (d : Fin 128) :
    View.canon (groups y) (ix4 (0 : Fin 1) i n d) = y n (ix2 i d) := by
  unfold groups
  fin_cases n <;> simp [canon_group, canon_group_ne]

theorem canon_sums (w : FVec Ideal S256x1024 .f32) (i : Fin 256) (d : Fin 1024) :
    View.canon ([⟨Rect.unit ![0, 0, 0] S1x256x1024.size inb_S1x256x1024_S1x256x1024_0_0_0,
      shapeCast S1x256x1024 w shapeCasts_S256x1024_S1x256x1024⟩] : List (View.Piece (Elt Ideal) S1x256x1024 .f32)) (ix3 (0 : Fin 1) i d) = w (ix2 i d) := by
  rw [View.canon_cons_unit_lit _ _ _ (by decide)]
  pointwise []

end Cert.OutMath

end
-- ==== Proof.OutBlocks.lean ====
/- The blocks a grid point of the gated output reads of its arguments, and what it makes of them. -/
module

public import proofs.«01_k».proof.Proof.OutMath

@[expose] public section

set_option maxRecDepth 16384

noncomputable section

namespace Cert.OutBlocks

open Idealize.ShloMosaic Idealize.ShloMosaic.TcCoe Idealize.SL.Sem Cert.Kernel4Ideal Cert.Kernel4Ideal.Gen
open Cert.OutPoint Cert.OutMath Cert.OutSpec

/-! ## What the host hands the call -/

section

variable {F : FTy → Type} [FloatOps F]

variable (m : (ℓ : Loc nD τ sig) → Buf (Elt F) ℓ) (c : Dev nD)

theorem V_gain : V m c main_v6 = shapeCast S1x128 (m ((c : Thread nD τ).loc main_arg4)) shapeCasts_S128_S1x128 := by
  sl_kernel_rfl

theorem V_w : V m c main_v7 = truncf .bf16 (m ((c : Thread nD τ).loc main_arg5) : FVec F S1024x1024 .f32) bitsLt_bf16_f32 := by
  sl_kernel_rfl

theorem V_norm : V m c main_v8 = shapeCast S1x1024 (m ((c : Thread nD τ).loc main_arg6)) shapeCasts_S1024_S1x1024 := by
  sl_kernel_rfl

end

/-! ## The grid's points -/

theorem idx0 : ∀ t : Fin cfg0.N, win0_0.index t (0 : Fin 3) = t.val / 64 ∧ win0_0.index t (1 : Fin 3) = t.val % 64 ∧ win0_0.index t (2 : Fin 3) = 0 :=
  (by decide +kernel : ∀ t : Fin grid0.N, _)
theorem idx1 : ∀ t : Fin cfg0.N, win0_1.index t (0 : Fin 3) = t.val / 64 ∧ win0_1.index t (1 : Fin 3) = t.val % 64 ∧ win0_1.index t (2 : Fin 3) = 0 :=
  (by decide +kernel : ∀ t : Fin grid0.N, _)
theorem idx2 : ∀ t : Fin cfg0.N, win0_2.index t (0 : Fin 3) = t.val / 64 ∧ win0_2.index t (1 : Fin 3) = t.val % 64 ∧ win0_2.index t (2 : Fin 3) = 0 :=
  (by decide +kernel : ∀ t : Fin grid0.N, _)
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx9 : ∀ t : Fin cfg0.N, win0_9.index t (0 : Fin 3) = t.val / 64 ∧ win0_9.index t (1 : Fin 3) = t.val % 64 ∧ win0_9.index t (2 : Fin 3) = 0 :=
  (by decide +kernel : ∀ t : Fin grid0.N, _)
theorem idx10 : ∀ t : Fin cfg0.N, win0_10.index t (0 : Fin 4) = t.val / 64 ∧ win0_10.index t (1 : Fin 4) = t.val % 64 ∧ win0_10.index t (2 : Fin 4) = 0 ∧ win0_10.index t (3 : Fin 4) = 0 :=
  (by decide +kernel : ∀ t : Fin grid0.N, _)

theorem lt_points (t : Fin cfg0.N) : t.val < 128 := lt_of_lt_of_eq t.isLt N_0

/-- The batch of a grid point. -/
def batch (t : Fin cfg0.N) : Fin 2 := ⟨t.val / 64, by have := lt_points t; omega⟩

/-- A token of a grid point. -/
def tokOf (t : Fin cfg0.N) (i : Fin 256) : Fin 16384 := ⟨256 * (t.val % 64) + i.val, by omega⟩

variable (m : (ℓ : Loc nD τ sig) → Buf (Elt Ideal) ℓ) (c : Dev nD)

/-- The arguments. -/
def args : Arr where
  o b t d := m ((c : Thread nD τ).loc main_arg0) (ix3 b t d)
  z b t d := m ((c : Thread nD τ).loc main_arg1) (ix3 b t d)
  x b t d := m ((c : Thread nD τ).loc main_arg2) (ix3 b t d)
  mod b j d := m ((c : Thread nD τ).loc main_arg3) (ix3 b j d)
  gain d := m ((c : Thread nD τ).loc main_arg4) (ix1 d)
  w d l := m ((c : Thread nD τ).loc main_arg5) (ix2 d l)
  norm d := m ((c : Thread nD τ).loc main_arg6) (ix1 d)

/-- The blocks of a grid point. -/
def ins (t : Fin cfg0.N) : Ins Ideal where
  o := iblk m c 0 t
  z := iblk m c 1 t
  x := iblk m c 2 t
  mod := iblk m c 3 t
  gain := iblk m c 4 t
  w := iblk m c 5 t
  norm := iblk m c 6 t
  wr := iblk m c 7 t
  br := iblk m c 8 t

/-- A token of a point's block, in an array of tokens. -/
theorem tokens (t : Fin cfg0.N) (i : Fin 256) (d : Fin 1024) (j : S2x16384x1024.Idx) (k : Fin 3 → ℕ)
    (hk : k 0 = t.val / 64 ∧ k 1 = t.val % 64 ∧ k 2 = 0) (h0 : (j 0).val = k 0 * 1 + 1 * 0)
    (h1 : (j 1).val = k 1 * 256 + 1 * i.val) (h2 : (j 2).val = k 2 * 1024 + 1 * d.val) :
    j = ix3 (batch t) (tokOf t i) d := by
  obtain ⟨e0, e1, e2⟩ := hk
  funext a
  apply Fin.ext
  match a with
  | ⟨0, _⟩ => exact h0.trans (by show k 0 * 1 + 1 * 0 = t.val / 64; omega)
  | ⟨1, _⟩ => exact h1.trans (by show k 1 * 256 + 1 * i.val = 256 * (t.val % 64) + i.val; omega)
  | ⟨2, _⟩ => exact h2.trans (by show k 2 * 1024 + 1 * d.val = d.val; omega)

theorem lo_apply (t : Fin cfg0.N) (i : Fin 256) (d : Fin 1024) :
    (ins m c t).lo (ix3 (0 : Fin 1) i d) = (args m c).o (batch t) (tokOf t i) d := by
  unfold Ins.lo
  rw [View.ld_unit_lit _ _ (by decide)]
  show V m c main_arg0 (((cfg0.win 0).blk t).view.emb (ix3 (0 : Fin 1) i d)) = _
  rw [V_main_arg0]
  have he : ((cfg0.win 0).blk t).view.emb (ix3 (0 : Fin 1) i d) = (ix3 (batch t) (tokOf t i) d : S2x16384x1024.Idx) :=
    tokens t i d _ (win0_0.index t) (idx0 t) rfl rfl rfl
  rw [he]
  rfl

theorem lz_apply (t : Fin cfg0.N) (i : Fin 256) (d : Fin 1024) :
    (ins m c t).lz (ix3 (0 : Fin 1) i d) = (args m c).z (batch t) (tokOf t i) d := by
  unfold Ins.lz
  rw [View.ld_unit_lit _ _ (by decide)]
  show V m c main_arg1 (((cfg0.win 1).blk t).view.emb (ix3 (0 : Fin 1) i d)) = _
  rw [V_main_arg1]
  have he : ((cfg0.win 1).blk t).view.emb (ix3 (0 : Fin 1) i d) = (ix3 (batch t) (tokOf t i) d : S2x16384x1024.Idx) :=
    tokens t i d _ (win0_1.index t) (idx1 t) rfl rfl rfl
  rw [he]
  rfl

theorem lx_apply (t : Fin cfg0.N) (i : Fin 256) (d : Fin 1024) :
    (ins m c t).lx (ix3 (0 : Fin 1) i d) = (args m c).x (batch t) (tokOf t i) d := by
  unfold Ins.lx
  rw [View.ld_unit_lit _ _ (by decide)]
  show V m c main_arg2 (((cfg0.win 2).blk t).view.emb (ix3 (0 : Fin 1) i d)) = _
  rw [V_main_arg2]
  have he : ((cfg0.win 2).blk t).view.emb (ix3 (0 : Fin 1) i d) = (ix3 (batch t) (tokOf t i) d : S2x16384x1024.Idx) :=
    tokens t i d _ (win0_2.index t) (idx2 t) rfl rfl rfl
  rw [he]
  rfl

theorem lmod_apply (t : Fin cfg0.N) (j : Fin 6) (d : Fin 1024) :
    (ins m c t).lmod (ix3 (0 : Fin 1) j d) = (args m c).mod (batch t) j d := by
  obtain ⟨e0, e1, e2⟩ := idx3 t
  unfold Ins.lmod
  rw [View.ld_unit_lit _ _ (by decide)]
  show V m c main_arg3 (((cfg0.win 3).blk t).view.emb (ix3 (0 : Fin 1) j d)) = _
  rw [V_main_arg3]
  show _ = m ((c : Thread nD τ).loc main_arg3) (ix3 (batch t) j d)
  congr 1
  funext a
  apply Fin.ext
  match a with
  | ⟨0, _⟩ => show win0_3.index t (0 : Fin 3) * 1 + 1 * 0 = t.val / 64; omega
  | ⟨1, _⟩ => show win0_3.index t (1 : Fin 3) * 6 + 1 * j.val = j.val; omega
  | ⟨2, _⟩ => show win0_3.index t (2 : Fin 3) * 1024 + 1 * d.val = d.val; omega

theorem lgain_apply (t : Fin cfg0.N) (d : Fin 128) : (ins m c t).lgain (ix2 (0 : Fin 1) d) = (args m c).gain d := by
  obtain ⟨e0, e1⟩ := idx4 t
  unfold Ins.lgain
  rw [View.ld_unit_lit _ _ (by decide)]
  show V m c main_v6 (((cfg0.win 4).blk t).view.emb (ix2 (0 : Fin 1) d)) = _
  have he : ((cfg0.win 4).blk t).view.emb (ix2 (0 : Fin 1) d) = ix2 (0 : Fin 1) d := by
    funext a
    apply Fin.ext
    match a with
    | ⟨0, _⟩ => show win0_4.index t (0 : Fin 2) * 1 + 1 * 0 = 0; omega
    | ⟨1, _⟩ => show win0_4.index t (1 : Fin 2) * 128 + 1 * d.val = d.val; omega
  rw [he, V_gain]
  show _ = m ((c : Thread nD τ).loc main_arg4) (ix1 d)
  pointwise []

theorem lw_apply (t : Fin cfg0.N) (d : Fin 1024) (l : Fin 1024) : (ins m c t).lw (ix2 d l) = (args m c).w d l := by
  obtain ⟨e0, e1⟩ := idx5 t
  unfold Ins.lw
  rw [View.ld_unit_lit _ _ (by decide)]
  show V m c main_v7 (((cfg0.win 5).blk t).view.emb (ix2 d l)) = _
  have he : ((cfg0.win 5).blk t).view.emb (ix2 d l) = ix2 d l := by
    funext a
    apply Fin.ext
    match a with
    | ⟨0, _⟩ => show win0_5.index t (0 : Fin 2) * 1024 + 1 * d.val = d.val; omega
    | ⟨1, _⟩ => show win0_5.index t (1 : Fin 2) * 1024 + 1 * l.val = l.val; omega
  rw [he, V_w]
  show _ = m ((c : Thread nD τ).loc main_arg5) (ix2 d l)
  pointwise []

theorem lnorm_apply (t : Fin cfg0.N) (d : Fin 1024) : (ins m c t).lnorm (ix2 (0 : Fin 1) d) = (args m c).norm d := by
  obtain ⟨e0, e1⟩ := idx6 t
  unfold Ins.lnorm
  rw [View.ld_unit_lit _ _ (by decide)]
  show V m c main_v8 (((cfg0.win 6).blk t).view.emb (ix2 (0 : Fin 1) d)) = _
  have he : ((cfg0.win 6).blk t).view.emb (ix2 (0 : Fin 1) d) = ix2 (0 : Fin 1) d := by
    funext a
    apply Fin.ext
    match a with
    | ⟨0, _⟩ => show win0_6.index t (0 : Fin 2) * 1 + 1 * 0 = 0; omega
    | ⟨1, _⟩ => show win0_6.index t (1 : Fin 2) * 1024 + 1 * d.val = d.val; omega
  rw [he, V_norm]
  show _ = m ((c : Thread nD τ).loc main_arg6) (ix1 d)
  pointwise []

/-! ## What a point makes of its blocks -/

variable (t : Fin cfg0.N) (i : Fin 256)

theorem gated_apply (l : Fin 1024) : (ins m c t).gated (ix2 i l) = (args m c).gated (batch t) (tokOf t i) l := by
  have h3 (x : Vec Ideal S1x256x1024 .f32) (e : Fin 1024) : k0_pay3 (F := Ideal) x (ix2 i e) = x (ix3 (0 : Fin 1) i e) := by
    unfold k0_pay3
    pointwise []
  have h4 (x : Vec Ideal S1x256x1024 .f32) (e : Fin 1024) : k0_pay4 (F := Ideal) x (ix2 i e) = x (ix3 (0 : Fin 1) i e) := by
    unfold k0_pay4
    pointwise []
  have h5 (x : Vec Ideal S1x128 .f32) (e : Fin 128) : k0_pay5 (F := Ideal) x (ix2 (0 : Fin 1) e) = x (ix2 (0 : Fin 1) e) := by
    unfold k0_pay5
    pointwise []
  unfold Ins.gated Arr.gated
  rw [joined_apply, gatedHead_apply]
  simp only [h3, h4, h5, lo_apply, lz_apply, lgain_apply]

theorem sum_apply (d : Fin 1024) : (ins m c t).sum (ix2 i d) = (args m c).sum (batch t) (tokOf t i) d := by
  unfold Ins.sum Arr.sum
  rw [summed_apply]
  simp only [lx_apply, lmod_apply, lw_apply, gated_apply]

theorem hn_apply (d : Fin 1024) : (ins m c t).hn (ix2 i d) = (args m c).hn (batch t) (tokOf t i) d := by
  unfold Ins.hn Arr.hn
  rw [normedRows_apply]
  simp only [lnorm_apply, lmod_apply, sum_apply]

end Cert.OutBlocks

end
-- ==== Proof.OutPoints.lean ====
/- What every grid point of the gated output leaves: its tokens' sums and their norms. -/
module

public import proofs.«01_k».proof.Proof.OutBlocks

@[expose] public section

set_option maxRecDepth 16384

noncomputable section

namespace Cert.OutBlocks

open Idealize.ShloMosaic Idealize.ShloMosaic.TcCoe Idealize.SL.Sem Cert.Kernel4Ideal Cert.Kernel4Ideal.Gen
open Cert.OutPoint Cert.OutMath Cert.OutSpec

section

variable {F : FTy → Type} [FloatOps F]

/-- What a point's two outputs hold after its stores. -/
def outsOf (s : List (View.Piece (Elt F) S1x256x1024 .f32) × List (View.Piece (Elt F) S1x256x8x128 .f32)) :
    Vec F S1x256x1024 .f32 × Vec F S1x256x8x128 .f32 := (View.canon s.1, View.canon s.2)

variable (c : Dev nD) (i : grid0.Coords)
    (arg2 : Memref sig .tc .vmem S1x256x1024 .f32) (harg2 : arg2.IsWhole)
    (arg3 : Memref sig .tc .vmem S1x256x1024 .f32) (harg3 : arg3.IsWhole)
    (arg4 : Memref sig .tc .vmem S1x256x1024 .f32) (harg4 : arg4.IsWhole)
    (arg5 : Memref sig .tc .vmem S1x6x1024 .f32) (harg5 : arg5.IsWhole)
    (arg6 : Memref sig .tc .vmem S1x128 .f32) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1024x128 .bf16) (harg9 : arg9.IsWhole)
    (arg10 : Memref sig .tc .vmem S1x128 .f32) (harg10 : arg10.IsWhole)
    (arg11 : Memref sig .tc .vmem S1x256x1024 .f32) (harg11 : arg11.IsWhole)
    (arg12 : Memref sig .tc .vmem S1x256x8x128 .f32) (harg12 : arg12.IsWhole)
    (arg13 : Memref sig .tc .vmem S1x256x128 .f32) (harg13 : arg13.IsWhole)
    (arg14 : Memref sig .tc .vmem S1x128 .f32) (harg14 : arg14.IsWhole)
    (x0 : Vec F S1x256x1024 .f32) (x1 : Vec F S1x256x1024 .f32) (x2 : Vec F S1x256x1024 .f32) (x3 : Vec F S1x6x1024 .f32) (x4 : Vec F S1x128 .f32) (x5 : Vec F S1024x1024 .bf16) (x6 : Vec F S1x1024 .f32) (x7 : Vec F S1024x128 .bf16) (x8 : Vec F S1x128 .f32)

theorem outs_A (hc0 : cond0_0 i) :
    (out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8, out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8) =
      (fun X : Ins F => outsOf (stores X)) ⟨x0, x1, x2, x3, x4, x5, x6, x7, x8⟩ := by
  unfold out0_A_9 out0_A_10
  simp only [View.read_writes_junk_eq_canon]
  have h := stores_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  beta_reduce at h
  have h' := congrArg outsOf h
  exact h'

theorem outs_B (hc0 : ¬cond0_0 i) (x12 : Vec F S1x128 .f32) :
    (out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x12, out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x12) =
      (fun X : Ins F => outsOf (stores X)) ⟨x0, x1, x2, x3, x4, x5, x6, x7, x8⟩ := by
  unfold out0_B_9 out0_B_10
  simp only [View.read_writes_junk_eq_canon]
  have h := stores_B c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0 x12
  beta_reduce at h
  have h' := congrArg outsOf h
  exact h'

end

variable (m : (ℓ : Loc nD τ sig) → Buf (Elt Ideal) ℓ) (c : Dev nD) (t : Fin cfg0.N) (i : Fin 256)

/-- Every point leaves the stores of its blocks. -/
theorem leaves : ((outsAt0 m c t.val t.isLt).1, (outsAt0 m c t.val t.isLt).2.1) =
    outsOf (stores (ins m c t)) := by
  by_cases h0 : t.val % 128 = 0
  · rw [outsAt0_A m c t h0]
    dsimp only
    rw [outs_A]
    rfl
  · rw [outsAt0_B m c t h0]
    dsimp only
    rw [outs_B]
    rfl

theorem sums_left (d : Fin 1024) : (outsAt0 m c t.val t.isLt).1 (ix3 (0 : Fin 1) i d) =
    (args m c).sum (batch t) (tokOf t i) d := by
  rw [(Prod.mk.inj (leaves m c t)).1]
  exact (canon_sums _ i d).trans (sum_apply m c t i d)

theorem hn_left (n : Fin 8) (d : Fin 128) : (outsAt0 m c t.val t.isLt).2.1 (ix4 (0 : Fin 1) i n d) =
    (args m c).hn (batch t) (tokOf t i) (laneOf n d) := by
  rw [(Prod.mk.inj (leaves m c t)).2]
  exact (canon_groups _ n i d).trans ((lanes_apply _ n i d).trans (hn_apply m c t i (laneOf n d)))

end Cert.OutBlocks

end
-- ==== Proof.OutFinal.lean ====
/- The gated output's two arrays after the last grid point: the tokens plus the projected heads, and their norms. -/
module

public import proofs.«01_k».proof.Proof.OutPoints
public import proofs.«01_k».proof.Proof.Gen.Kernel4Ideal.Value

@[expose] public section

set_option maxRecDepth 16384

noncomputable section

namespace Cert.OutFinal

open Idealize.ShloMosaic Idealize.ShloMosaic.TcCoe Idealize.SL.Sem Cert.Kernel4Ideal Cert.Kernel4Ideal.Gen
open Cert.OutBlocks Cert.OutSpec
open Cert.Kernel4Ideal.Value (flushed9 flushed10 disjoint9 disjoint10)

/-- The grid point of a batch's token. -/
def pointOf (b : Fin 2) (t : Fin 16384) : Fin cfg0.N := ⟨64 * b.val + t.val / 256, lt_of_lt_of_eq (by omega) N_0.symm⟩

/-- A token's place among its point's. -/
def placeOf (t : Fin 16384) : Fin 256 := ⟨t.val % 256, by omega⟩

theorem batch_pointOf (b : Fin 2) (t : Fin 16384) : batch (pointOf b t) = b :=
  Fin.ext (show (64 * b.val + t.val / 256) / 64 = b.val by omega)

theorem tokOf_pointOf (b : Fin 2) (t : Fin 16384) : tokOf (pointOf b t) (placeOf t) = t :=
  Fin.ext (show 256 * ((64 * b.val + t.val / 256) % 64) + t.val % 256 = t.val by omega)

variable (m : (ℓ : Loc nD τ sig) → Buf (Elt Ideal) ℓ) (c : Dev nD)

/-- The sums' array after the last point. -/
def sums : FVec Ideal S2x16384x1024 .f32 := (dats m 0 c).arrAt 9 cfg0.N

/-- The norms' array after the last point. -/
def norms : FVec Ideal S2x16384x8x128 .f32 := (dats m 0 c).arrAt 10 cfg0.N

theorem sums_block (t : Fin cfg0.N) (i : Fin 256) (d : Fin 1024) :
    sums m c (ix3 (batch t) (tokOf t i) d) = (args m c).sum (batch t) (tokOf t i) d := by
  have h := (dats m 0 c).arrAt_emb_eq_flushed 9 disjoint9 t (flush0_9 t) (ix3 (0 : Fin 1) i d)
  have hl : ((cfg0.win 9).blk t).view.emb (ix3 (0 : Fin 1) i d) = (ix3 (batch t) (tokOf t i) d : S2x16384x1024.Idx) :=
    tokens t i d _ (win0_9.index t) (idx9 t) rfl rfl rfl
  rw [hl] at h
  refine h.trans ((cast_eq _ _).trans ?_)
  rw [flushed9]
  exact sums_left m c t i d

theorem norms_block (t : Fin cfg0.N) (i : Fin 256) (n : Fin 8) (d : Fin 128) :
    norms m c (ix4 (batch t) (tokOf t i) n d) = (args m c).hn (batch t) (tokOf t i) (laneOf n d) := by
  obtain ⟨e0, e1, e2, e3⟩ := idx10 t
  have h := (dats m 0 c).arrAt_emb_eq_flushed 10 disjoint10 t (flush0_10 t) (ix4 (0 : Fin 1) i n d)
  have hl : ((cfg0.win 10).blk t).view.emb (ix4 (0 : Fin 1) i n d) = (ix4 (batch t) (tokOf t i) n d : S2x16384x8x128.Idx) := by
    funext a
    apply Fin.ext
    match a with
    | ⟨0, _⟩ => show win0_10.index t (0 : Fin 4) * 1 + 1 * 0 = t.val / 64; omega
    | ⟨1, _⟩ => show win0_10.index t (1 : Fin 4) * 256 + 1 * i.val = 256 * (t.val % 64) + i.val; omega
    | ⟨2, _⟩ => show win0_10.index t (2 : Fin 4) * 8 + 1 * n.val = n.val; omega
    | ⟨3, _⟩ => show win0_10.index t (3 : Fin 4) * 128 + 1 * d.val = d.val; omega
  rw [hl] at h
  refine h.trans ((cast_eq _ _).trans ?_)
  rw [flushed10]
  exact hn_left m c t i n d

/-- The sums, token by token. -/
theorem sums_apply (b : Fin 2) (t : Fin 16384) (d : Fin 1024) : sums m c (ix3 b t d) = (args m c).sum b t d := by
  have h := sums_block m c (pointOf b t) (placeOf t) d
  rwa [batch_pointOf, tokOf_pointOf] at h

/-- The norms, token by token. -/
theorem norms_apply (b : Fin 2) (t : Fin 16384) (n : Fin 8) (d : Fin 128) :
    norms m c (ix4 b t n d) = (args m c).hn b t (laneOf n d) := by
  have h := norms_block m c (pointOf b t) (placeOf t) n d
  rwa [batch_pointOf, tokOf_pointOf] at h

end Cert.OutFinal

end
-- ==== Proof.OutReference.lean ====
/- What the reference program of the gated output computes, at one index. -/
module

public import proofs.«01_k».proof.Proof.Gen.Reference4Ideal.Run
public import proofs.«01_k».proof.Proof.OutSpec

@[expose] public section

set_option maxRecDepth 16384

noncomputable section

namespace Cert.OutReference

open Cert.Reference4Ideal Cert.Reference4Ideal.Gen Cert.Reference4Ideal.Value Cert.OutSpec
open Idealize.ShloMosaic Idealize.ShloMosaic.StableHlo Idealize.SL.Sem

section

variable (o z x : FVec Ideal S2x16384x1024 .f32) (md : FVec Ideal S2x6x1024 .f32) (g : FVec Ideal S128 .f32)
    (w : FVec Ideal S1024x1024 .f32) (nm : FVec Ideal S1024 .f32)

/-- The arguments' arrays, number by number. -/
def arr : Arr where
  o b t d := o (ix3 b t d)
  z b t d := z (ix3 b t d)
  x b t d := x (ix3 b t d)
  mod b j d := md (ix3 b j d)
  gain d := g (ix1 d)
  w d l := w (ix2 d l)
  norm d := nm (ix1 d)

/-- An array's channels as heads. -/
def headsV : FVec Ideal S2x16384x8x128 .f32 := shapeCast _ x shapeCasts_S2x16384x1024_S2x16384x8x128

/-- The heads over their root mean squares, with their gain. -/
def unitV (y : FVec Ideal S2x16384x8x128 .f32) : FVec Ideal S2x16384x8x128 .f32 :=
  mulf (mulf y (broadcastInDim S2x16384x8x128 ![0, 1, 2, 3] bcast_S2x16384x8x1_S2x16384x8x128_0_1_2_3
    (Host.rsqrt (addf (Host.divf (broadcastInDim S2x16384x8x1 ![0, 1, 2] bcast_S2x16384x8_S2x16384x8x1_0_1_2
        (Host.reduceAdd (mulf y y) (constant S_ .f32 0x00000000#32) reducesTo_S2x16384x8x128_S2x16384x8_d3 h_S_))
      (broadcastInDim S2x16384x8x1 ![] bcast_S_S2x16384x8x1 (constant S_ .f32 0x43000000#32)))
      (broadcastInDim S2x16384x8x1 ![] bcast_S_S2x16384x8x1 (constant S_ .f32 0x358637BD#32))))))
    (broadcastInDim S2x16384x8x128 ![0, 1, 2, 3] bcast_S1x1x1x128_S2x16384x8x128_0_1_2_3
      (broadcastInDim S1x1x1x128 ![3] bcast_S128_S1x1x1x128_3 g))

/-- The gates times their logistic. -/
def siluV (y : FVec Ideal S2x16384x8x128 .f32) : FVec Ideal S2x16384x8x128 .f32 :=
  mulf y (Host.divf (broadcastInDim S2x16384x8x128 ![] bcast_S_S2x16384x8x128 (constant S_ .f32 0x3F800000#32))
    (addf (broadcastInDim S2x16384x8x128 ![] bcast_S_S2x16384x8x128 (constant S_ .f32 0x3F800000#32)) (Host.exp (Host.negf y))))

/-- The normalised and gated heads, as channels. -/
def gatedV : FVec Ideal S2x16384x1024 .f32 :=
  shapeCast _ (mulf (unitV g (headsV o)) (siluV (headsV z))) shapeCasts_S2x16384x8x128_S2x16384x1024

/-- The tokens plus the projected heads. -/
def sumV (y : FVec Ideal S2x16384x1024 .f32) : FVec Ideal S2x16384x1024 .f32 :=
  addf x (mulf (broadcastInDim S2x16384x1024 ![0, 1, 2] bcast_S2x1x1024_S2x16384x1024_0_1_2
      (extractStridedSlice S2x1x1024 ![0, 2, 0] md slices_S2x6x1024_S2x1x1024_0_2_0))
    (Host.dotGeneral dot_S2x16384x1024_S1024x1024_S2x16384x1024_2_0_01_1_n_n none y w))

/-- Tokens, normalised and modulated. -/
def hnV : FVec Ideal S2x16384x1024 .f32 :=
  addf (mulf (mulf (mulf x (broadcastInDim S2x16384x1024 ![0, 1, 2] bcast_S2x16384x1_S2x16384x1024_0_1_2
    (Host.rsqrt (addf (Host.divf (broadcastInDim S2x16384x1 ![0, 1] bcast_S2x16384_S2x16384x1_0_1
        (Host.reduceAdd (mulf x x) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 nm)))
    (broadcastInDim S2x16384x1024 ![0, 1, 2] bcast_S2x1x1024_S2x16384x1024_0_1_2
      (addf (broadcastInDim S2x1x1024 ![] bcast_S_S2x1x1024 (constant S_ .f32 0x3F800000#32))
        (extractStridedSlice S2x1x1024 ![0, 4, 0] md slices_S2x6x1024_S2x1x1024_0_4_0))))
    (broadcastInDim S2x16384x1024 ![0, 1, 2] bcast_S2x1x1024_S2x16384x1024_0_1_2
      (extractStridedSlice S2x1x1024 ![0, 3, 0] md slices_S2x6x1024_S2x1x1024_0_3_0))

variable (b : Fin 2) (t : Fin 16384)

theorem heads_apply (h : Fin 8) (d : Fin 128) : headsV x (ix4 b t h d) = x (ix3 b t (laneOf h d)) := by
  unfold headsV
  pointwise []
  congr 2
  apply Fin.ext
  show h.val * 128 + d.val = 128 * h.val + d.val
  omega

theorem unit_apply (y : FVec Ideal S2x16384x8x128 .f32) (h : Fin 8) (d : Fin 128) : unitV g y (ix4 b t h d) =
    y (ix4 b t h d) * Ideal.rsqrt (Ideal.div (∑ e, y (ix4 b t h e) * y (ix4 b t h e)) (InSpec.word 0x43000000#32) +
      InSpec.word 0x358637BD#32) * g (ix1 d) := by
  unfold unitV
  pointwise []

theorem silu_apply (y : FVec Ideal S2x16384x8x128 .f32) (h : Fin 8) (d : Fin 128) :
    siluV y (ix4 b t h d) = InSpec.silu (y (ix4 b t h d)) := by
  unfold siluV InSpec.silu InSpec.sigmoid
  pointwise []

theorem gated_apply (l : Fin 1024) : gatedV o z g (ix3 b t l) = (arr o z x md g w nm).gated b t l := by
  have hs (u v : FVec Ideal S2x16384x8x128 .f32) (h : Fin 8) (d : Fin 128) : shapeCast S2x16384x1024 (mulf u v)
      shapeCasts_S2x16384x8x128_S2x16384x1024 (ix3 b t (laneOf h d)) = u (ix4 b t h d) * v (ix4 b t h d) := by
    unfold laneOf
    pointwise []
  have hl : l = laneOf (headOf l) (inHead l) := Fin.ext (by show l.val = 128 * (l.val / 128) + l.val % 128; omega)
  unfold gatedV
  rw [hl, hs, unit_apply, silu_apply, ← hl]
  simp only [heads_apply]
  rfl

theorem sum_apply (d : Fin 1024) : sumV x md w (gatedV o z g) (ix3 b t d) = (arr o z x md g w nm).sum b t d := by
  have h (y : FVec Ideal S2x16384x1024 .f32) : sumV x md w y (ix3 b t d) =
      x (ix3 b t d) + md (ix3 b (2 : Fin 6) d) * ∑ l : Fin 1024, y (ix3 b t l) * w (ix2 l d) := by
    unfold sumV
    pointwise []
  rw [h]
  simp only [gated_apply o z x md g w nm]
  rfl

theorem hn_apply (d : Fin 1024) : hnV x md nm (ix3 b t d) = InSpec.normed (fun e => x (ix3 b t e)) (fun e => nm (ix1 e))
    (fun e => md (ix3 b (4 : Fin 6) e)) (fun e => md (ix3 b (3 : Fin 6) e)) d := by
  unfold hnV InSpec.normed
  pointwise []

end

section

variable (m : (ℓ : Loc nD τ sig) → Buf (Elt Ideal) ℓ) (c : Dev nD)

/-- The arguments' numbers. -/
def args : Arr := arr (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))

/-- The tokens plus the projected heads, of the arguments. -/
def sumM : FVec Ideal S2x16384x1024 .f32 := sumV (m ((c.tc : Thread nD τ).loc main_arg2)) (m ((c.tc : Thread nD τ).loc main_arg3))
  (m ((c.tc : Thread nD τ).loc main_arg5)) (gatedV (m ((c.tc : Thread nD τ).loc main_arg0))
    (m ((c.tc : Thread nD τ).loc main_arg1)) (m ((c.tc : Thread nD τ).loc main_arg4)))

theorem out1_eq : res_out1 m c = headsV (hnV (sumM m c) (m ((c.tc : Thread nD τ).loc main_arg3))
  (m ((c.tc : Thread nD τ).loc main_arg6))) := rfl

theorem sumM_apply (b : Fin 2) (t : Fin 16384) (d : Fin 1024) : sumM m c (ix3 b t d) = (args m c).sum b t d :=
  sum_apply ..

theorem out1_apply (b : Fin 2) (t : Fin 16384) (n : Fin 8) (d : Fin 128) :
    res_out1 m c (ix4 b t n d) = (args m c).hn b t (laneOf n d) := by
  rw [out1_eq, heads_apply, hn_apply]
  simp only [sumM_apply]
  rfl

end

end Cert.OutReference

end
-- ==== Proof.lean ====
/- The proof of the claims of four calls of the layer: the gated delta rule over chunks (`Kernel`), the projections,
   convolution and gates before it (`Kernel2`), the experts' blocks (`Kernel3`), and the gated output with its projection
   and the norm after it (`Kernel4`). Each call keeps its arguments and
   leaves every semaphore at zero, so do the idealized call and its reference; idealizing rewrote nothing; and from
   agreeing arguments (real ones for the first two) the idealized call and its reference end with the same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.Gen.KernelIdeal.Value
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_routed
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Final
public import proofs.«01_k».proof.Proof.InFinal
public import proofs.«01_k».proof.Proof.MoeFinal
public import proofs.«01_k».proof.Proof.OutFinal
public import proofs.«01_k».proof.Proof.OutReference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Final

/-- The reference runs, keeps its arguments and leaves every semaphore at zero. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- From agreeing arguments, the kernel's real numbers are the reference's. -/
theorem reference_given (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) {A : Ref.Args} (H : Cert.Blocks.Given m c A)
    (e0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) =
      m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) =
      m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) =
      m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) =
      m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) =
      m ((c.tc : Thread Cert.KernelIdeal.nD Cert.KernelIdeal.τ).loc Cert.KernelIdeal.main_arg5)) :
    Ref.Given m' c A where
  q b h t d := (congrFun e0 _).trans (H.q b h t d)
  k b h t d := (congrFun e1 _).trans (H.k b h t d)
  v b h t d := (congrFun e2 _).trans (H.v b h t d)
  g b h t := (congrFun e3 _).trans (H.g b h t)
  b b h t := (congrFun e4 _).trans (H.b b h t)
  s b h d e := (congrFun e5 _).trans (H.s b h d e)

/-- Every lane is a column of a head. -/
theorem exists_lane (l : Fin 1024) : ∃ h d, l = lane h d :=
  ⟨⟨l.val / 128, by omega⟩, ⟨l.val % 128, by omega⟩, Fin.ext (by show l.val = l.val / 128 * 128 + l.val % 128; omega)⟩

/-- Two arrays of tokens and lanes that agree at every token and head's column are one. -/
theorem tokens_ext {x y : Cert.KernelIdeal.S2x16384x1024.Idx → EReal}
    (H : ∀ (b : Fin 2) (h : Fin 8) (t : Fin 16384) (e : Fin 128), x (ix3 b t (lane h e)) = y (ix3 b t (lane h e))) :
    x = y := by
  funext i
  obtain ⟨b, t, l, rfl⟩ : ∃ b t l, i = ix3 b t l := ⟨_, _, _, eq_ix3 i⟩
  obtain ⟨h, e, rfl⟩ := exists_lane l
  exact H b h t e

/-- Two arrays of states that agree at every batch, head, row and column are one. -/
theorem states_ext {x y : Cert.KernelIdeal.S2x8x128x128.Idx → EReal}
    (H : ∀ (b : Fin 2) (h : Fin 8) (d e : Fin 128), x (ix4 b h d e) = y (ix4 b h d e)) : x = y := by
  funext i
  obtain ⟨b, h, d, e, rfl⟩ : ∃ b h d e, i = ix4 b h d e := ⟨_, _, _, _, eq_ix4 i⟩
  exact H b h d e

/-- From agreeing real arguments the kernel and the reference end with the same outputs and the same last states. -/
theorem algebraic : Cert.algebraic_KernelIdeal_ReferenceIdeal_pre_finite := fun m g m' g' hpre hargs => by
  have H : ∀ c, Cert.Blocks.Given m c (args m c) := fun c => given hpre
  have H' : ∀ c : Dev Cert.KernelIdeal.nD, Ref.Given m' c (args m c) := fun c => by
    obtain ⟨e0, e1, e2, e3, e4, e5⟩ := hargs c
    exact reference_given m m' c (H c) e0 e1 e2 e3 e4 e5
  refine ⟨fun c => Cert.KernelIdeal.Value.G6 m c, fun c => Cert.KernelIdeal.Value.G7 m c,
    Cert.KernelIdeal.Value.run m g, ?_⟩
  refine (θ_run Cert.ReferenceIdeal.defs _ _).mono (fun r h c => ?_) (Cert.ReferenceIdeal.Value.run m' g')
  refine ⟨(h c).1.trans ?_, (h c).2.1.trans ?_, (h c).2.2⟩
  · exact tokens_ext fun b h t e => (Ref.Given.out m' c (H' c) b h t e).trans (out_eq (H c) b h t e).symm
  · exact states_ext fun b h d e => (Ref.Given.state m' c (H' c) b h d e).trans (state_eq (H c) b h d e).symm

/-- The second reference runs, keeps its arguments and leaves every semaphore at zero. -/
theorem reference2_frame : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run m ρ)

/-- Every lane is a head's column, heads being 128 lanes each. -/
theorem exists_column (l : Fin 1024) : ∃ (h : Fin 8) (d : Fin 128), l = (⟨128 * h.val + d.val, by omega⟩ : Fin 1024) :=
  ⟨⟨l.val / 128, by omega⟩, ⟨l.val % 128, by omega⟩, Fin.ext (by show l.val = 128 * (l.val / 128) + l.val % 128; omega)⟩

/-- Two arrays of three axes that agree at every index are one. -/
theorem ext3 {a b c : ℕ} {x y : (⟨3, ![a, b, c]⟩ : Shape).Idx → EReal}
    (H : ∀ (i : Fin a) (j : Fin b) (k : Fin c), x (ix3 i j k) = y (ix3 i j k)) : x = y := by
  funext i
  rw [eq_ix3 i]
  exact H _ _ _

/-- Two arrays of four axes that agree at every index are one. -/
theorem ext4 {a b c d : ℕ} {x y : (⟨4, ![a, b, c, d]⟩ : Shape).Idx → EReal}
    (H : ∀ (i : Fin a) (j : Fin b) (k : Fin c) (l : Fin d), x (ix4 i j k l) = y (ix4 i j k l)) : x = y := by
  funext i
  rw [eq_ix4 i]
  exact H _ _ _ _

/-- From agreeing real arguments the second call and its reference end with the same queries, keys, values, output
    gates, packed log-decays and betas, and the same last channels before the convolution. -/
theorem algebraic2 : Cert.algebraic_Kernel2Ideal_Reference2Ideal_pre_finite2 := fun m g m' g' hpre hargs => by
  have R : ∀ c, (Cert.InBlocks.args m c).Real := fun c => Cert.InFinite.given hpre c
  have E : ∀ c : Dev Cert.Kernel2Ideal.nD, Cert.InReference.args m' c = Cert.InBlocks.args m c := fun c => by
    obtain ⟨e0, e1, e2, e3, e4, e5, e6, e7⟩ := hargs c
    unfold Cert.InReference.args
    rw [e0, e1, e2, e3, e4, e5, e6, e7]
    rfl
  refine ⟨fun c => Cert.Kernel2Ideal.Value.G10 m c, fun c => Cert.Kernel2Ideal.Value.G11 m c,
    fun c => Cert.Kernel2Ideal.Value.G12 m c, fun c => Cert.Kernel2Ideal.Value.G13 m c,
    fun c => Cert.Kernel2Ideal.Value.G14 m c, fun c => Cert.Kernel2Ideal.Value.G15 m c,
    fun c => Cert.Kernel2Ideal.Value.G16 m c, Cert.Kernel2Ideal.Value.run m g, ?_⟩
  refine (θ_run Cert.Reference2Ideal.defs _ _).mono (fun r h c => ?_) (Cert.Reference2Ideal.Value.run m' g')
  obtain ⟨hq, hk, hv, hz, hc, hr, hh, hk'⟩ := h c
  refine ⟨hq.trans ?_, hk.trans ?_, hv.trans ?_, hz.trans ?_, hc.trans ?_, hr.trans ?_, hh.trans ?_, hk'⟩
  · refine ext3 fun b t l => ?_
    obtain ⟨h, d, rfl⟩ := exists_column l
    exact (Cert.InReference.q_apply m' c b t h d).trans (by rw [E c]; exact (Cert.InFinal.q_eq b t h d).symm)
  · refine ext3 fun b t l => ?_
    obtain ⟨h, d, rfl⟩ := exists_column l
    exact (Cert.InReference.k_apply m' c b t h d).trans (by rw [E c]; exact (Cert.InFinal.k_eq b t h d).symm)
  · exact ext3 fun b t l => (Cert.InReference.v_apply m' c b t l).trans (by rw [E c]; exact (Cert.InFinal.v_eq b t l).symm)
  · exact ext3 fun b t l => (Cert.InReference.z_apply m' c b t l).trans (by rw [E c]; exact (Cert.InFinal.z_eq b t l).symm)
  · exact ext3 fun b t l => (Cert.InReference.gbc_apply m' c b t l).trans
      (by rw [E c]; exact (Cert.InFinal.columns_eq (R c) b t l).symm)
  · exact ext4 fun b n l r => (Cert.InReference.gbr_apply m' c b n l r).trans
      (by rw [E c]; exact (Cert.InFinal.rows_eq (R c) b n l r).symm)
  · exact ext3 fun b j l => (Cert.InReference.hist_apply m' c b j l).trans
      (by rw [E c]; exact (Cert.InFinal.hist_eq b j l).symm)

/-- The fourth reference runs, keeps its arguments and leaves every semaphore at zero. -/
theorem reference4_frame : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

/-- From agreeing arguments the fourth call and its reference end with the same sums and the same norms of them. -/
theorem algebraic4 : Cert.algebraic_Kernel4Ideal_Reference4Ideal := fun m g m' g' _ hargs => by
  have E : ∀ c : Dev Cert.Kernel4Ideal.nD, Cert.OutReference.args m' c = Cert.OutBlocks.args m c := fun c => by
    obtain ⟨e0, e1, e2, e3, e4, e5, e6, -⟩ := hargs c
    unfold Cert.OutReference.args
    rw [e0, e1, e2, e3, e4, e5, e6]
    rfl
  refine ⟨fun c => Cert.OutFinal.sums m c, fun c => Cert.OutFinal.norms m c,
    (θ_run Cert.Kernel4Ideal.defs _ _).mono (fun r h c => ?_) (Cert.Kernel4Ideal.Value.run_blocks m g), ?_⟩
  · obtain ⟨h9, h10, -, -, hk⟩ := h c
    exact ⟨h9, h10, hk⟩
  refine (θ_run Cert.Reference4Ideal.defs _ _).mono (fun r h c => ?_) (Cert.Reference4Ideal.Value.run m' g')
  obtain ⟨hs, hn, hk⟩ := h c
  refine ⟨hs.trans ?_, hn.trans ?_, hk⟩
  · exact ext3 fun b t d => (Cert.OutReference.sumM_apply m' c b t d).trans
      (by rw [E c]; exact (Cert.OutFinal.sums_apply m c b t d).symm)
  · exact ext4 fun b t n d => (Cert.OutReference.out1_apply m' c b t n d).trans
      (by rw [E c]; exact (Cert.OutFinal.norms_apply m c b t n d).symm)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_finite2.Gen.facts, Cert.Pre_routed.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    Cert.MoeFinal.kernel_frame, Cert.MoeFinal.kernel_ideal_frame, Cert.MoeFinal.reference_frame,
    fun m ρ _ => Cert.MoeFinal.reference_frame m ρ trivial,
    fun m ρ _ => Cert.Kernel4.Gen.frame m ρ, fun m ρ _ => Cert.Kernel4Ideal.Gen.frame m ρ, reference4_frame,
    trivial, algebraic, trivial, algebraic2, trivial, Cert.MoeFinal.algebraic, trivial, algebraic4⟩

end Cert.Proof

end
